-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_y_ssm_above_neg_inf [hPre_y_ssm_above_neg_inf : Cert.Pre_y_ssm_above_neg_inf.Facts] (m : (ℓ : Loc Cert.MlpIdeal.nD Cert.MlpIdeal.τ Cert.MlpIdeal.sig) → Buf (Elt Ideal) ℓ) : Prop :=
  ∀ c : Dev Cert.MlpIdeal.nD,
    (Cert.Pre_y_ssm_above_neg_inf.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_y_ssm_above_neg_inf [hPre_y_ssm_above_neg_inf : Cert.Pre_y_ssm_above_neg_inf.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_y_ssm_above_neg_inf.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpIdeal_pre_y_ssm_above_neg_inf [hMlpIdeal : Cert.MlpIdeal.Facts] [hPre_y_ssm_above_neg_inf : Cert.Pre_y_ssm_above_neg_inf.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_y_ssm_above_neg_inf m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_MlpRefIdeal_pre_y_ssm_above_neg_inf [hMlpRefIdeal : Cert.MlpRefIdeal.Facts] [hPre_y_ssm_above_neg_inf : Cert.Pre_y_ssm_above_neg_inf.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_y_ssm_above_neg_inf m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def preserves_Mlp_MlpIdeal : Prop :=
  IdealRules.named_const.Statement Cert.MlpIdeal.κ "gelu_kc" .f32 0x3D122279#32 ((80338380498831 / 2251799813685248 : ℝ) : EReal)

def algebraic_MlpIdeal_MlpRefIdeal_pre_y_ssm_above_neg_inf [hMlpIdeal : Cert.MlpIdeal.Facts] [hMlpRefIdeal : Cert.MlpRefIdeal.Facts] [hPre_y_ssm_above_neg_inf : Cert.Pre_y_ssm_above_neg_inf.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_y_ssm_above_neg_inf m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v21)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v21) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v103) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v46) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v4)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v4) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v22) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def Claim : Prop :=
  ∃ (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hScan : Cert.Scan.Facts) (hScanIdeal : Cert.ScanIdeal.Facts) (hScanRefIdeal : Cert.ScanRefIdeal.Facts) (hPre_y_ssm_above_neg_inf : Cert.Pre_y_ssm_above_neg_inf.Facts),
    quiescent_Mlp (hMlp := hMlp)
    ∧ quiescent_MlpIdeal (hMlpIdeal := hMlpIdeal)
    ∧ quiescent_MlpIdeal_pre_y_ssm_above_neg_inf (hMlpIdeal := hMlpIdeal) (hPre_y_ssm_above_neg_inf := hPre_y_ssm_above_neg_inf)
    ∧ quiescent_MlpRefIdeal (hMlpRefIdeal := hMlpRefIdeal)
    ∧ quiescent_MlpRefIdeal_pre_y_ssm_above_neg_inf (hMlpRefIdeal := hMlpRefIdeal) (hPre_y_ssm_above_neg_inf := hPre_y_ssm_above_neg_inf)
    ∧ quiescent_Inproj (hInproj := hInproj)
    ∧ quiescent_InprojIdeal (hInprojIdeal := hInprojIdeal)
    ∧ quiescent_InprojRefIdeal (hInprojRefIdeal := hInprojRefIdeal)
    ∧ quiescent_Scan (hScan := hScan)
    ∧ quiescent_ScanIdeal (hScanIdeal := hScanIdeal)
    ∧ quiescent_ScanRefIdeal (hScanRefIdeal := hScanRefIdeal)
    ∧ preserves_Mlp_MlpIdeal
    ∧ algebraic_MlpIdeal_MlpRefIdeal_pre_y_ssm_above_neg_inf (hMlpIdeal := hMlpIdeal) (hMlpRefIdeal := hMlpRefIdeal) (hPre_y_ssm_above_neg_inf := hPre_y_ssm_above_neg_inf)
    ∧ preserves_Inproj_InprojIdeal
    ∧ algebraic_InprojIdeal_InprojRefIdeal (hInprojIdeal := hInprojIdeal) (hInprojRefIdeal := hInprojRefIdeal)
    ∧ preserves_Scan_ScanIdeal
    ∧ algebraic_ScanIdeal_ScanRefIdeal (hScanIdeal := hScanIdeal) (hScanRefIdeal := hScanRefIdeal)
-- ==== Pre_y_ssm_above_neg_inf.lean ====
abbrev S8x8192x1024 : Shape := ⟨3, ![8, 8192, 1024]⟩
abbrev S8x8192x512 : Shape := ⟨3, ![8, 8192, 512]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel

variable [Facts]

def fn {F : FTy → Type} [FloatOps F] (main_arg0 : FVec F S8x8192x1024 .f32) (main_arg1 : FVec F S8x8192x512 .f32) (main_arg2 : FVec F S8x8192x512 .f32) (main_arg3 : FVec F S1x512x512 .f32) (main_arg4 : FVec F S1x512 .f32) (main_arg5 : FVec F S1x512 .f32) (main_arg6 : FVec F S1x1024x1024 .f32) (main_arg7 : FVec F S1x1024 .f32) (main_arg8 : FVec F S1x1024 .f32) (main_arg9 : FVec F S1x1024x4096 .f32) (main_arg10 : FVec F S1x4096x1024 .f32) (main_arg11 : FVec F S1x1024 .f32) : IVec S_ 1 :=
  let main_cst : FVec F S_ .f32 := constant S_ .f32 0xFF800000#32
  let main_v0 : FVec F S8x8192x512 .f32 := broadcastInDim S8x8192x512 ![] bcast_S_S8x8192x512 main_cst
  let main_v1 : IVec S8x8192x512 1 := cmpf .ogt main_arg1 main_v0
  let main_c : IVec S_ 1 := constantI S_ 1 1#1
  let main_v2 : IVec S_ 1 := (fun x v => Host.reduce IntOp.andi x v reducesTo_S8x8192x512_S_d0_1_2 h_S_) main_v1 main_c
  main_v2
-- ==== Mlp.lean ====
abbrev S8x8192x1024 : Shape := ⟨3, ![8, 8192, 1024]⟩
abbrev S8x8192x512 : Shape := ⟨3, ![8, 8192, 512]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S65536x512 : Shape := ⟨2, ![65536, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x4096 : Shape := ⟨2, ![256, 4096]⟩

abbrev nBuf : Space → Nat
  | .hbm => 34
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1x512x512, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S512x512, .f32⟩
  | .hbm, ⟨13, _⟩ => ⟨S512, .f32⟩
  | .hbm, ⟨14, _⟩ => ⟨S512, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024x4096, .f32⟩
  | .hbm, ⟨19, _⟩ => ⟨S4096x1024, .f32⟩
  | .hbm, ⟨20, _⟩ => ⟨S1024, .f32⟩
  | .hbm, ⟨21, _⟩ => ⟨S65536x1024, .f32⟩
  | .hbm, ⟨22, _⟩ => ⟨S65536x512, .f32⟩
  | .hbm, ⟨23, _⟩ => ⟨S65536x512, .f32⟩
  | .hbm, ⟨24, _⟩ => ⟨S512x512, .bf16⟩
  | .hbm, ⟨25, _⟩ => ⟨S1x512, .f32⟩
  | .hbm, ⟨26, _⟩ => ⟨S1x512, .f32⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1024x4096, .bf16⟩
  | .hbm, ⟨31, _⟩ => ⟨S4096x1024, .bf16⟩
  | .hbm, ⟨32, _⟩ => ⟨S1x1024, .f32⟩
  | .hbm, ⟨33, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlpIdeal.lean ====
variable {F : FTy → Type} [FloatOps F] [Named F]
def κ : String → Option EReal := fun
  | "gelu_kc" => some ((80338380498831 / 2251799813685248 : ℝ) : EReal)
  | _ => none
-- ==== MlpRefIdeal.lean ====
abbrev S8x8192x1024 : Shape := ⟨3, ![8, 8192, 1024]⟩
abbrev S8x8192x512 : Shape := ⟨3, ![8, 8192, 512]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S512x512 : Shape := ⟨2, ![512, 512]⟩
abbrev S512 : Shape := ⟨1, ![512]⟩
abbrev S8x8192 : Shape := ⟨2, ![8, 8192]⟩
abbrev S8x8192x1 : Shape := ⟨3, ![8, 8192, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x4096 : Shape := ⟨2, ![1024, 4096]⟩
abbrev S8x8192x4096 : Shape := ⟨3, ![8, 8192, 4096]⟩
abbrev S4096x1024 : Shape := ⟨2, ![4096, 1024]⟩
abbrev S65536x1024 : Shape := ⟨2, ![65536, 1024]⟩

abbrev nBuf : Space → Nat
  | .hbm => 139
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192x512, .f32⟩
  | 3 => ⟨S1x512x512, .f32⟩
  | 4 => ⟨S1x512, .f32⟩
  | 5 => ⟨S1x512, .f32⟩
  | 6 => ⟨S1x1024x1024, .f32⟩
  | 7 => ⟨S1x1024, .f32⟩
  | 8 => ⟨S1x1024, .f32⟩
  | 9 => ⟨S1x1024x4096, .f32⟩
  | 10 => ⟨S1x4096x1024, .f32⟩
  | 11 => ⟨S1x1024, .f32⟩
  | 12 => ⟨S8x8192x512, .f32⟩
  | 13 => ⟨S8x8192x512, .f32⟩
  | 14 => ⟨S_, .f32⟩
  | 15 => ⟨S8x8192x512, .f32⟩
  | 16 => ⟨S8x8192x512, .f32⟩
  | 17 => ⟨S8x8192x512, .f32⟩
  | 18 => ⟨S_, .f32⟩
  | 19 => ⟨S8x8192x512, .f32⟩
  | 20 => ⟨S8x8192x512, .f32⟩
  | 21 => ⟨S8x8192x512, .f32⟩
  | 22 => ⟨S_, .f32⟩
  | 23 => ⟨S8x8192x512, .f32⟩
  | 24 => ⟨S8x8192x512, .f32⟩
  | 25 => ⟨S_, .f32⟩
  | 26 => ⟨S8x8192x512, .f32⟩
  | 27 => ⟨S8x8192x512, .f32⟩
  | 28 => ⟨S8x8192x512, .f32⟩
  | 29 => ⟨S512x512, .f32⟩
  | 30 => ⟨S8x8192x512, .f32⟩
  | 31 => ⟨S8x8192x512, .f32⟩
  | 32 => ⟨S8x8192x512, .f32⟩
  | 33 => ⟨S_, .f32⟩
  | 34 => ⟨S8x8192x512, .f32⟩
  | 35 => ⟨S8x8192x512, .f32⟩
  | 36 => ⟨S_, .f32⟩
  | 37 => ⟨S8x8192x512, .f32⟩
  | 38 => ⟨S8x8192x512, .f32⟩
  | 39 => ⟨S8x8192x512, .f32⟩
  | 40 => ⟨S512, .f32⟩
  | 41 => ⟨S8x8192x512, .f32⟩
  | 42 => ⟨S_, .f32⟩
  | 43 => ⟨S8x8192, .f32⟩
  | 44 => ⟨S8x8192x1, .f32⟩
  | 45 => ⟨S_, .f32⟩
  | 46 => ⟨S8x8192x1, .f32⟩
  | 47 => ⟨S8x8192x1, .f32⟩
  | 48 => ⟨S_, .f32⟩
  | 49 => ⟨S8x8192x1, .f32⟩
  | 50 => ⟨S8x8192x1, .f32⟩
  | 51 => ⟨S8x8192x1, .f32⟩
  | 52 => ⟨S8x8192x512, .f32⟩
  | 53 => ⟨S8x8192x512, .f32⟩
  | 54 => ⟨S1x1x512, .f32⟩
  | 55 => ⟨S8x8192x512, .f32⟩
  | 56 => ⟨S8x8192x512, .f32⟩
  | 57 => ⟨S512, .f32⟩
  | 58 => ⟨S8x8192x512, .f32⟩
  | 59 => ⟨S_, .f32⟩
  | 60 => ⟨S8x8192, .f32⟩
  | 61 => ⟨S8x8192x1, .f32⟩
  | 62 => ⟨S_, .f32⟩
  | 63 => ⟨S8x8192x1, .f32⟩
  | 64 => ⟨S8x8192x1, .f32⟩
  | 65 => ⟨S_, .f32⟩
  | 66 => ⟨S8x8192x1, .f32⟩
  | 67 => ⟨S8x8192x1, .f32⟩
  | 68 => ⟨S8x8192x1, .f32⟩
  | 69 => ⟨S8x8192x512, .f32⟩
  | 70 => ⟨S8x8192x512, .f32⟩
  | 71 => ⟨S1x1x512, .f32⟩
  | 72 => ⟨S8x8192x512, .f32⟩
  | 73 => ⟨S8x8192x512, .f32⟩
  | 74 => ⟨S8x8192x1024, .f32⟩
  | 75 => ⟨S1024x1024, .f32⟩
  | 76 => ⟨S8x8192x1024, .f32⟩
  | 77 => ⟨S1024, .f32⟩
  | 78 => ⟨S8x8192x1024, .f32⟩
  | 79 => ⟨S_, .f32⟩
  | 80 => ⟨S8x8192, .f32⟩
  | 81 => ⟨S8x8192x1, .f32⟩
  | 82 => ⟨S_, .f32⟩
  | 83 => ⟨S8x8192x1, .f32⟩
  | 84 => ⟨S8x8192x1, .f32⟩
  | 85 => ⟨S_, .f32⟩
  | 86 => ⟨S8x8192x1, .f32⟩
  | 87 => ⟨S8x8192x1, .f32⟩
  | 88 => ⟨S8x8192x1, .f32⟩
  | 89 => ⟨S8x8192x1024, .f32⟩
  | 90 => ⟨S8x8192x1024, .f32⟩
  | 91 => ⟨S1x1x1024, .f32⟩
  | 92 => ⟨S8x8192x1024, .f32⟩
  | 93 => ⟨S8x8192x1024, .f32⟩
  | 94 => ⟨S8x8192x1024, .f32⟩
  | 95 => ⟨S1024, .f32⟩
  | 96 => ⟨S8x8192x1024, .f32⟩
  | 97 => ⟨S_, .f32⟩
  | 98 => ⟨S8x8192, .f32⟩
  | 99 => ⟨S8x8192x1, .f32⟩
  | 100 => ⟨S_, .f32⟩
  | 101 => ⟨S8x8192x1, .f32⟩
  | 102 => ⟨S8x8192x1, .f32⟩
  | 103 => ⟨S_, .f32⟩
  | 104 => ⟨S8x8192x1, .f32⟩
  | 105 => ⟨S8x8192x1, .f32⟩
  | 106 => ⟨S8x8192x1, .f32⟩
  | 107 => ⟨S8x8192x1024, .f32⟩
  | 108 => ⟨S8x8192x1024, .f32⟩
  | 109 => ⟨S1x1x1024, .f32⟩
  | 110 => ⟨S8x8192x1024, .f32⟩
  | 111 => ⟨S8x8192x1024, .f32⟩
  | 112 => ⟨S1024x4096, .f32⟩
  | 113 => ⟨S8x8192x4096, .f32⟩
  | 114 => ⟨S_, .f32⟩
  | 115 => ⟨S8x8192x4096, .f32⟩
  | 116 => ⟨S8x8192x4096, .f32⟩
  | 117 => ⟨S8x8192x4096, .f32⟩
  | 118 => ⟨S4096x1024, .f32⟩
  | 119 => ⟨S8x8192x1024, .f32⟩
  | 120 => ⟨S1024, .f32⟩
  | 121 => ⟨S8x8192x1024, .f32⟩
  | 122 => ⟨S_, .f32⟩
  | 123 => ⟨S8x8192, .f32⟩
  | 124 => ⟨S8x8192x1, .f32⟩
  | 125 => ⟨S_, .f32⟩
  | 126 => ⟨S8x8192x1, .f32⟩
  | 127 => ⟨S8x8192x1, .f32⟩
  | _ => ⟨S8x8192x1024, .f32⟩

abbrev hbmTy0_1 (i : Nat) : BufTy := match i % 128 with
  | 0 => ⟨S_, .f32⟩
  | 1 => ⟨S8x8192x1, .f32⟩
  | 2 => ⟨S8x8192x1, .f32⟩
  | 3 => ⟨S8x8192x1, .f32⟩
  | 4 => ⟨S8x8192x1024, .f32⟩
  | 5 => ⟨S8x8192x1024, .f32⟩
  | 6 => ⟨S1x1x1024, .f32⟩
  | 7 => ⟨S8x8192x1024, .f32⟩
  | 8 => ⟨S8x8192x1024, .f32⟩
  | 9 => ⟨S8x8192x1024, .f32⟩
  | 10 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call0_cst : Ref sig .tc := ⟨.hbm, 114, rfl⟩
abbrev main_call0_v0 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_cst_18 : Ref sig .tc := ⟨.hbm, 125, rfl⟩
abbrev main_v92 : Ref sig .tc := ⟨.hbm, 126, rfl⟩
abbrev main_v93 : Ref sig .tc := ⟨.hbm, 127, rfl⟩
abbrev main_cst_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Inproj.lean ====
abbrev S8x8192x1024 : Shape := ⟨3, ![8, 8192, 1024]⟩
abbrev S1x1024 : Shape := ⟨2, ![1, 1024]⟩
abbrev S1x1024x2048 : Shape := ⟨3, ![1, 1024, 2048]⟩
abbrev S1x3x512 : Shape := ⟨3, ![1, 3, 512]⟩
abbrev S1024 : Shape := ⟨1, ![1024]⟩
abbrev S1024x2048 : Shape := ⟨2, ![1024, 2048]⟩
abbrev S3x512 : Shape := ⟨2, ![3, 512]⟩
abbrev S4x65536x128 : Shape := ⟨3, ![4, 65536, 128]⟩
abbrev S8x8192x512 : Shape := ⟨3, ![8, 8192, 512]⟩
abbrev S8x256x1024 : Shape := ⟨3, ![8, 256, 1024]⟩
abbrev S4x2048x128 : Shape := ⟨3, ![4, 2048, 128]⟩
abbrev S8x256x512 : Shape := ⟨3, ![8, 256, 512]⟩
abbrev S8x8x512 : Shape := ⟨3, ![8, 8, 512]⟩
abbrev S2x512x1536 : Shape := ⟨3, ![2, 512, 1536]⟩
abbrev S2x256x1024 : Shape := ⟨3, ![2, 256, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S256x128 : Shape := ⟨2, ![256, 128]⟩
abbrev S1x256x128 : Shape := ⟨3, ![1, 256, 128]⟩
abbrev S512x1536 : Shape := ⟨2, ![512, 1536]⟩
abbrev S1x512x1536 : Shape := ⟨3, ![1, 512, 1536]⟩
abbrev S512x512 : Shape := ⟨2, ![512, 512]⟩
abbrev S2x256x512 : Shape := ⟨3, ![2, 256, 512]⟩
abbrev S2x8x512 : Shape := ⟨3, ![2, 8, 512]⟩
abbrev S1x512 : Shape := ⟨2, ![1, 512]⟩
abbrev S2x248x512 : Shape := ⟨3, ![2, 248, 512]⟩

abbrev nBuf : Space → Nat
  | .hbm => 11
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2048, .f32⟩
  | .hbm, ⟨3, _⟩ => ⟨S1x3x512, .f32⟩
  | .hbm, ⟨4, _⟩ => ⟨S1024, .f32⟩
  | .hbm, ⟨5, _⟩ => ⟨S1024x2048, .f32⟩
  | .hbm, ⟨6, _⟩ => ⟨S3x512, .f32⟩
  | .hbm, ⟨7, _⟩ => ⟨S1x1024, .f32⟩
  | .hbm, ⟨8, _⟩ => ⟨S1024x2048, .bf16⟩
  | .hbm, ⟨9, _⟩ => ⟨S4x65536x128, .f32⟩
  | .hbm, ⟨10, _⟩ => ⟨S8x8192x512, .f32⟩
  | .local _ .vmem, ⟨0, _⟩ => ⟨S8x256x1024, .f32⟩
  | .local _ .vmem, ⟨1, _⟩ => ⟨S8x256x1024, .f32⟩
  | .local _ .vmem, ⟨2, _⟩ => ⟨S1x1024, .f32⟩
  | .local _ .vmem, ⟨3, _⟩ => ⟨S1024x2048, .bf16⟩
  | .local _ .vmem, ⟨4, _⟩ => ⟨S3x512, .f32⟩
  | .local _ .vmem, ⟨5, _⟩ => ⟨S4x2048x128, .f32⟩
  | .local _ .vmem, ⟨6, _⟩ => ⟨S4x2048x128, .f32⟩
  | .local _ .vmem, ⟨7, _⟩ => ⟨S8x256x512, .f32⟩
  | .local _ .vmem, ⟨8, _⟩ => ⟨S8x256x512, .f32⟩
  | .local _ .vmem, ⟨9, _⟩ => ⟨S8x8x512, .f32⟩
  | .local _ .vmem, ⟨10, _⟩ => ⟨S2x512x1536, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S8x8192x1024 : Shape := ⟨3, ![8, 8192, 1024]⟩
abbrev S1x1024 : Shape := ⟨2, ![1, 1024]⟩
abbrev S1x1024x2048 : Shape := ⟨3, ![1, 1024, 2048]⟩
abbrev S1x3x512 : Shape := ⟨3, ![1, 3, 512]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x2048 : Shape := ⟨2, ![1024, 2048]⟩
abbrev S8x8192x2048 : Shape := ⟨3, ![8, 8192, 2048]⟩
abbrev S8x8192x512 : Shape := ⟨3, ![8, 8192, 512]⟩
abbrev S3x512 : Shape := ⟨2, ![3, 512]⟩
abbrev S8x8194x512 : Shape := ⟨3, ![8, 8194, 512]⟩
abbrev S1x512 : Shape := ⟨2, ![1, 512]⟩
abbrev S512 : Shape := ⟨1, ![512]⟩
abbrev S1x1x512 : Shape := ⟨3, ![1, 1, 512]⟩
abbrev S8x8192x4x128 : Shape := ⟨4, ![8, 8192, 4, 128]⟩
abbrev S4x8192x8x128 : Shape := ⟨4, ![4, 8192, 8, 128]⟩
abbrev S4x65536x128 : Shape := ⟨3, ![4, 65536, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2048, .f32⟩
  | .hbm, ⟨3, _⟩ => ⟨S1x3x512, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S1024x2048, .f32⟩
  | .hbm, ⟨22, _⟩ => ⟨S8x8192x2048, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S3x512, .f32⟩
  | .hbm, ⟨28, _⟩ => ⟨S8x8192x512, .f32⟩
  | .hbm, ⟨29, _⟩ => ⟨S_, .i32⟩
  | .hbm, ⟨30, _⟩ => ⟨S_, .f32⟩
  | .hbm, ⟨31, _⟩ => ⟨S8x8194x512, .f32⟩
  | .hbm, ⟨32, _⟩ => ⟨S1x512, .f32⟩
  | .hbm, ⟨33, _⟩ => ⟨S512, .f32⟩
  | .hbm, ⟨34, _⟩ => ⟨S8x8192x512, .f32⟩
  | .hbm, ⟨35, _⟩ => ⟨S1x1x512, .f32⟩
  | .hbm, ⟨36, _⟩ => ⟨S8x8192x512, .f32⟩
  | .hbm, ⟨37, _⟩ => ⟨S8x8192x512, .f32⟩
  | .hbm, ⟨38, _⟩ => ⟨S1x512, .f32⟩
  | .hbm, ⟨39, _⟩ => ⟨S512, .f32⟩
  | .hbm, ⟨40, _⟩ => ⟨S8x8192x512, .f32⟩
  | .hbm, ⟨41, _⟩ => ⟨S1x1x512, .f32⟩
  | .hbm, ⟨42, _⟩ => ⟨S8x8192x512, .f32⟩
  | .hbm, ⟨43, _⟩ => ⟨S8x8192x512, .f32⟩
  | .hbm, ⟨44, _⟩ => ⟨S8x8192x512, .f32⟩
  | .hbm, ⟨45, _⟩ => ⟨S1x512, .f32⟩
  | .hbm, ⟨46, _⟩ => ⟨S512, .f32⟩
  | .hbm, ⟨47, _⟩ => ⟨S8x8192x512, .f32⟩
  | .hbm, ⟨48, _⟩ => ⟨S1x1x512, .f32⟩
  | .hbm, ⟨49, _⟩ => ⟨S8x8192x512, .f32⟩
  | .hbm, ⟨50, _⟩ => ⟨S8x8192x512, .f32⟩
  | .hbm, ⟨51, _⟩ => ⟨S8x8192x512, .f32⟩
  | .hbm, ⟨52, _⟩ => ⟨S8x8192x512, .f32⟩
  | .hbm, ⟨53, _⟩ => ⟨S8x8192x4x128, .f32⟩
  | .hbm, ⟨54, _⟩ => ⟨S4x8192x8x128, .f32⟩
  | .hbm, ⟨55, _⟩ => ⟨S4x65536x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Scan.lean ====
abbrev S4x65536x128 : Shape := ⟨3, ![4, 65536, 128]⟩
abbrev S4x256x1024 : Shape := ⟨3, ![4, 256, 1024]⟩
abbrev S4x1280x256 : Shape := ⟨3, ![4, 1280, 256]⟩
abbrev S32x64 : Shape := ⟨2, ![32, 64]⟩
abbrev S32x16 : Shape := ⟨2, ![32, 16]⟩
abbrev S4x4096x2x8x128 : Shape := ⟨5, ![4, 4096, 2, 8, 128]⟩
abbrev S1x2048 : Shape := ⟨2, ![1, 2048]⟩
abbrev S1x512 : Shape := ⟨2, ![1, 512]⟩
abbrev S8x8192x512 : Shape := ⟨3, ![8, 8192, 512]⟩
abbrev S4x128x2x8x128 : Shape := ⟨5, ![4, 128, 2, 8, 128]⟩
abbrev S8x256x512 : Shape := ⟨3, ![8, 256, 512]⟩
abbrev S1024x4096 : Shape := ⟨2, ![1024, 4096]⟩
abbrev S8x4096 : Shape := ⟨2, ![8, 4096]⟩
abbrev S4x2048x128 : Shape := ⟨3, ![4, 2048, 128]⟩
abbrev S1x128x1x8x128 : Shape := ⟨5, ![1, 128, 1, 8, 128]⟩
abbrev S128x8x128 : Shape := ⟨3, ![128, 8, 128]⟩
abbrev S1024x128 : Shape := ⟨2, ![1024, 128]⟩
abbrev S1024x256 : Shape := ⟨2, ![1024, 256]⟩
abbrev S1x256x1024 : Shape := ⟨3, ![1, 256, 1024]⟩
abbrev S256x1024 : Shape := ⟨2, ![256, 1024]⟩
abbrev S1024x1024 : Shape := ⟨2, ![1024, 1024]⟩
abbrev S8x512 : Shape := ⟨2, ![8, 512]⟩
abbrev S1024x1280 : Shape := ⟨2, ![1024, 1280]⟩
abbrev S1x1280x256 : Shape := ⟨3, ![1, 1280, 256]⟩
abbrev S1280x256 : Shape := ⟨2, ![1280, 256]⟩
abbrev S1x128 : Shape := ⟨2, ![1, 128]⟩
abbrev S8x128 : Shape := ⟨2, ![8, 128]⟩
abbrev S1x8x128 : Shape := ⟨3, ![1, 8, 128]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩

abbrev nBuf : Space → Nat
  | .hbm => 11
  | .vmem => 12
  | .smem => 0
  | _ => 0

abbrev bufTy : (tb : Table) → Fin (tcTables nBuf tb) → BufTy
  | .hbm, ⟨0, _⟩ => ⟨S4x65536x128, .f32⟩
  | .hbm, ⟨1, _⟩ => ⟨S4x256x1024, .bf16⟩
  | .hbm, ⟨2, _⟩ => ⟨S4x1280x256, .bf16⟩
  | .hbm, ⟨3, _⟩ => ⟨S32x64, .f32⟩
  | .hbm, ⟨4, _⟩ => ⟨S32x64, .f32⟩
  | .hbm, ⟨5, _⟩ => ⟨S32x16, .f32⟩
  | .hbm, ⟨6, _⟩ => ⟨S4x4096x2x8x128, .f32⟩
  | .hbm, ⟨7, _⟩ => ⟨S1x2048, .f32⟩
  | .hbm, ⟨8, _⟩ => ⟨S1x2048, .f32⟩
  | .hbm, ⟨9, _⟩ => ⟨S1x512, .f32⟩
  | .hbm, ⟨10, _⟩ => ⟨S8x8192x512, .f32⟩
  | .local _ .vmem, ⟨0, _⟩ => ⟨S4x128x2x8x128, .f32⟩
  | .local _ .vmem, ⟨1, _⟩ => ⟨S4x128x2x8x128, .f32⟩
  | .local _ .vmem, ⟨2, _⟩ => ⟨S4x256x1024, .bf16⟩
  | .local _ .vmem, ⟨3, _⟩ => ⟨S4x1280x256, .bf16⟩
  | .local _ .vmem, ⟨4, _⟩ => ⟨S1x2048, .f32⟩
  | .local _ .vmem, ⟨5, _⟩ => ⟨S1x2048, .f32⟩
  | .local _ .vmem, ⟨6, _⟩ => ⟨S1x512, .f32⟩
  | .local _ .vmem, ⟨7, _⟩ => ⟨S8x256x512, .f32⟩
  | .local _ .vmem, ⟨8, _⟩ => ⟨S8x256x512, .f32⟩
  | .local _ .vmem, ⟨9, _⟩ => ⟨S1024x4096, .f32⟩
  | .local _ .vmem, ⟨10, _⟩ => ⟨S8x4096, .f32⟩
  | .local _ .vmem, ⟨11, _⟩ => ⟨S4x2048x128, .f32⟩
  | _, _ => ⟨S4x65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1280x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanRefIdeal.lean ====
abbrev S4x65536x128 : Shape := ⟨3, ![4, 65536, 128]⟩
abbrev S4x256x1024 : Shape := ⟨3, ![4, 256, 1024]⟩
abbrev S4x1280x256 : Shape := ⟨3, ![4, 1280, 256]⟩
abbrev S32x64 : Shape := ⟨2, ![32, 64]⟩
abbrev S32x16 : Shape := ⟨2, ![32, 16]⟩
abbrev S4x4096x2x8x128 : Shape := ⟨5, ![4, 4096, 2, 8, 128]⟩
abbrev S4096x8x4x2x128 : Shape := ⟨5, ![4096, 8, 4, 2, 128]⟩
abbrev S4096x8x4x256 : Shape := ⟨4, ![4096, 8, 4, 256]⟩
abbrev S4x512 : Shape := ⟨2, ![4, 512]⟩
abbrev S4x1024x4096x8 : Shape := ⟨4, ![4, 1024, 4096, 8]⟩
abbrev S4096x8x4x1024 : Shape := ⟨4, ![4096, 8, 4, 1024]⟩
abbrev S_ : Shape := ⟨0, ![]⟩
abbrev S8x4x512 : Shape := ⟨3, ![8, 4, 512]⟩
abbrev S1x8x4x1024 : Shape := ⟨4, ![1, 8, 4, 1024]⟩
abbrev S8x4x1024 : Shape := ⟨3, ![8, 4, 1024]⟩
abbrev S1x4x512 : Shape := ⟨3, ![1, 4, 512]⟩
abbrev S4096x8x4x1280 : Shape := ⟨4, ![4096, 8, 4, 1280]⟩
abbrev S4x256x4096x8 : Shape := ⟨4, ![4, 256, 4096, 8]⟩
abbrev S4x1x128 : Shape := ⟨3, ![4, 1, 128]⟩
abbrev S1x1x4x1x128 : Shape := ⟨5, ![1, 1, 4, 1, 128]⟩
abbrev S8x4096x2x4x128 : Shape := ⟨5, ![8, 4096, 2, 4, 128]⟩
abbrev S8x8192x512 : Shape := ⟨3, ![8, 8192, 512]⟩

abbrev nBuf : Space → Nat
  | .hbm => 71
  | .vmem => 0
  | .smem => 0
  | _ => 0

abbrev bufTy : (tb : Table) → Fin (tcTables nBuf tb) → BufTy
  | .hbm, ⟨0, _⟩ => ⟨S4x65536x128, .f32⟩
  | .hbm, ⟨1, _⟩ => ⟨S4x256x1024, .bf16⟩
  | .hbm, ⟨2, _⟩ => ⟨S4x1280x256, .bf16⟩
  | .hbm, ⟨3, _⟩ => ⟨S32x64, .f32⟩
  | .hbm, ⟨4, _⟩ => ⟨S32x64, .f32⟩
  | .hbm, ⟨5, _⟩ => ⟨S32x16, .f32⟩
  | .hbm, ⟨6, _⟩ => ⟨S4x4096x2x8x128, .f32⟩
  | .hbm, ⟨7, _⟩ => ⟨S4096x8x4x2x128, .f32⟩
  | .hbm, ⟨8, _⟩ => ⟨S4096x8x4x256, .f32⟩
  | .hbm, ⟨9, _⟩ => ⟨S4x512, .f32⟩
  | .hbm, ⟨10, _⟩ => ⟨S4x512, .f32⟩
  | .hbm, ⟨11, _⟩ => ⟨S4x256x1024, .f32⟩
  | .hbm, ⟨12, _⟩ => ⟨S4x1024x4096x8, .f32⟩
  | .hbm, ⟨13, _⟩ => ⟨S4096x8x4x1024, .f32⟩
  | .hbm, ⟨14, _⟩ => ⟨S_, .f32⟩
  | .hbm, ⟨15, _⟩ => ⟨S8x4x512, .f32⟩
  | .hbm, ⟨16, _⟩ => ⟨S_, .f32⟩
  | .hbm, ⟨17, _⟩ => ⟨S4096x8x4x1024, .f32⟩
  | .hbm, ⟨18, _⟩ => ⟨S_, .i32⟩
  | .hbm, ⟨19, _⟩ => ⟨S4096x8x4x1024, .f32⟩
  | .hbm, ⟨20, _⟩ => ⟨S4x512, .f32⟩
  | .hbm, ⟨21, _⟩ => ⟨S4x512, .f32⟩
  | .hbm, ⟨22, _⟩ => ⟨S_, .i32⟩
  | .hbm, ⟨23, _⟩ => ⟨S8x4x512, .f32⟩
  | .hbm, ⟨24, _⟩ => ⟨S8x4x512, .f32⟩
  | .hbm, ⟨25, _⟩ => ⟨S4096x8x4x1024, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x8x4x1024, .f32⟩
  | .hbm, ⟨32, _⟩ => ⟨S8x4x1024, .f32⟩
  | .hbm, ⟨33, _⟩ => ⟨S1x4x512, .f32⟩
  | .hbm, ⟨34, _⟩ => ⟨S8x4x512, .f32⟩
  | .hbm, ⟨35, _⟩ => ⟨S8x4x512, .f32⟩
  | .hbm, ⟨36, _⟩ => ⟨S1x4x512, .f32⟩
  | .hbm, ⟨37, _⟩ => ⟨S8x4x512, .f32⟩
  | .hbm, ⟨38, _⟩ => ⟨S8x4x512, .f32⟩
  | .hbm, ⟨39, _⟩ => ⟨S8x4x512, .f32⟩
  | .hbm, ⟨40, _⟩ => ⟨S8x4x512, .f32⟩
  | .hbm, ⟨41, _⟩ => ⟨S8x4x512, .f32⟩
  | .hbm, ⟨42, _⟩ => ⟨S1x4x512, .f32⟩
  | .hbm, ⟨43, _⟩ => ⟨S8x4x512, .f32⟩
  | .hbm, ⟨44, _⟩ => ⟨S8x4x512, .f32⟩
  | .hbm, ⟨45, _⟩ => ⟨S1x4x512, .f32⟩
  | .hbm, ⟨46, _⟩ => ⟨S8x4x512, .f32⟩
  | .hbm, ⟨47, _⟩ => ⟨S8x4x512, .f32⟩
  | .hbm, ⟨48, _⟩ => ⟨S8x4x512, .f32⟩
  | .hbm, ⟨49, _⟩ => ⟨S8x4x512, .f32⟩
  | .hbm, ⟨50, _⟩ => ⟨S8x4x512, .f32⟩
  | .hbm, ⟨51, _⟩ => ⟨S8x4x1024, .f32⟩
  | .hbm, ⟨52, _⟩ => ⟨S1x8x4x1024, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S4096x8x4x1024, .f32⟩
  | .hbm, ⟨57, _⟩ => ⟨S_, .i32⟩
  | .hbm, ⟨58, _⟩ => ⟨S_, .i32⟩
  | .hbm, ⟨59, _⟩ => ⟨S4096x8x4x1280, .f32⟩
  | .hbm, ⟨60, _⟩ => ⟨S4x1280x256, .f32⟩
  | .hbm, ⟨61, _⟩ => ⟨S4x256x4096x8, .f32⟩
  | .hbm, ⟨62, _⟩ => ⟨S4096x8x4x256, .f32⟩
  | .hbm, ⟨63, _⟩ => ⟨S4096x8x4x2x128, .f32⟩
  | .hbm, ⟨64, _⟩ => ⟨S4x1x128, .f32⟩
  | .hbm, ⟨65, _⟩ => ⟨S1x1x4x1x128, .f32⟩
  | .hbm, ⟨66, _⟩ => ⟨S4096x8x4x2x128, .f32⟩
  | .hbm, ⟨67, _⟩ => ⟨S4096x8x4x2x128, .f32⟩
  | .hbm, ⟨68, _⟩ => ⟨S4096x8x4x2x128, .f32⟩
  | .hbm, ⟨69, _⟩ => ⟨S8x4096x2x4x128, .f32⟩
  | .hbm, ⟨70, _⟩ => ⟨S8x8192x512, .f32⟩
  | _, _ => ⟨S4x65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_while0c_c_7 : Ref sig .tc := ⟨.hbm, 26, rfl⟩
abbrev main_while0c_v23 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_v0 : Ref sig .tc := ⟨.hbm, 31, rfl⟩
abbrev main_while0b_v23 : Ref sig .tc := ⟨.hbm, 32, rfl⟩
abbrev main_while0b_v24 : Ref sig .tc := ⟨.hbm, 33, rfl⟩
abbrev main_while0b_v25 : Ref sig .tc := ⟨.hbm, 34, rfl⟩
abbrev main_while0b_v26 : Ref sig .tc := ⟨.hbm, 35, rfl⟩
abbrev main_while0b_v27 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_v31 : Ref sig .tc := ⟨.hbm, 40, rfl⟩
abbrev main_while0b_v32 : Ref sig .tc := ⟨.hbm, 41, rfl⟩
abbrev main_while0b_v33 : Ref sig .tc := ⟨.hbm, 42, rfl⟩
abbrev main_while0b_v34 : Ref sig .tc := ⟨.hbm, 43, rfl⟩
abbrev main_while0b_v35 : Ref sig .tc := ⟨.hbm, 44, rfl⟩
abbrev main_while0b_v36 : Ref sig .tc := ⟨.hbm, 45, rfl⟩
abbrev main_while0b_v37 : Ref sig .tc := ⟨.hbm, 46, rfl⟩
abbrev main_while0b_v38 : Ref sig .tc := ⟨.hbm, 47, rfl⟩
abbrev main_while0b_v39 : Ref sig .tc := ⟨.hbm, 48, rfl⟩
abbrev main_while0b_v40 : Ref sig .tc := ⟨.hbm, 49, rfl⟩
abbrev main_while0b_v41 : Ref sig .tc := ⟨.hbm, 50, rfl⟩
abbrev main_while0b_v42 : Ref sig .tc := ⟨.hbm, 51, rfl⟩
abbrev main_while0b_call1_v0 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_v43 : Ref sig .tc := ⟨.hbm, 56, rfl⟩
abbrev main_while0b_c_7 : Ref sig .tc := ⟨.hbm, 57, rfl⟩
abbrev main_while0b_v44 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩

abbrev nD : Nat := 1
abbrev τ : Topo := Topo.v7x

variable {F : FTy → Type} [FloatOps F]

abbrev main_while0_count : Scf.Loop 32 := ⟨0#32, 4096#32, 1#32⟩
-- ==== Proof.Rows.lean ====
module

public import Idealize.ShloMosaic.Lib.Pointwise

/-! # One token of the layer's last call, as a function of its rows

Everything the call does to a token reads that token's own rows of the three activations and the whole
weights, so both programs are compared through functions of a row. -/

@[expose] public section

set_option maxRecDepth 16384

noncomputable section

namespace Cert.Rows

open Idealize.ShloMosaic

/-- A row of `n` extended reals. -/
abbrev Row (n : ℕ) := Fin n → EReal

/-- The gelu as the kernel spells it: `h + h * tanh (x * (c + kc * x²))` with `h = x / 2`. -/
def geluK (kc x : EReal) : EReal :=
  Ideal.ofBits .f32 0x3F000000#32 * x + Ideal.ofBits .f32 0x3F000000#32 * x
    * Ideal.tanh (x * (Ideal.ofBits .f32 0x3F4C422A#32 + kc * (x * x)))

/-- The gelu as the reference spells it: `x * (½ * (1 + tanh (c * (x + k * x³))))`. -/
def geluR (x : EReal) : EReal :=
  x * (Ideal.ofBits .f32 0x3F000000#32 * (1 + Ideal.tanh (Ideal.ofBits .f32 0x3F4C422A#32
    * (x + Ideal.ofBits .f32 0x3D372713#32 * (x * x * x)))))

/-- The normalization of a row by its root mean square (`n` is the constant both programs divide by), with gain `g`. -/
def rms {w : ℕ} (n : EReal) (v g : Row w) (l : Fin w) : EReal :=
  v l * Ideal.rsqrt (Ideal.div (∑ k, v k * v k) n + Ideal.ofBits .f32 0x358637BD#32) * g l

/-- The gated linear unit: a row times the logistic of its product with a square matrix. -/
def gate (h : Row 512) (w : Fin 512 → Fin 512 → EReal) (l : Fin 512) : EReal :=
  h l * Ideal.logistic (∑ k, h k * w k l)

/-- The product of two half rows laid side by side with a matrix. -/
def mix (a b : Row 512) (w : Fin 1024 → Fin 1024 → EReal) (l : Fin 1024) : EReal :=
  ∑ k : Fin 512, a k * w ⟨k, by omega⟩ l + ∑ k : Fin 512, b k * w ⟨512 + k, by omega⟩ l

/-- The squared positive part of a row's product with the first matrix of the feed-forward layer. -/
def up (a : Row 1024) (w : Fin 1024 → Fin 4096 → EReal) (l : Fin 4096) : EReal :=
  max (∑ k, a k * w k l) 0 * max (∑ k, a k * w k l) 0

/-- The token after the mixing layer: the normalized product of its two normalized halves, added to it. -/
def mid (h : Row 512) (x : Row 1024) (yc : Row 512) (wg : Fin 512 → Fin 512 → EReal) (gs gc : Row 512)
    (wo : Fin 1024 → Fin 1024 → EReal) (gp : Row 1024) (l : Fin 1024) : EReal :=
  x l + rms (Ideal.ofBits .f32 0x44800000#32)
    (mix (rms (Ideal.ofBits .f32 0x44000000#32) (gate h wg) gs) (rms (Ideal.ofBits .f32 0x44000000#32) yc gc) wo) gp l

/-- The token after the feed-forward layer, from the token before it. -/
def ffn (z : Row 1024) (gm : Row 1024) (wu : Fin 1024 → Fin 4096 → EReal) (wd : Fin 4096 → Fin 1024 → EReal)
    (go : Row 1024) (l : Fin 1024) : EReal :=
  z l + rms (Ideal.ofBits .f32 0x44800000#32)
    (fun j => ∑ k, up (rms (Ideal.ofBits .f32 0x44800000#32) z gm) wu k * wd k j) go l

/-- The whole call on one token; `h` is the gelu of the scan's row. -/
def token (h : Row 512) (x : Row 1024) (yc : Row 512) (wg : Fin 512 → Fin 512 → EReal) (gs gc : Row 512)
    (wo : Fin 1024 → Fin 1024 → EReal) (gp gm : Row 1024) (wu : Fin 1024 → Fin 4096 → EReal)
    (wd : Fin 4096 → Fin 1024 → EReal) (go : Row 1024) : Row 1024 :=
  ffn (mid h x yc wg gs gc wo gp) gm wu wd go

end Cert.Rows
-- ==== Proof.MlpBlock.lean ====
module

public import proofs.«01_k».proof.Proof.Gen.MlpIdeal.Frame
public import proofs.«01_k».proof.Proof.Rows
public import Idealize.ShloMosaic.Lib.Pipeline.ValueKit

/-! # What the kernel's body leaves in a block, row by row -/

@[expose] public section

set_option maxRecDepth 16384

noncomputable section

namespace Cert.MlpIdeal.Value

open Cert.MlpIdeal Cert.MlpIdeal.Gen Cert.Rows
open Idealize.ShloMosaic Idealize.ShloMosaic.TcCoe Idealize.SL.Sem

/-- The constant the kernel multiplies the square by in its gelu, at its named value. -/
def kc : EReal := (Named.named κ "gelu_kc" 0x3D122279#32 : Ideal .f32)

variable (x0 : FVec Ideal S1024x1024 .f32) (x1 : FVec Ideal S1024x512 .f32) (x2 : FVec Ideal S1024x512 .f32)
  (x3 : FVec Ideal S512x512 .bf16) (x4 : FVec Ideal S1x512 .f32) (x5 : FVec Ideal S1x512 .f32)
  (x6 : FVec Ideal S1024x1024 .bf16) (x7 : FVec Ideal S1x1024 .f32) (x8 : FVec Ideal S1x1024 .f32)
  (x9 : FVec Ideal S1024x4096 .bf16) (x10 : FVec Ideal S4096x1024 .bf16) (x11 : FVec Ideal S1x1024 .f32)

/-- Row `r` of the block after the mixing layer. -/
def midB (r : Fin 1024) : Row 1024 :=
  mid (fun k => geluK kc (x1 (ix2 r k))) (fun k => x0 (ix2 r k)) (fun k => x2 (ix2 r k)) (fun a b => x3 (ix2 a b))
    (fun k => x4 (ix2 0 k)) (fun k => x5 (ix2 0 k)) (fun a b => x6 (ix2 a b)) (fun k => x7 (ix2 0 k))

/-- Row `r` of the block after the whole body. -/
def rowB (r : Fin 1024) : Row 1024 :=
  ffn (midB x0 x1 x2 x3 x4 x5 x6 x7 r) (fun k => x8 (ix2 0 k)) (fun a b => x9 (ix2 a b)) (fun a b => x10 (ix2 a b))
    (fun k => x11 (ix2 0 k))

/-- The first sub-block after the mixing layer. -/
theorem mid0_at (r : Fin 256) (l : Fin 1024) :
    k0_pay36 (F := Ideal) x0 x1 x2 x3 x4 x5 x6 x7 x8 x9 x10 x11 (ix2 r l)
      = midB x0 x1 x2 x3 x4 x5 x6 x7 ⟨r, by omega⟩ l := by
  pointwise [k0_pay36, k0_pay7, k0_pay6, k0_pay1, midB, mid, mix, rms, gate, geluK, kc]

/-- The second sub-block after the mixing layer. -/
theorem mid1_at (r : Fin 256) (l : Fin 1024) :
    k0_pay37 (F := Ideal) x0 x1 x2 x3 x4 x5 x6 x7 x8 x9 x10 x11 (ix2 r l)
      = midB x0 x1 x2 x3 x4 x5 x6 x7 ⟨256 + r, by omega⟩ l := by
  pointwise [k0_pay37, k0_pay35, k0_pay14, k0_pay13, k0_pay12, k0_pay11, k0_pay10, k0_pay5, k0_pay4, k0_pay3, k0_pay2,
    midB, mid, mix, rms, gate, geluK, kc]

/-- The third sub-block after the mixing layer. -/
theorem mid2_at (r : Fin 256) (l : Fin 1024) :
    k0_pay38 (F := Ideal) x0 x1 x2 x3 x4 x5 x6 x7 x8 x9 x10 x11 (ix2 r l)
      = midB x0 x1 x2 x3 x4 x5 x6 x7 ⟨512 + r, by omega⟩ l := by
  pointwise [k0_pay38, k0_pay22, k0_pay21, k0_pay20, k0_pay9, k0_pay8, midB, mid, mix, rms, gate, geluK, kc]

/-- The fourth sub-block after the mixing layer. -/
theorem mid3_at (r : Fin 256) (l : Fin 1024) :
    k0_pay39 (F := Ideal) x0 x1 x2 x3 x4 x5 x6 x7 x8 x9 x10 x11 (ix2 r l)
      = midB x0 x1 x2 x3 x4 x5 x6 x7 ⟨768 + r, by omega⟩ l := by
  pointwise [k0_pay39, k0_pay27, k0_pay26, k0_pay19, k0_pay18, k0_pay17, k0_pay16, midB, mid, mix, rms, gate, geluK, kc]

/-- The feed-forward layer of the first sub-block, from the tokens before it. -/
theorem ffn0_at (z : FVec Ideal S256x1024 .f32) (r : Fin 256) (l : Fin 1024) :
    k0_pay25 (F := Ideal) z (k0_pay15 z x8 x9) (k0_pay24 x10) x11 (ix2 r l)
      = ffn (fun k => z (ix2 r k)) (fun k => x8 (ix2 0 k)) (fun a b => x9 (ix2 a b)) (fun a b => x10 (ix2 a b))
        (fun k => x11 (ix2 0 k)) l := by
  pointwise [k0_pay25, k0_pay24, k0_pay15, ffn, up, rms]

/-- The feed-forward layer of the second sub-block, from the tokens before it. -/
theorem ffn1_at (z : FVec Ideal S256x1024 .f32) (r : Fin 256) (l : Fin 1024) :
    k0_pay30 (F := Ideal) z (k0_pay29 (k0_pay23 z x8 x9) x10) x11 (ix2 r l)
      = ffn (fun k => z (ix2 r k)) (fun k => x8 (ix2 0 k)) (fun a b => x9 (ix2 a b)) (fun a b => x10 (ix2 a b))
        (fun k => x11 (ix2 0 k)) l := by
  pointwise [k0_pay30, k0_pay29, k0_pay23, ffn, up, rms]

/-- The feed-forward layer of the third sub-block, from the tokens before it. -/
theorem ffn2_at (z : FVec Ideal S256x1024 .f32) (r : Fin 256) (l : Fin 1024) :
    k0_pay33 (F := Ideal) z (k0_pay32 (k0_pay28 z x8 x9) x10) x11 (ix2 r l)
      = ffn (fun k => z (ix2 r k)) (fun k => x8 (ix2 0 k)) (fun a b => x9 (ix2 a b)) (fun a b => x10 (ix2 a b))
        (fun k => x11 (ix2 0 k)) l := by
  pointwise [k0_pay33, k0_pay32, k0_pay28, ffn, up, rms]

/-- The feed-forward layer of the fourth sub-block, from the tokens before it. -/
theorem ffn3_at (z : FVec Ideal S256x1024 .f32) (r : Fin 256) (l : Fin 1024) :
    k0_pay34 (F := Ideal) z (k0_pay31 z x8 x9) x10 x11 (ix2 r l)
      = ffn (fun k => z (ix2 r k)) (fun k => x8 (ix2 0 k)) (fun a b => x9 (ix2 a b)) (fun a b => x10 (ix2 a b))
        (fun k => x11 (ix2 0 k)) l := by
  pointwise [k0_pay34, k0_pay31, ffn, up, rms]

/-- The body's result at an index of the block is its row's. -/
theorem out_at (y : S1024x1024.Idx) :
    out0_12 (F := Ideal) x0 x1 x2 x3 x4 x5 x6 x7 x8 x9 x10 x11 y = rowB x0 x1 x2 x3 x4 x5 x6 x7 x8 x9 x10 x11 (y 0) (y 1) := by
  canon_tiles x h
  all_goals (idx_vars x; idx_vars y; pointwise at h0 h1)
  all_goals (pointwise [mid0_at, mid1_at, mid2_at, mid3_at, ffn0_at, ffn1_at, ffn2_at, ffn3_at])
  all_goals (obtain rfl := Fin.ext h1; have e0 := Fin.ext (a := y0) (b := ⟨_, lt_of_eq_of_lt h0.symm y0.isLt⟩) h0; rw [e0]; rfl)

/-- The body's row, from what the blocks read in it. -/
theorem rowB_eq {r : Fin 1024} {y : Row 512} {x : Row 1024} {yc : Row 512} {wg : Fin 512 → Fin 512 → EReal} {gs gc : Row 512}
    {wo : Fin 1024 → Fin 1024 → EReal} {gp gm : Row 1024} {wu : Fin 1024 → Fin 4096 → EReal}
    {wd : Fin 4096 → Fin 1024 → EReal} {go : Row 1024}
    (h1 : ∀ k, x1 (ix2 r k) = y k) (h0 : ∀ k, x0 (ix2 r k) = x k) (h2 : ∀ k, x2 (ix2 r k) = yc k)
    (h3 : ∀ p q, x3 (ix2 p q) = wg p q) (h4 : ∀ p q, x4 (ix2 p q) = gs q) (h5 : ∀ p q, x5 (ix2 p q) = gc q)
    (h6 : ∀ p q, x6 (ix2 p q) = wo p q) (h7 : ∀ p q, x7 (ix2 p q) = gp q) (h8 : ∀ p q, x8 (ix2 p q) = gm q)
    (h9 : ∀ p q, x9 (ix2 p q) = wu p q) (h10 : ∀ p q, x10 (ix2 p q) = wd p q) (h11 : ∀ p q, x11 (ix2 p q) = go q) :
    rowB x0 x1 x2 x3 x4 x5 x6 x7 x8 x9 x10 x11 r
      = token (fun k => geluK kc (y k)) x yc wg gs gc wo gp gm wu wd go := by
  unfold rowB midB token
  simp only [h0, h1, h2, h3, h4, h5, h6, h7, h8, h9, h10, h11]

end Cert.MlpIdeal.Value
-- ==== Proof.MlpValue.lean ====
module

public import proofs.«01_k».proof.Proof.Gen.MlpIdeal.Value
public import proofs.«01_k».proof.Proof.MlpBlock

/-! # What the kernel's result array holds -/

@[expose] public section

set_option maxRecDepth 16384

noncomputable section

namespace Cert.MlpIdeal.Value

open Cert.MlpIdeal Cert.MlpIdeal.Gen Cert.Rows
open Idealize.ShloMosaic Idealize.ShloMosaic.TcCoe Idealize.SL.Sem
open Idealize.ShloMosaic.Pipeline (Dat)

/-- The result array over the argument arrays: row `n` is token `n % 8192` of sequence `n / 8192`. -/
def G (a0 : FVec Ideal S8x8192x1024 .f32) (a1 a2 : FVec Ideal S8x8192x512 .f32) (a3 : FVec Ideal S1x512x512 .f32)
    (a4 a5 : FVec Ideal S1x512 .f32) (a6 : FVec Ideal S1x1024x1024 .f32) (a7 a8 : FVec Ideal S1x1024 .f32)
    (a9 : FVec Ideal S1x1024x4096 .f32) (a10 : FVec Ideal S1x4096x1024 .f32) (a11 : FVec Ideal S1x1024 .f32) :
    FVec Ideal S65536x1024 .f32 := fun j =>
  let b : Fin 8 := ⟨(j 0).val / 8192, by have h : (j 0).val < 65536 := (j 0).isLt; omega⟩
  let t : Fin 8192 := ⟨(j 0).val % 8192, by omega⟩
  token (fun k => geluK kc (a1 (ix3 b t k))) (fun k => a0 (ix3 b t k)) (fun k => a2 (ix3 b t k))
    (fun p q => a3 (ix3 0 p q)) (fun k => a4 (ix2 0 k)) (fun k => a5 (ix2 0 k)) (fun p q => a6 (ix3 0 p q))
    (fun k => a7 (ix2 0 k)) (fun k => a8 (ix2 0 k)) (fun p q => a9 (ix3 0 p q)) (fun p q => a10 (ix3 0 p q))
    (fun k => a11 (ix2 0 k)) (j 1)

variable (m : (ℓ : Loc nD τ sig) → Buf (Elt Ideal) ℓ)

/-- The index maps of the call's windows: the activations and the result move with the grid, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- A token of a grid point's block: its sequence and its place in it. -/
theorem tok_lt (t : Fin cfg0.N) (r : Fin 1024) : (t.val * 1024 + r.val) / 8192 < 8 := by
  have h : t.val < 64 := lt_of_lt_of_eq t.isLt N_0
  omega

/-- Window 0's block at grid point `t`, read from its argument array. -/
theorem iblk0_at (c : Dev nD) (t : Fin cfg0.N) (r : Fin 1024) (k : Fin 1024) :
    (show EReal from iblk m c 0 t (ix2 r k))
      = m ((c : Thread nD τ).loc main_arg0) (ix3 ⟨(t.val * 1024 + r.val) / 8192, tok_lt t r⟩ ⟨(t.val * 1024 + r.val) % 8192, by omega⟩ k) := by
  blk_point [iblk, V, idx t]

/-- Window 1's block at grid point `t`, read from its argument array. -/
theorem iblk1_at (c : Dev nD) (t : Fin cfg0.N) (r : Fin 1024) (k : Fin 512) :
    (show EReal from iblk m c 1 t (ix2 r k))
      = m ((c : Thread nD τ).loc main_arg1) (ix3 ⟨(t.val * 1024 + r.val) / 8192, tok_lt t r⟩ ⟨(t.val * 1024 + r.val) % 8192, by omega⟩ k) := by
  blk_point [iblk, V, idx t]

/-- Window 2's block at grid point `t`, read from its argument array. -/
theorem iblk2_at (c : Dev nD) (t : Fin cfg0.N) (r : Fin 1024) (k : Fin 512) :
    (show EReal from iblk m c 2 t (ix2 r k))
      = m ((c : Thread nD τ).loc main_arg2) (ix3 ⟨(t.val * 1024 + r.val) / 8192, tok_lt t r⟩ ⟨(t.val * 1024 + r.val) % 8192, by omega⟩ k) := by
  blk_point [iblk, V, idx t]

/-- Window 3's block is its argument array at every grid point. -/
theorem iblk3_at (c : Dev nD) (t : Fin cfg0.N) (p : Fin 512) (q : Fin 512) :
    (show EReal from iblk m c 3 t (ix2 p q)) = m ((c : Thread nD τ).loc main_arg3) (ix3 0 p q) := by
  blk_point [iblk, V, idx t]

/-- Window 4's block is its argument array at every grid point. -/
theorem iblk4_at (c : Dev nD) (t : Fin cfg0.N) (p : Fin 1) (q : Fin 512) :
    (show EReal from iblk m c 4 t (ix2 p q)) = m ((c : Thread nD τ).loc main_arg4) (ix2 0 q) := by
  blk_point [iblk, V, idx t]

/-- Window 5's block is its argument array at every grid point. -/
theorem iblk5_at (c : Dev nD) (t : Fin cfg0.N) (p : Fin 1) (q : Fin 512) :
    (show EReal from iblk m c 5 t (ix2 p q)) = m ((c : Thread nD τ).loc main_arg5) (ix2 0 q) := by
  blk_point [iblk, V, idx t]

/-- Window 6's block is its argument array at every grid point. -/
theorem iblk6_at (c : Dev nD) (t : Fin cfg0.N) (p : Fin 1024) (q : Fin 1024) :
    (show EReal from iblk m c 6 t (ix2 p q)) = m ((c : Thread nD τ).loc main_arg6) (ix3 0 p q) := by
  blk_point [iblk, V, idx t]

/-- Window 7's block is its argument array at every grid point. -/
theorem iblk7_at (c : Dev nD) (t : Fin cfg0.N) (p : Fin 1) (q : Fin 1024) :
    (show EReal from iblk m c 7 t (ix2 p q)) = m ((c : Thread nD τ).loc main_arg7) (ix2 0 q) := by
  blk_point [iblk, V, idx t]

/-- Window 8's block is its argument array at every grid point. -/
theorem iblk8_at (c : Dev nD) (t : Fin cfg0.N) (p : Fin 1) (q : Fin 1024) :
    (show EReal from iblk m c 8 t (ix2 p q)) = m ((c : Thread nD τ).loc main_arg8) (ix2 0 q) := by
  blk_point [iblk, V, idx t]

/-- Window 9's block is its argument array at every grid point. -/
theorem iblk9_at (c : Dev nD) (t : Fin cfg0.N) (p : Fin 1024) (q : Fin 4096) :
    (show EReal from iblk m c 9 t (ix2 p q)) = m ((c : Thread nD τ).loc main_arg9) (ix3 0 p q) := by
  blk_point [iblk, V, idx t]

/-- Window 10's block is its argument array at every grid point. -/
theorem iblk10_at (c : Dev nD) (t : Fin cfg0.N) (p : Fin 4096) (q : Fin 1024) :
    (show EReal from iblk m c 10 t (ix2 p q)) = m ((c : Thread nD τ).loc main_arg10) (ix3 0 p q) := by
  blk_point [iblk, V, idx t]

/-- Window 11's block is its argument array at every grid point. -/
theorem iblk11_at (c : Dev nD) (t : Fin cfg0.N) (p : Fin 1) (q : Fin 1024) :
    (show EReal from iblk m c 11 t (ix2 p q)) = m ((c : Thread nD τ).loc main_arg11) (ix2 0 q) := by
  blk_point [iblk, V, idx t]

/-- Where index `y` of grid point `t`'s block lies in the result array. -/
theorem emb_eq (t : Fin cfg0.N) (y : S1024x1024.Idx) :
    ((cfg0.win 12).blk t).view.emb y = (ix2 ⟨t.val * 1024 + (y 0).val, by
      have h : t.val < 64 := lt_of_lt_of_eq t.isLt N_0
      have h' : (y 0).val < 1024 := (y 0).isLt
      omega⟩ (y 1) : S65536x1024.Idx) := by
  blk_ext [idx t]

/-- What grid point `t` leaves at index `y` of its block is the result array's value where that index lies. -/
theorem point (c : Dev nD) (t : Fin cfg0.N) (y : S1024x1024.Idx) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) y
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (((cfg0.win 12).blk t).view.emb y) := by
  rw [emb_eq]
  refine (out_at _ _ _ _ _ _ _ _ _ _ _ _ y).trans ?_
  exact congrFun (rowB_eq _ _ _ _ _ _ _ _ _ _ _ _ (iblk1_at m c t (y 0)) (iblk0_at m c t (y 0)) (iblk2_at m c t (y 0))
    (iblk3_at m c t) (iblk4_at m c t) (iblk5_at m c t) (iblk6_at m c t) (iblk7_at m c t) (iblk8_at m c t)
    (iblk9_at m c t) (iblk10_at m c t) (iblk11_at m c t)) (y 1)

/-- The result array after the run. -/
theorem final (c : Dev nD) : (dats m 0 c).arrAt 12 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  exact point m c t y

end Cert.MlpIdeal.Value
-- ==== Proof.MlpRefRow.lean ====
module

public import proofs.«01_k».proof.Proof.Gen.MlpRefIdeal.Run
public import proofs.«01_k».proof.Proof.Rows
public import Idealize.ShloMosaic.Lib.Pipeline.ValueKit

/-! # What the reference computes, token by token -/

@[expose] public section

set_option maxRecDepth 16384

noncomputable section

namespace Cert.MlpRefIdeal.Value

open Cert.MlpRefIdeal Cert.MlpRefIdeal.Gen Cert.Rows
open Idealize.ShloMosaic Idealize.ShloMosaic.TcCoe Idealize.ShloMosaic.StableHlo Idealize.SL.Sem

/-- The reference's result over its argument arrays: row `n` is token `n % 8192` of sequence `n / 8192`. -/
def G (a0 : FVec Ideal S8x8192x1024 .f32) (a1 a2 : FVec Ideal S8x8192x512 .f32) (a3 : FVec Ideal S1x512x512 .f32)
    (a4 a5 : FVec Ideal S1x512 .f32) (a6 : FVec Ideal S1x1024x1024 .f32) (a7 a8 : FVec Ideal S1x1024 .f32)
    (a9 : FVec Ideal S1x1024x4096 .f32) (a10 : FVec Ideal S1x4096x1024 .f32) (a11 : FVec Ideal S1x1024 .f32) :
    FVec Ideal S65536x1024 .f32 := fun j =>
  let b : Fin 8 := ⟨(j 0).val / 8192, by have h : (j 0).val < 65536 := (j 0).isLt; omega⟩
  let t : Fin 8192 := ⟨(j 0).val % 8192, by omega⟩
  token (fun k => geluR (a1 (ix3 b t k))) (fun k => a0 (ix3 b t k)) (fun k => a2 (ix3 b t k))
    (fun p q => a3 (ix3 0 p q)) (fun k => a4 (ix2 0 k)) (fun k => a5 (ix2 0 k)) (fun p q => a6 (ix3 0 p q))
    (fun k => a7 (ix2 0 k)) (fun k => a8 (ix2 0 k)) (fun p q => a9 (ix3 0 p q)) (fun p q => a10 (ix3 0 p q))
    (fun k => a11 (ix2 0 k)) (j 1)

variable (V0 : Valuation τ sig (Elt Ideal))

/-- The gated linear unit of the gelu of the scan's row. -/
theorem v21_at (b : Fin 8) (t : Fin 8192) (l : Fin 512) : res_main_v21 V0 (ix3 b t l)
    = gate (fun k => geluR (V0 (Proc.devRef .tc main_arg1) (ix3 b t k)))
      (fun p q => V0 (Proc.devRef .tc main_arg3) (ix3 0 p q)) l := by
  pointwise [res_main_v21, res_main_v12, gate, geluR, Ideal.logistic]

/-- The token after the mixing layer. -/
theorem v67_at (b : Fin 8) (t : Fin 8192) (l : Fin 1024) : res_main_v67 V0 (ix3 b t l)
    = mid (fun k => geluR (V0 (Proc.devRef .tc main_arg1) (ix3 b t k))) (fun k => V0 (Proc.devRef .tc main_arg0) (ix3 b t k))
      (fun k => V0 (Proc.devRef .tc main_arg2) (ix3 b t k)) (fun p q => V0 (Proc.devRef .tc main_arg3) (ix3 0 p q))
      (fun k => V0 (Proc.devRef .tc main_arg4) (ix2 0 k)) (fun k => V0 (Proc.devRef .tc main_arg5) (ix2 0 k))
      (fun p q => V0 (Proc.devRef .tc main_arg6) (ix3 0 p q)) (fun k => V0 (Proc.devRef .tc main_arg7) (ix2 0 k)) l := by
  pointwise [res_main_v67, res_main_v52, v21_at, mid, mix, rms]

/-- The reference's result is its function of the argument arrays. -/
theorem result_eq : (shapeCast S65536x1024 (addf (res_main_v67 V0) (mulf (mulf (res_main_v87 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v87 V0) (res_main_v87 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ (V0 (Proc.devRef .tc main_arg11)) shapeCasts_S1x1024_S1024))))) shapeCasts_S8x8192x1024_S65536x1024 : FVec Ideal S65536x1024 .f32)
    = G (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11)) := by
  funext j
  idx_vars j
  pointwise [res_main_v87, res_main_v84, v67_at, G, token, ffn, up, rms]

end Cert.MlpRefIdeal.Value
-- ==== Proof.Gelu.lean ====
module

public import proofs.«01_k».proof.Proof.MlpBlock
public import proofs.«01_k».proof.Proof.Gen.Pre_y_ssm_above_neg_inf
public import Idealize.ShloMosaic.Lib.ReduceAll

/-! # The two spellings of the gelu agree above negative infinity -/

@[expose] public section

noncomputable section

namespace Cert.Rows

open Idealize.ShloMosaic

/-- The pattern of one half. -/
theorem ofBits_half : Ideal.ofBits .f32 0x3F000000#32 = ((1 / 2 : ℝ) : EReal) := by
  simp [Ideal.ofBits, Ideal.ieee, -EReal.coe_mul]; norm_num

/-- The pattern of the single-precision root of 2/π. -/
theorem ofBits_c : Ideal.ofBits .f32 0x3F4C422A#32 = ((6693141 / 8388608 : ℝ) : EReal) := by
  simp [Ideal.ofBits, Ideal.ieee, -EReal.coe_mul]; norm_num

/-- The pattern of the single-precision 0.044715. -/
theorem ofBits_k : Ideal.ofBits .f32 0x3D372713#32 = ((12003091 / 268435456 : ℝ) : EReal) := by
  simp [Ideal.ofBits, Ideal.ieee, -EReal.coe_mul]; norm_num

/-- The pattern of negative infinity. -/
theorem ofBits_neg_inf : Ideal.ofBits .f32 0xFF800000#32 = ⊥ := by
  simp [Ideal.ofBits, Ideal.ieee]

/-- With the kernel's constant the product of the reference's two, the two spellings of the gelu are equal at every
    value but negative infinity. -/
theorem gelu_eq (x : EReal) (hx : x ≠ ⊥) :
    geluK ((80338380498831 / 2251799813685248 : ℝ) : EReal) x = geluR x := by
  unfold geluK geluR
  rw [ofBits_half, ofBits_c, ofBits_k]
  induction x with
  | bot => exact absurd rfl hx
  | top =>
    have h1 : (((80338380498831 / 2251799813685248 : ℝ) : EReal)) * ⊤ = ⊤ := EReal.coe_mul_top_of_pos (by norm_num)
    have h2 : (((6693141 / 8388608 : ℝ) : EReal)) * ⊤ = ⊤ := EReal.coe_mul_top_of_pos (by norm_num)
    have h3 : (((12003091 / 268435456 : ℝ) : EReal)) * ⊤ = ⊤ := EReal.coe_mul_top_of_pos (by norm_num)
    have h4 : (((1 / 2 : ℝ) : EReal)) * ⊤ = ⊤ := EReal.coe_mul_top_of_pos (by norm_num)
    have h5 : ((1 / 2 : ℝ) : EReal) * (1 + 1) = 1 := by
      rw [← EReal.coe_one, ← EReal.coe_add, ← EReal.coe_mul]; norm_num
    simp only [EReal.top_mul_top, h1, h2, h3, h4, EReal.coe_add_top, EReal.top_add_top, Ideal.tanh_top, mul_one, h5]
  | coe r =>
    simp only [← EReal.coe_mul, ← EReal.coe_add, ← EReal.coe_one, Ideal.tanh_coe]
    congr 1
    rw [show r * (6693141 / 8388608 + 80338380498831 / 2251799813685248 * (r * r))
      = 6693141 / 8388608 * (r + 12003091 / 268435456 * (r * r * r)) by ring]
    ring

end Cert.Rows

namespace Cert.Pre_y_ssm_above_neg_inf

open Idealize.ShloMosaic

/-- Where the precondition holds, no element of the scan's output is negative infinity. -/
theorem ne_bot {a0 : FVec Ideal S8x8192x1024 .f32} {a1 a2 : FVec Ideal S8x8192x512 .f32} {a3 : FVec Ideal S1x512x512 .f32}
    {a4 a5 : FVec Ideal S1x512 .f32} {a6 : FVec Ideal S1x1024x1024 .f32} {a7 a8 : FVec Ideal S1x1024 .f32}
    {a9 : FVec Ideal S1x1024x4096 .f32} {a10 : FVec Ideal S1x4096x1024 .f32} {a11 : FVec Ideal S1x1024 .f32}
    (h : fn (F := Ideal) a0 a1 a2 a3 a4 a5 a6 a7 a8 a9 a10 a11 = fun _ => 1#1) (i : S8x8192x512.Idx) : a1 i ≠ ⊥ := by
  have e := Host.reduce_andi_all _ _ _ _ _ (congrFun h ix0) i
  simp only [cmpf, broadcastInDim, constant] at e
  have e' : BitVec.ofBool (decide (Ideal.ofBits .f32 0xFF800000#32 < a1 i)) = 1#1 := e
  rw [Cert.Rows.ofBits_neg_inf] at e'
  by_contra hb
  rw [hb] at e'
  simp at e'

end Cert.Pre_y_ssm_above_neg_inf

namespace Cert.MlpIdeal.Value

open Cert.Rows Idealize.ShloMosaic

/-- The kernel's named constant, by the certificate's table, is the product of the reference's two constants. -/
theorem kc_eq : kc = ((80338380498831 / 2251799813685248 : ℝ) : EReal) :=
  IdealRules.named_const.ideal_named_scalar _ _ _ _ rfl

end Cert.MlpIdeal.Value
-- ==== Proof.MlpClaims.lean ====
module

public import proofs.«01_k».proof.Defs
public import proofs.«01_k».proof.Proof.Gen.Mlp.Frame
public import proofs.«01_k».proof.Proof.MlpValue
public import proofs.«01_k».proof.Proof.MlpRefRow
public import proofs.«01_k».proof.Proof.Gelu
public import Idealize.ShloMosaic.Lib.Quiescent

/-! # The claims about the layer's last call -/

@[expose] public section

noncomputable section

namespace Cert.Proof.MlpClaims

open Idealize.ShloMosaic Idealize.SL.Sem

/-- The kernel as printed runs, keeps its arguments and leaves every counter at zero. -/
theorem frame_p : Cert.quiescent_Mlp := fun m ρ _ => Cert.Mlp.Gen.frame m ρ

/-- The idealized kernel does too. -/
theorem frame_pi : Cert.quiescent_MlpIdeal := fun m ρ _ => Cert.MlpIdeal.Gen.frame m ρ

/-- In particular where the precondition of the value claim holds. -/
theorem frame_pi_pre : Cert.quiescent_MlpIdeal_pre_y_ssm_above_neg_inf := fun m ρ _ => Cert.MlpIdeal.Gen.frame m ρ

/-- The reference runs and keeps its arguments. -/
theorem frame_ri : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

/-- In particular where the precondition of the value claim holds. -/
theorem frame_ri_pre : Cert.quiescent_MlpRefIdeal_pre_y_ssm_above_neg_inf := fun m ρ _ => frame_ri m ρ trivial

/-- The one constant the idealized kernel names rounds to the constant the kernel has. -/
theorem preserves : Cert.preserves_Mlp_MlpIdeal :=
  IdealRules.named_const.statement Cert.MlpIdeal.κ "gelu_kc" .f32 0x3D122279#32 _ rfl

/-- Over the extended reals the kernel's result is the reference's, wherever the scan's output is above negative infinity. -/
theorem algebraic : Cert.algebraic_MlpIdeal_MlpRefIdeal_pre_y_ssm_above_neg_inf := by
  intro m ρ m' ρ' hpre hagree
  refine ⟨fun c => (Cert.MlpIdeal.Gen.dats m 0 c).arrAt 12 Cert.MlpIdeal.cfg0.N, ?_, ?_⟩
  · exact Cert.MlpIdeal.Value.run_blocks (F := Ideal) m ρ
  · refine (θ_run Cert.MlpRefIdeal.defs _ _).mono (fun _ h c => ⟨(h c).1.trans ?_, (h c).2⟩)
      (Cert.MlpRefIdeal.Value.run (F := Ideal) m' ρ')
    refine (Cert.MlpRefIdeal.Value.result_eq _).trans (Eq.trans ?_ (Cert.MlpIdeal.Value.final m c).symm)
    obtain ⟨e0, e1, e2, e3, e4, e5, e6, e7, e8, e9, e10, e11⟩ := hagree c
    have hb := fun i => Cert.Pre_y_ssm_above_neg_inf.ne_bot (hpre c) i
    show Cert.MlpRefIdeal.Value.G (m' ((c.tc : Thread Cert.MlpRefIdeal.nD Cert.MlpRefIdeal.τ).loc Cert.MlpRefIdeal.main_arg0))
      (m' ((c.tc : Thread Cert.MlpRefIdeal.nD Cert.MlpRefIdeal.τ).loc Cert.MlpRefIdeal.main_arg1))
      (m' ((c.tc : Thread Cert.MlpRefIdeal.nD Cert.MlpRefIdeal.τ).loc Cert.MlpRefIdeal.main_arg2))
      (m' ((c.tc : Thread Cert.MlpRefIdeal.nD Cert.MlpRefIdeal.τ).loc Cert.MlpRefIdeal.main_arg3))
      (m' ((c.tc : Thread Cert.MlpRefIdeal.nD Cert.MlpRefIdeal.τ).loc Cert.MlpRefIdeal.main_arg4))
      (m' ((c.tc : Thread Cert.MlpRefIdeal.nD Cert.MlpRefIdeal.τ).loc Cert.MlpRefIdeal.main_arg5))
      (m' ((c.tc : Thread Cert.MlpRefIdeal.nD Cert.MlpRefIdeal.τ).loc Cert.MlpRefIdeal.main_arg6))
      (m' ((c.tc : Thread Cert.MlpRefIdeal.nD Cert.MlpRefIdeal.τ).loc Cert.MlpRefIdeal.main_arg7))
      (m' ((c.tc : Thread Cert.MlpRefIdeal.nD Cert.MlpRefIdeal.τ).loc Cert.MlpRefIdeal.main_arg8))
      (m' ((c.tc : Thread Cert.MlpRefIdeal.nD Cert.MlpRefIdeal.τ).loc Cert.MlpRefIdeal.main_arg9))
      (m' ((c.tc : Thread Cert.MlpRefIdeal.nD Cert.MlpRefIdeal.τ).loc Cert.MlpRefIdeal.main_arg10))
      (m' ((c.tc : Thread Cert.MlpRefIdeal.nD Cert.MlpRefIdeal.τ).loc Cert.MlpRefIdeal.main_arg11)) = _
    rw [e0, e1, e2, e3, e4, e5, e6, e7, e8, e9, e10, e11]
    funext j
    have hg : ∀ i, Cert.Rows.geluR (m ((c.tc : Thread Cert.MlpIdeal.nD Cert.MlpIdeal.τ).loc Cert.MlpIdeal.main_arg1) i)
        = Cert.Rows.geluK Cert.MlpIdeal.Value.kc (m ((c.tc : Thread Cert.MlpIdeal.nD Cert.MlpIdeal.τ).loc Cert.MlpIdeal.main_arg1) i) :=
      fun i => by rw [Cert.MlpIdeal.Value.kc_eq]; exact (Cert.Rows.gelu_eq _ (hb i)).symm
    unfold Cert.MlpRefIdeal.Value.G Cert.MlpIdeal.Value.G
    exact congrArg (fun h => Cert.Rows.token h _ _ _ _ _ _ _ _ _ _ _ _) (funext fun k => hg _)

end Cert.Proof.MlpClaims
-- ==== Proof.InprojRun.lean ====
module

public import proofs.«01_k».proof.Proof.Gen.InprojIdeal.Frame
public import proofs.«01_k».proof.Proof.Gen.InprojIdeal.Skeleton
public import Idealize.ShloMosaic.Lib.Pipeline.FrameBody
public import Idealize.ShloMosaic.Lib.Ring
public import Idealize.ShloMosaic.Lib.Tactic
public import Idealize.ShloMosaic.Lib.WordCmp

/-! # The body of the input projection and short convolution, run once -/

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test: whether this is the first point of the grid. -/
abbrev isFirst (i : grid0.Coords) : Prop :=
  (Scalar.cmpi .ne (Scalar.extui (Scalar.cmpi .eq (BitVec.ofNat 32 (i 0).val) 0#32)) 0#32) = 1#1

/-- The test holds at the first point only. -/
theorem isFirst_iff : ∀ t : Fin cfg0.N, isFirst (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val % 32 = 0)

set_option maxHeartbeats 32000000 in
set_option sl_exec.squeezeSlice true in
/-- The body at the first point, the carried rows at anything: it ends with the inputs as they were and each output and scratch
    holding the pieces the run finds. -/
noncomputable def bodyRunA (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : isFirst i)
    (x0 : Vec F S8x256x1024 .f32) (x1 : Vec F S1x1024 .f32) (x2 : Vec F S1024x2048 .bf16) (x3 : Vec F S3x512 .f32) :
    Σ' (LU : List (View.Piece (Elt F) S4x2048x128 .f32)) (LY : List (View.Piece (Elt F) S8x256x512 .f32)) (LZ : List (View.Piece (Elt F) S8x8x512 .f32)),
      PLift (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LU) ∗ (∃ f, arg6.view.loc (c : Thread nD τ) ↦[arg6.view.set]{fullShare} arg6.view.writes (Elt F) f LY) ∗ (∃ f, arg7.view.loc (c : Thread nD τ) ↦[arg7.view.set]{fullShare} arg7.view.writes (Elt F) f LZ) ∗ (∃ d, owns (c : Thread nD τ) arg8 fullShare d)) -∗ K ⟨⟩))
          ⊢ wp frame (wpE (defs₀ (F := F)) Variants.none c none) E (cc0_inproj_conv i arg1 harg1 arg2 harg2 arg3 harg3 arg4 harg4 arg5 harg5 arg6 harg6 arg7 harg7 arg8 harg8) K) := by
  refine ⟨?_, ?_, ?_, ⟨fun E K => ?run⟩⟩
  case run =>
    simp only [cc0_inproj_conv_eq_skeleton]; unfold cc0_inproj_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact H7
    ipureintro; rfl

set_option maxHeartbeats 32000000 in
set_option sl_exec.squeezeSlice true in
/-- The body at a point after the first, the carried rows at `xs`: it ends with the inputs as they were and each output and scratch
    holding the pieces the run finds. -/
noncomputable def bodyRunB (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : ¬isFirst i)
    (x0 : Vec F S8x256x1024 .f32) (x1 : Vec F S1x1024 .f32) (x2 : Vec F S1024x2048 .bf16) (x3 : Vec F S3x512 .f32) (xs : Vec F S8x8x512 .f32) :
    Σ' (LU : List (View.Piece (Elt F) S4x2048x128 .f32)) (LY : List (View.Piece (Elt F) S8x256x512 .f32)) (LZ : List (View.Piece (Elt F) S8x8x512 .f32)),
      PLift (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LU) ∗ (∃ f, arg6.view.loc (c : Thread nD τ) ↦[arg6.view.set]{fullShare} arg6.view.writes (Elt F) f LY) ∗ (∃ f, arg7.view.loc (c : Thread nD τ) ↦[arg7.view.set]{fullShare} arg7.view.writes (Elt F) f LZ) ∗ (∃ d, owns (c : Thread nD τ) arg8 fullShare d)) -∗ K ⟨⟩))
          ⊢ wp frame (wpE (defs₀ (F := F)) Variants.none c none) E (cc0_inproj_conv i arg1 harg1 arg2 harg2 arg3 harg3 arg4 harg4 arg5 harg5 arg6 harg6 arg7 harg7 arg8 harg8) K) := by
  refine ⟨?_, ?_, ?_, ⟨fun E K => ?run⟩⟩
  case run =>
    simp only [cc0_inproj_conv_eq_skeleton]; unfold cc0_inproj_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact H7
    ipureintro; rfl

end Cert.InprojIdeal.Gen

end
-- ==== Proof.InprojFrame.lean ====
module

public import proofs.«01_k».proof.Proof.Gen.InprojIdeal.Frame
public import proofs.«01_k».proof.Proof.InprojRun
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

/-! # The run of the input projection and short convolution, from its body's -/

@[expose] public section

set_option maxRecDepth 16384

noncomputable section

namespace Cert.InprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer window 0 is on at point `t`. -/
abbrev ms0 (t : Fin cfg0.N) : Memref sig .tc .vmem S8x256x1024 .f32 := win0_0.stage (cfg0.slots t 0)
abbrev hs0 (t : Fin cfg0.N) : (ms0 t).IsWhole := hstage0_0 ((cfg0.slots t 0).cast nbuf0_0)
/-- The buffer window 1 is on at point `t`. -/
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
/-- The buffer window 2 is on at point `t`. -/
abbrev ms2 (t : Fin cfg0.N) : Memref sig .tc .vmem S1024x2048 .bf16 := win0_2.stage (cfg0.slots t 2)
abbrev hs2 (t : Fin cfg0.N) : (ms2 t).IsWhole := hstage0_2 ((cfg0.slots t 2).cast nbuf0_2)
/-- The buffer window 3 is on at point `t`. -/
abbrev ms3 (t : Fin cfg0.N) : Memref sig .tc .vmem S3x512 .f32 := win0_3.stage (cfg0.slots t 3)
abbrev hs3 (t : Fin cfg0.N) : (ms3 t).IsWhole := hstage0_3 ((cfg0.slots t 3).cast nbuf0_3)
/-- The buffer window 4 is on at point `t`. -/
abbrev ms4 (t : Fin cfg0.N) : Memref sig .tc .vmem S4x2048x128 .f32 := win0_4.stage (cfg0.slots t 4)
abbrev hs4 (t : Fin cfg0.N) : (ms4 t).IsWhole := hstage0_4 ((cfg0.slots t 4).cast nbuf0_4)
/-- The buffer window 5 is on at point `t`. -/
abbrev ms5 (t : Fin cfg0.N) : Memref sig .tc .vmem S8x256x512 .f32 := win0_5.stage (cfg0.slots t 5)
abbrev hs5 (t : Fin cfg0.N) : (ms5 t).IsWhole := hstage0_5 ((cfg0.slots t 5).cast nbuf0_5)
/-- The rows carried from point to point, and the projection's columns of two sub-batches. -/
abbrev scZ : Memref sig .tc .vmem S8x8x512 .f32 := Memref.whole cc0_scratch0
abbrev scP : Memref sig .tc .vmem S2x512x1536 .f32 := Memref.whole cc0_scratch1

/-- What the launch hands the body of its scratch, buffer by buffer. -/
theorem PhiA_eq (c : Dev nD) :
    (Pipeline.ΦA spec0 c : sProp 𝕄)
      = iprop(iprop((∃ d, owns (c : Thread nD τ) scZ fullShare d) ∗ (∃ d, owns (c : Thread nD τ) scP fullShare d)) ∗ (∃ r, prngReg c r)) := by
  unfold Pipeline.ΦA; rw [scopedRest0_eq]; simp only [scZ, scP, owns_whole]; try rfl

/-- The body's run at a point that is the first, on the buffers and blocks of that point. -/
def runA (c : Dev nD) (t : Fin cfg0.N) (h : isFirst (grid0.coords t)) :=
  bodyRunA c (grid0.coords t) (ms0 t) (hs0 t) (ms1 t) (hs1 t) (ms2 t) (hs2 t) (ms3 t) (hs3 t) (ms4 t) (hs4 t) (ms5 t) (hs5 t) scZ (Memref.isWhole_whole _) scP (Memref.isWhole_whole _) h (iblk m c 0 t) (iblk m c 1 t) (iblk m c 2 t) (iblk m c 3 t)

/-- The body's run at a later point, the carried rows at `xs`. -/
def runB (c : Dev nD) (t : Fin cfg0.N) (h : ¬isFirst (grid0.coords t)) (xs : Vec F S8x8x512 .f32) :=
  bodyRunB c (grid0.coords t) (ms0 t) (hs0 t) (ms1 t) (hs1 t) (ms2 t) (hs2 t) (ms3 t) (hs3 t) (ms4 t) (hs4 t) (ms5 t) (hs5 t) scZ (Memref.isWhole_whole _) scP (Memref.isWhole_whole _) h (iblk m c 0 t) (iblk m c 1 t) (iblk m c 2 t) (iblk m c 3 t) xs

open Classical in
/-- What the body leaves in the first result's block. -/
def outU (c : Dev nD) (t : Fin cfg0.N) (xs : Vec F S8x8x512 .f32) : Vec F S4x2048x128 .f32 :=
  if h : isFirst (grid0.coords t) then (ms4 t).view.read (Elt F) ((ms4 t).view.writes (Elt F) (ms4 t).view.junk (runA m c t h).1) else (ms4 t).view.read (Elt F) ((ms4 t).view.writes (Elt F) (ms4 t).view.junk (runB m c t h xs).1)

open Classical in
/-- What the body leaves in the second result's block. -/
def outY (c : Dev nD) (t : Fin cfg0.N) (xs : Vec F S8x8x512 .f32) : Vec F S8x256x512 .f32 :=
  if h : isFirst (grid0.coords t) then (ms5 t).view.read (Elt F) ((ms5 t).view.writes (Elt F) (ms5 t).view.junk (runA m c t h).2.1) else (ms5 t).view.read (Elt F) ((ms5 t).view.writes (Elt F) (ms5 t).view.junk (runB m c t h xs).2.1)

open Classical in
/-- What the body leaves in the carried rows. -/
def outZ (c : Dev nD) (t : Fin cfg0.N) (xs : Vec F S8x8x512 .f32) : Vec F S8x8x512 .f32 :=
  if h : isFirst (grid0.coords t) then scZ.view.read (Elt F) (scZ.view.writes (Elt F) scZ.view.junk (runA m c t h).2.2.1) else scZ.view.read (Elt F) (scZ.view.writes (Elt F) scZ.view.junk (runB m c t h xs).2.2.1)

/-- The carried rows before position `n`: at anything before the first, then what the point before left. -/
def carried (c : Dev nD) : (n : ℕ) → n ≤ cfg0.N → Vec F S8x8x512 .f32
  | 0, _ => scZ.view.read (Elt F) scZ.view.junk
  | n + 1, hn => outZ m c ⟨n, hn⟩ (carried c n (Nat.le_of_succ_le hn))

/-- Every index of the first result's block lies in the strided rectangle of its leading coordinate and its
    position modulo eight. -/
theorem mem_strided (j b : ℕ) (inb) (hp) (y : S4x2048x128.Idx) (hj : (y 0).val = j) (hb : (y 1).val % 8 = b) :
    y ∈ (⟨⟨![j, b, 0], S1x256x128.size, ![1, 8, 1], inb⟩, hp⟩ : Rect S4x2048x128).set := by
  refine (LoadRect.mem_set _).mpr fun a => ?_
  have h0 := (y 0).isLt
  have h1 := (y 1).isLt
  have h2 := (y 2).isLt
  match a with
  | 0 => exact ⟨0, Nat.zero_lt_one, by simpa using hj⟩
  | 1 => exact ⟨(y 1).val / 8, by change (y 1).val < 2048 at h1; change (y 1).val / 8 < 256; omega, by
      change (y 1).val = b + 8 * ((y 1).val / 8); omega⟩
  | 2 => exact ⟨(y 2).val, h2, by change (y 2).val = 0 + 1 * (y 2).val; omega⟩
/-- The strided pieces cover the first result's block. -/
theorem coverU_A (c : Dev nD) (t : Fin cfg0.N) (h) (y : S4x2048x128.Idx) : ∃ pc ∈ (runA m c t h).1, y ∈ pc.1.set := by
  have h0 : (y 0).val < 4 := (y 0).isLt
  have h1 : (y 1).val % 8 < 8 := Nat.mod_lt _ (by decide)
  suffices H : ∀ b j : ℕ, b < 8 → j < 4 → (y 1).val % 8 = b → (y 0).val = j → ∃ pc ∈ (runA m c t h).1, y ∈ pc.1.set from
    H _ _ h1 h0 rfl rfl
  intro b j h1 h0 hb hj
  have hlen : 31 - (4 * b + j) < (runA m c t h).1.length := by show 31 - (4 * b + j) < 32; omega
  refine ⟨(runA m c t h).1[31 - (4 * b + j)], List.getElem_mem hlen, ?_⟩
  have hb' : b = 0 ∨ b = 1 ∨ b = 2 ∨ b = 3 ∨ b = 4 ∨ b = 5 ∨ b = 6 ∨ b = 7 := by omega
  have hj' : j = 0 ∨ j = 1 ∨ j = 2 ∨ j = 3 := by omega
  rcases hb' with rfl | rfl | rfl | rfl | rfl | rfl | rfl | rfl <;> rcases hj' with rfl | rfl | rfl | rfl <;>
    exact mem_strided _ _ _ _ y hj hb

/-- The strided pieces cover the first result's block. -/
theorem coverU_B (c : Dev nD) (t : Fin cfg0.N) (h) (xs) (y : S4x2048x128.Idx) : ∃ pc ∈ (runB m c t h xs).1, y ∈ pc.1.set := by
  have h0 : (y 0).val < 4 := (y 0).isLt
  have h1 : (y 1).val % 8 < 8 := Nat.mod_lt _ (by decide)
  suffices H : ∀ b j : ℕ, b < 8 → j < 4 → (y 1).val % 8 = b → (y 0).val = j → ∃ pc ∈ (runB m c t h xs).1, y ∈ pc.1.set from
    H _ _ h1 h0 rfl rfl
  intro b j h1 h0 hb hj
  have hlen : 31 - (4 * b + j) < (runB m c t h xs).1.length := by show 31 - (4 * b + j) < 32; omega
  refine ⟨(runB m c t h xs).1[31 - (4 * b + j)], List.getElem_mem hlen, ?_⟩
  have hb' : b = 0 ∨ b = 1 ∨ b = 2 ∨ b = 3 ∨ b = 4 ∨ b = 5 ∨ b = 6 ∨ b = 7 := by omega
  have hj' : j = 0 ∨ j = 1 ∨ j = 2 ∨ j = 3 := by omega
  rcases hb' with rfl | rfl | rfl | rfl | rfl | rfl | rfl | rfl <;> rcases hj' with rfl | rfl | rfl | rfl <;>
    exact mem_strided _ _ _ _ y hj hb

theorem coverY_A (c : Dev nD) (t : Fin cfg0.N) (h) (y : S8x256x512.Idx) : ∃ pc ∈ (runA m c t h).2.1, y ∈ pc.1.set :=
  View.cover_of_tiledL (runA m c t h).2.1 S2x256x512.size (by sl_kernel_rfl) y

theorem coverY_B (c : Dev nD) (t : Fin cfg0.N) (h) (xs) (y : S8x256x512.Idx) : ∃ pc ∈ (runB m c t h xs).2.1, y ∈ pc.1.set :=
  View.cover_of_tiledL (runB m c t h xs).2.1 S2x256x512.size (by sl_kernel_rfl) y

theorem coverZ_B (c : Dev nD) (t : Fin cfg0.N) (h) (xs) (y : S8x8x512.Idx) : ∃ pc ∈ (runB m c t h xs).2.2.1, y ∈ pc.1.set :=
  View.cover_of_tiledL (runB m c t h xs).2.2.1 S2x8x512.size (by sl_kernel_rfl) y

/-- The first point's pieces cover the carried rows: the last of them zeroes the whole. -/
theorem coverZ_A (c : Dev nD) (t : Fin cfg0.N) (h) (y : S8x8x512.Idx) : ∃ pc ∈ (runA m c t h).2.2.1, y ∈ pc.1.set := by
  have hc := View.cover_of_tiledL ((runA m c t h).2.2.1.take 4) S2x8x512.size (by sl_kernel_rfl) y
  obtain ⟨pc, hp, hy⟩ := hc
  exact ⟨pc, List.mem_of_mem_take hp, hy⟩

/-! ## The pipeline's proof data -/

/-- The scratch before position `n`. -/
def PhiS (c : Dev nD) : (n : ℕ) → n ≤ cfg0.N → sProp 𝕄
  | 0, _ => Pipeline.ΦA spec0 c
  | n + 1, hn => iprop(iprop(owns (c : Thread nD τ) scZ fullShare (carried m c (n + 1) hn) ∗ (∃ d, owns (c : Thread nD τ) scP fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scZ fullShare (carried m c n h) ∗ (∃ d, owns (c : Thread nD τ) scP fullShare d)) ∗ (∃ r, prngReg c r)) := by
  cases n with
  | zero => exact absurd rfl hz
  | succ n => rfl

/-- What is known of the pipeline on a core: the arrays as the region finds them; after each point the inputs' buffers at
    their blocks and the results' at what the body leaves there; the carried rows between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outU m c t (carried m c t.val (Nat.le_of_lt t.isLt))
    | ⟨5, _⟩ => outY m c t (carried m c t.val (Nat.le_of_lt t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outU m c t (carried m c t.val (Nat.le_of_lt t.isLt)) := by dsimp only [dats]
theorem after0_5 (c : Dev nD) (t : Fin cfg0.N) :
    (dats m 0 c).after 5 t = outY m c t (carried m c t.val (Nat.le_of_lt t.isLt)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 6400000 in
/-- The body at any point: its case's run on the buffers of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_pos m c _ _ (Nat.succ_ne_zero _)]
  rw [show carried m c (t.val + 1) t.isLt = outZ m c t (carried m c t.val (Nat.le_of_lt t.isLt)) from rfl]
  have hN : t.val < 32 := lt_of_lt_of_eq t.isLt (show cfg0.N = 32 from N_0)
  by_cases hz : t.val = 0
  · have h : isFirst (grid0.coords t) := (isFirst_iff t).mpr (by rw [hz])
    rw [PhiS_castSucc m c t, PhiS_zero m c _ _ hz, PhiA_eq]
    simp only [outU, outY, outZ, dif_pos h]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runA m c t h).2.2.2.down Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es, HS0⟩, HS1⟩
    isplitl [HS0 HS1 Hg]
    · isplitl [HS0 HS1]
      · isplitl [HS0]
        · unfold owns; iexists _; isplitr
          swap; · iexact HS0
          ipureintro; exact View.read_writes_of_cover _ _ _ _ _ (coverZ_A m c t h)
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverU_A m c t h)
    unfold owns; iexists _; isplitr
    swap; · iexact H5
    ipureintro; exact View.read_writes_of_cover _ _ _ _ _ (coverY_A m c t h)
  · have h : ¬isFirst (grid0.coords t) := fun h => hz (by have := (isFirst_iff t).mp h; omega)
    rw [PhiS_castSucc m c t, PhiS_pos m c _ _ hz]
    simp only [outU, outY, outZ, dif_neg h]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runB m c t h _).2.2.2.down Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es, HS0⟩, HS1⟩
    isplitl [HS0 HS1 Hg]
    · isplitl [HS0 HS1]
      · isplitl [HS0]
        · unfold owns; iexists _; isplitr
          swap; · iexact HS0
          ipureintro; exact View.read_writes_of_cover _ _ _ _ _ (coverZ_B m c t h _)
        iexact HS1
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverU_B m c t h _)
    unfold owns; iexists _; isplitr
    swap; · iexact H5
    ipureintro; exact View.read_writes_of_cover _ _ _ _ _ (coverY_B m c t h _)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the scratch before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried rows are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [show cfg0.N = 32 from N_0]; decide), PhiA_eq]
  iintro ⟨⟨HS0, HS1⟩, Hg⟩
  isplitl [HS0 HS1]
  · isplitl [HS0]
    · iexists _; iexact HS0
    iexact HS1
  iexact Hg

/-! ## The run and the frame -/

set_option backward.isDefEq.respectTransparency.types false in
/-- The run: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InprojIdeal.Gen

end
-- ==== Proof.InprojRows.lean ====
module

public import proofs.«01_k».proof.Proof.Rows

/-! # One token of the layer's first call, as a function of its rows -/

@[expose] public section

set_option maxRecDepth 16384

noncomputable section

namespace Cert.Rows

open Idealize.ShloMosaic

/-- Column `n` of a token's projection: its normalized row times the matrix's column. -/
def projRow (x g : Row 1024) (w : Fin 1024 → Fin 2048 → EReal) (n : Fin 2048) : EReal :=
  ∑ k, rms (Ideal.ofBits .f32 0x44800000#32) x g k * w k n

/-- The convolution's input at a token: the product of two of the projection's quarters. -/
def gated (p : Fin 2048 → EReal) (l : Fin 512) : EReal :=
  p ⟨1536 + l.val, by omega⟩ * p ⟨512 + l.val, by omega⟩

/-- The convolution of three successive inputs, with the weights `cw`, times its gate. -/
def conv3 (cw : Fin 3 → Fin 512 → EReal) (bg z2 z1 z : EReal) (l : Fin 512) : EReal :=
  bg * (cw 0 l * z2 + cw 1 l * z1 + cw 2 l * z)

/-- A token's projection over the argument arrays: token `s` of sequence `b`. -/
def tok (a0 : FVec Ideal ⟨3, ![8, 8192, 1024]⟩ .f32) (a1 : FVec Ideal ⟨2, ![1, 1024]⟩ .f32) (a2 : FVec Ideal ⟨3, ![1, 1024, 2048]⟩ .f32)
    (b : Fin 8) (s : Fin 8192) : Fin 2048 → EReal :=
  projRow (fun k => a0 (ix3 b s k)) (fun k => a1 (ix2 0 k)) (fun p q => a2 (ix3 0 p q))

/-- The convolution's input `n` tokens before token `s` of a sequence, zero before the first. -/
def ago (p : Fin 8192 → Fin 2048 → EReal) (n : ℕ) (s : Fin 8192) (l : Fin 512) : EReal :=
  if s.val < n then 0 else gated (p ⟨s.val - n, by omega⟩) l

/-- The scan's input, by channel tile, then token and sequence, then channel. -/
def uOut (a0 : FVec Ideal ⟨3, ![8, 8192, 1024]⟩ .f32) (a1 : FVec Ideal ⟨2, ![1, 1024]⟩ .f32) (a2 : FVec Ideal ⟨3, ![1, 1024, 2048]⟩ .f32) :
    FVec Ideal ⟨3, ![4, 65536, 128]⟩ .f32 := fun j =>
  tok a0 a1 a2 ⟨(j 1).val % 8, by omega⟩ ⟨(j 1).val / 8, by have h : (j 1).val < 65536 := (j 1).isLt; omega⟩
    ⟨128 * (j 0).val + (j 2).val, by have h : (j 0).val < 4 := (j 0).isLt; have h' : (j 2).val < 128 := (j 2).isLt; omega⟩

/-- The short convolution's output at one channel of one token. -/
def convOut (p : Fin 8192 → Fin 2048 → EReal) (cw : Fin 3 → Fin 512 → EReal) (s : Fin 8192) (l : Fin 512) : EReal :=
  conv3 cw (p s ⟨1024 + l.val, by omega⟩) (ago p 2 s l) (ago p 1 s l) (gated (p s) l) l

/-- The short convolution's output. -/
def yOut (a0 : FVec Ideal ⟨3, ![8, 8192, 1024]⟩ .f32) (a1 : FVec Ideal ⟨2, ![1, 1024]⟩ .f32) (a2 : FVec Ideal ⟨3, ![1, 1024, 2048]⟩ .f32)
    (a3 : FVec Ideal ⟨3, ![1, 3, 512]⟩ .f32) : FVec Ideal ⟨3, ![8, 8192, 512]⟩ .f32 := fun j =>
  convOut (tok a0 a1 a2 (j 0)) (fun p q => a3 (ix3 0 p q)) (j 1) (j 2)

end Cert.Rows
-- ==== Proof.InprojBlock.lean ====
module

public import proofs.«01_k».proof.Proof.InprojFrame
public import proofs.«01_k».proof.Proof.InprojRows
public import Idealize.ShloMosaic.Lib.Pipeline.ValueKit
public import Idealize.ShloMosaic.Lib.WholeRead

/-! # What the input projection's body computes, sub-block by sub-block -/

@[expose] public section

set_option maxRecDepth 16384

noncomputable section

namespace Cert.InprojIdeal.Value

open Cert.InprojIdeal Cert.InprojIdeal.Gen Cert.Rows
open Idealize.ShloMosaic Idealize.ShloMosaic.TcCoe Idealize.SL.Sem

/-- The projection of two sequences' rows, row `256 * b + s` of the product being token `s` of sequence `b`. -/
theorem proj_at (xr : FVec Ideal S2x256x1024 .f32) (x1 : FVec Ideal S1x1024 .f32) (x2 : FVec Ideal S1024x2048 .bf16)
    (s : Fin 512) (n : Fin 2048) :
    k0_pay4 (F := Ideal) xr x1 x2 (ix2 s n)
      = projRow (fun k => xr (ix3 ⟨s.val / 256, by omega⟩ ⟨s.val % 256, by omega⟩ k)) (fun k => x1 (ix2 0 k)) (fun p q => x2 (ix2 p q)) n := by
  pointwise [k0_pay4, projRow, rms]

/-- The convolution's input `n` tokens back, within two sequences' blocks: the carried rows where the block has none. -/
def back (n : ℕ) (h cg : FVec Ideal S512x512 .f32) (prev : FVec Ideal S2x8x512 .f32) (b : Fin 2) (s : Fin 256) (l : Fin 512) : EReal :=
  if s.val < n then prev (ix3 b ⟨(s.val + 8 - n) % 8, by omega⟩ l)
  else cg (ix2 ⟨b.val * 256 + (s.val + 256 - n) % 256, by omega⟩ l) * h (ix2 ⟨b.val * 256 + (s.val + 256 - n) % 256, by omega⟩ l)

/-- A choice by the kernel's signed comparison with two, below eight. -/
theorem sel2 (s : ℕ) (hs : s < 8) (a b : EReal) :
    Scalar.select (IntOp.cmpi CmpIPredicate.slt (BitVec.ofNat 32 s) 2#32) a b = if s < 2 then a else b := by
  rcases (by omega : s = 0 ∨ s = 1 ∨ s = 2 ∨ s = 3 ∨ s = 4 ∨ s = 5 ∨ s = 6 ∨ s = 7) with
    rfl | rfl | rfl | rfl | rfl | rfl | rfl | rfl <;> rfl

/-- A choice by the kernel's signed comparison with one, below eight. -/
theorem sel1 (s : ℕ) (hs : s < 8) (a b : EReal) :
    Scalar.select (IntOp.cmpi CmpIPredicate.slt (BitVec.ofNat 32 s) 1#32) a b = if s < 1 then a else b := by
  rcases (by omega : s = 0 ∨ s = 1 ∨ s = 2 ∨ s = 3 ∨ s = 4 ∨ s = 5 ∨ s = 6 ∨ s = 7) with
    rfl | rfl | rfl | rfl | rfl | rfl | rfl | rfl <;> rfl

/-- The short convolution of two sequences' blocks. -/
theorem conv_at (x3 : FVec Ideal S3x512 .f32) (h bg cg : FVec Ideal S512x512 .f32) (prev : FVec Ideal S2x8x512 .f32)
    (b : Fin 2) (s : Fin 256) (l : Fin 512) :
    k0_pay30 (F := Ideal) x3 h bg cg prev (ix3 b s l)
      = conv3 (fun p q => x3 (ix2 p q)) (bg (ix2 ⟨b.val * 256 + s.val, by omega⟩ l)) (back 2 h cg prev b s l) (back 1 h cg prev b s l)
        (cg (ix2 ⟨b.val * 256 + s.val, by omega⟩ l) * h (ix2 ⟨b.val * 256 + s.val, by omega⟩ l)) l := by
  by_cases hs : s.val < 8
  · pointwise [k0_pay30, k0_pay28, k0_pay27, conv3, back]
    rw [dif_pos hs, dif_pos hs, sel1 _ hs, sel2 _ hs]
  · pointwise [k0_pay30, k0_pay28, k0_pay27, conv3, back]
    have e : 8 + (s.val - 8) = s.val := by omega
    rw [dif_neg hs, dif_neg hs, if_neg (by omega : ¬s.val < 2), if_neg (by omega : ¬s.val < 1)]
    simp only [e]

/-- What the convolution carries to the next block: the last eight tokens' inputs. -/
theorem carry_at (h cg : FVec Ideal S512x512 .f32) (b : Fin 2) (s : Fin 8) (l : Fin 512) :
    k0_pay29 (F := Ideal) h cg (ix3 b s l)
      = cg (ix2 ⟨b.val * 256 + (248 + s.val), by omega⟩ l) * h (ix2 ⟨b.val * 256 + (248 + s.val), by omega⟩ l) := by
  pointwise [k0_pay29, k0_pay28, k0_pay27]

/-! ## The body's loads -/

/-- Two of the block's sequences. -/
def xr (r : Fin 4) (x0 : FVec Ideal S8x256x1024 .f32) : FVec Ideal S2x256x1024 .f32 :=
  fun i => x0 (ix3 ⟨2 * r.val + (i 0).val, by have h : (i 0).val < 2 := (i 0).isLt; omega⟩ (i 1) (i 2))

/-- The projection of two of the block's sequences. -/
def P (r : Fin 4) (x0 : FVec Ideal S8x256x1024 .f32) (x1 : FVec Ideal S1x1024 .f32) (x2 : FVec Ideal S1024x2048 .bf16) :
    FVec Ideal S512x2048 .f32 := k0_pay4 (F := Ideal) (xr r x0) x1 x2

/-- Five hundred and twelve of a product's columns, the first of them `o`. -/
def cols (o : ℕ) (ho : o ≤ 1536) (p : FVec Ideal S512x2048 .f32) : FVec Ideal S512x512 .f32 :=
  fun i => p (ix2 (i 0) ⟨o + (i 1).val, by have h : (i 1).val < 512 := (i 1).isLt; omega⟩)

section
variable {sg : RefSig} {κ' : Kind} {sp : Space}

/-- A load of two sequences of the staged block. -/
theorem ld0 (r : Fin 4) (mr : Memref sg κ' sp S8x256x1024 .f32) (h : mr.IsWhole) (x0 : FVec Ideal S8x256x1024 .f32) (o : ℕ) (ho : o = 2 * r.val) (inb) :
    View.readAt (Elt Ideal) mr.view (Rect.unit (s := S8x256x1024) ![o, 0, 0] ![2, 256, 1024] inb).toLoadRect (h.unread x0) = xr r x0 := by
  subst ho
  funext x
  refine Eq.trans (h.readAt_unread (Val := Elt Ideal) (show S8x256x1024.Idx → Elt Ideal .f32 from x0) _ x) ?_
  refine congrArg x0 ?_
  funext a
  match a with
  | 0 => exact Fin.ext (by change 2 * r.val + 1 * (x 0).val = 2 * r.val + (x 0).val; omega)
  | 1 => exact Fin.ext (by change 0 + 1 * (x 1).val = (x 1).val; omega)
  | 2 => exact Fin.ext (by change 0 + 1 * (x 2).val = (x 2).val; omega)

/-- A load of the whole of a staged matrix. -/
theorem ldw {n0 n1 : ℕ} {e : EltTy} (mr : Memref sg κ' sp (⟨2, ![n0, n1]⟩ : Shape) e) (h : mr.IsWhole) (x1 : (⟨2, ![n0, n1]⟩ : Shape).Idx → Elt Ideal e) (inb) :
    View.readAt (Elt Ideal) mr.view (Rect.unit (s := (⟨2, ![n0, n1]⟩ : Shape)) ![0, 0] (⟨2, ![n0, n1]⟩ : Shape).size inb).toLoadRect (h.unread x1) = x1 := by
  funext x
  refine (h.readAt_unread x1 _ x).trans (congrArg x1 ?_)
  funext a
  match a with
  | 0 => exact Fin.ext (by change 0 + 1 * (x 0).val = (x 0).val; omega)
  | 1 => exact Fin.ext (by change 0 + 1 * (x 1).val = (x 1).val; omega)

/-- The projection scratch at a slot just written. -/
theorem slot_hit (a : ℕ) (ha : a < 2) (inb) (w : FVec Ideal S1x512x1536 .f32) (L : List (View.Piece (Elt Ideal) S2x512x1536 .f32)) (i : Fin 512) (n : Fin 1536) :
    View.canon (⟨Rect.unit (s := S2x512x1536) ![a, 0, 0] ![1, 512, 1536] inb, w⟩ :: L) (ix3 ⟨a, ha⟩ i n) = w (ix3 0 i n) := by
  have e : (Rect.unit (s := S2x512x1536) ![a, 0, 0] ![1, 512, 1536] inb).emb (ix3 0 i n) = (ix3 ⟨a, ha⟩ i n : S2x512x1536.Idx) := by
    funext x
    match x with
    | 0 => exact Fin.ext (by change a + 1 * 0 = a; omega)
    | 1 => exact Fin.ext (by change 0 + 1 * i.val = i.val; omega)
    | 2 => exact Fin.ext (by change 0 + 1 * n.val = n.val; omega)
  rw [← e]
  exact View.canon_cons_emb (Val := Elt Ideal) (e := .f32) (Rect.unit (s := S2x512x1536) ![a, 0, 0] ![1, 512, 1536] inb) w L (ix3 0 i n)

/-- The projection scratch at the other slot. -/
theorem slot_miss (a a' : ℕ) (ha : a < 2) (hne : a ≠ a') (inb) (w : FVec Ideal S1x512x1536 .f32) (L : List (View.Piece (Elt Ideal) S2x512x1536 .f32)) (i : Fin 512) (n : Fin 1536) :
    View.canon (⟨Rect.unit (s := S2x512x1536) ![a', 0, 0] ![1, 512, 1536] inb, w⟩ :: L) (ix3 ⟨a, ha⟩ i n) = View.canon L (ix3 ⟨a, ha⟩ i n) := by
  refine View.canon_cons_of_not_mem (Val := Elt Ideal) (e := .f32) _ L fun hm => ?_
  obtain ⟨j, hj, e⟩ := (LoadRect.mem_set _).mp hm 0
  change j < 1 at hj
  change a = a' + 1 * j at e
  omega

/-- A load from a slot of the projection scratch. -/
theorem ldp (a o : ℕ) (ha : a < 2) (ho : o ≤ 1024) (v : View sg κ' sp S2x512x1536 .f32) (L : List (View.Piece (Elt Ideal) S2x512x1536 .f32)) (inb) (inb') (h0) (hs) (hst) (hR) :
    (LoadRect.valAlong (lr := (Rect.unit (s := S512x1536) ![0, o] ![512, 512] inb').toLoadRect) hR (v.readCov L ((Rect.unit (s := S2x512x1536) ![a, 0, 0] ![1, 512, 1536] inb).withinL
        ((Rect.unit (s := S512x1536) ![0, o] ![512, 512] inb').toLoadRect.consLift ![1, 512, 1536] h0 hs) hst)) : FVec Ideal S512x512 .f32)
      = fun y => View.canon L (ix3 ⟨a, ha⟩ (y 0) ⟨o + (y 1).val, by have h : (y 1).val < 512 := (y 1).isLt; omega⟩) := by
  rw [View.readCov_eq_canon']
  funext y
  refine congrArg (View.canon L) ?_
  have hx : Shape.reshapeEquiv hR y = Fin.cons ⟨0, Nat.one_pos⟩ y := Shape.reshapeEquiv_cons_one (d := ![512, 512]) _ _
  rw [hx]
  funext x
  match x with
  | 0 => exact Fin.ext (by change a + 0 + 1 * 0 = a; omega)
  | 1 => exact Fin.ext (by change 0 + 0 + 1 * (y 0).val = (y 0).val; omega)
  | 2 => exact Fin.ext (by change 0 + o + 1 * (y 1).val = o + (y 1).val; omega)

end

/-- What the projection scratch is given of a product: its columns past the first quarter. -/
theorem pj_at (p : FVec Ideal S512x2048 .f32) (i : Fin 512) (n : Fin 1536) :
    k0_pay14 (F := Ideal) p (ix3 0 i n) = p (ix2 i ⟨512 + n.val, by omega⟩) := by
  pointwise [k0_pay14]

end Cert.InprojIdeal.Value
-- ==== Proof.InprojPieces.lean ====
module

public import proofs.«01_k».proof.Proof.InprojBlock

/-! # What the input projection's body stores, piece by piece -/

@[expose] public section

set_option maxRecDepth 16384

noncomputable section

namespace Cert.InprojIdeal.Value

open Cert.InprojIdeal Cert.InprojIdeal.Gen Cert.Rows
open Idealize.ShloMosaic Idealize.ShloMosaic.TcCoe Idealize.SL.Sem

section
variable {sg : RefSig} {κ' : Kind} {sp : Space}

/-- A load of a slot written last but one: the columns of the product stored there. -/
theorem ldp_miss (a a' o oo : ℕ) (ha : a < 2) (ho : o ≤ 1024) (hne : a ≠ a') (hoo : oo = 512 + o) (p : FVec Ideal S512x2048 .f32) (w' : FVec Ideal S1x512x1536 .f32)
    (v : View sg κ' sp S2x512x1536 .f32) (L : List (View.Piece (Elt Ideal) S2x512x1536 .f32)) (inb1) (inb2) (inb) (inb') (h0) (hs) (hst) (hR) :
    (LoadRect.valAlong (lr := (Rect.unit (s := S512x1536) ![0, o] ![512, 512] inb').toLoadRect) hR (v.readCov
      (⟨Rect.unit (s := S2x512x1536) ![a', 0, 0] ![1, 512, 1536] inb1, w'⟩ :: ⟨Rect.unit (s := S2x512x1536) ![a, 0, 0] ![1, 512, 1536] inb2, k0_pay14 (F := Ideal) p⟩ :: L)
      ((Rect.unit (s := S2x512x1536) ![a, 0, 0] ![1, 512, 1536] inb).withinL
        ((Rect.unit (s := S512x1536) ![0, o] ![512, 512] inb').toLoadRect.consLift ![1, 512, 1536] h0 hs) hst)) : FVec Ideal S512x512 .f32)
      = cols oo (by omega) p := by
  subst hoo
  rw [ldp a o ha ho]
  funext y
  refine (slot_miss a a' ha hne inb1 w' _ _ _).trans ?_
  refine (slot_hit a ha inb2 _ L _ _).trans ?_
  refine (pj_at p _ _).trans ?_
  refine congrArg (fun n => p (ix2 (y 0) n)) (Fin.ext ?_)
  change 512 + (o + (y 1).val) = 512 + o + (y 1).val
  omega

/-- A load of the slot written last. -/
theorem ldp_hit (a o oo : ℕ) (ha : a < 2) (ho : o ≤ 1024) (hoo : oo = 512 + o) (p : FVec Ideal S512x2048 .f32)
    (v : View sg κ' sp S2x512x1536 .f32) (L : List (View.Piece (Elt Ideal) S2x512x1536 .f32)) (inb2) (inb) (inb') (h0) (hs) (hst) (hR) :
    (LoadRect.valAlong (lr := (Rect.unit (s := S512x1536) ![0, o] ![512, 512] inb').toLoadRect) hR (v.readCov
      (⟨Rect.unit (s := S2x512x1536) ![a, 0, 0] ![1, 512, 1536] inb2, k0_pay14 (F := Ideal) p⟩ :: L)
      ((Rect.unit (s := S2x512x1536) ![a, 0, 0] ![1, 512, 1536] inb).withinL
        ((Rect.unit (s := S512x1536) ![0, o] ![512, 512] inb').toLoadRect.consLift ![1, 512, 1536] h0 hs) hst)) : FVec Ideal S512x512 .f32)
      = cols oo (by omega) p := by
  subst hoo
  rw [ldp a o ha ho]
  funext y
  refine (slot_hit a ha inb2 _ L _ _).trans ?_
  refine (pj_at p _ _).trans ?_
  refine congrArg (fun n => p (ix2 (y 0) n)) (Fin.ext ?_)
  change 512 + (o + (y 1).val) = 512 + o + (y 1).val
  omega

/-- Two sequences of the carried rows. -/
def prev (r : Fin 4) (xs : FVec Ideal S8x8x512 .f32) : FVec Ideal S2x8x512 .f32 :=
  fun i => xs (ix3 ⟨2 * r.val + (i 0).val, by have h : (i 0).val < 2 := (i 0).isLt; omega⟩ (i 1) (i 2))

/-- A load of two sequences of the carried rows. -/
theorem ld6 (r : Fin 4) (mr : Memref sg κ' sp S8x8x512 .f32) (h : mr.IsWhole) (xs : FVec Ideal S8x8x512 .f32) (o : ℕ) (ho : o = 2 * r.val) (inb) :
    View.readAt (Elt Ideal) mr.view (Rect.unit (s := S8x8x512) ![o, 0, 0] ![2, 8, 512] inb).toLoadRect (h.unread xs) = prev r xs := by
  subst ho
  funext x
  refine Eq.trans (h.readAt_unread (Val := Elt Ideal) (show S8x8x512.Idx → Elt Ideal .f32 from xs) _ x) ?_
  refine congrArg xs ?_
  funext a
  match a with
  | 0 => exact Fin.ext (by change 2 * r.val + 1 * (x 0).val = 2 * r.val + (x 0).val; omega)
  | 1 => exact Fin.ext (by change 0 + 1 * (x 1).val = (x 1).val; omega)
  | 2 => exact Fin.ext (by change 0 + 1 * (x 2).val = (x 2).val; omega)

/-- A load of the whole of a staged matrix. -/
theorem ldw1 (mr : Memref sg κ' sp S1x1024 .f32) (h : mr.IsWhole) (x1 : FVec Ideal S1x1024 .f32) (inb) :
    View.readAt (Elt Ideal) mr.view (Rect.unit (s := S1x1024) ![0, 0] ![1, 1024] inb).toLoadRect (h.unread x1) = x1 :=
  ldw mr h x1 inb

/-- A load of the whole of a staged matrix. -/
theorem ldw2 (mr : Memref sg κ' sp S1024x2048 .bf16) (h : mr.IsWhole) (x1 : FVec Ideal S1024x2048 .bf16) (inb) :
    View.readAt (Elt Ideal) mr.view (Rect.unit (s := S1024x2048) ![0, 0] ![1024, 2048] inb).toLoadRect (h.unread x1) = x1 :=
  ldw mr h x1 inb

/-- A load of the whole of a staged matrix. -/
theorem ldw3 (mr : Memref sg κ' sp S3x512 .f32) (h : mr.IsWhole) (x1 : FVec Ideal S3x512 .f32) (inb) :
    View.readAt (Elt Ideal) mr.view (Rect.unit (s := S3x512) ![0, 0] ![3, 512] inb).toLoadRect (h.unread x1) = x1 :=
  ldw mr h x1 inb

end

/-! ## The sub-blocks' payloads, one function -/

/-- The first sub-block's projection. -/
theorem P0_eq (x0 : FVec Ideal S8x256x1024 .f32) (x1 : FVec Ideal S1x1024 .f32) (x2 : FVec Ideal S1024x2048 .bf16) : k0_pay4 (F := Ideal) (xr 0 x0) x1 x2 = P 0 x0 x1 x2 := rfl

/-- The second sub-block's projection. -/
theorem P1_eq (x0 : FVec Ideal S8x256x1024 .f32) (x1 : FVec Ideal S1x1024 .f32) (x2 : FVec Ideal S1024x2048 .bf16) : k0_pay16 (F := Ideal) (k0_pay15 (F := Ideal) (xr 1 x0)) x1 x2 = P 1 x0 x1 x2 := rfl

/-- The third sub-block's projection. -/
theorem P2_eq (x0 : FVec Ideal S8x256x1024 .f32) (x1 : FVec Ideal S1x1024 .f32) (x2 : FVec Ideal S1024x2048 .bf16) : k0_pay31 (F := Ideal) (xr 2 x0) x1 x2 = P 2 x0 x1 x2 := rfl

/-- The fourth sub-block's projection. -/
theorem P3_eq (x0 : FVec Ideal S8x256x1024 .f32) (x1 : FVec Ideal S1x1024 .f32) (x2 : FVec Ideal S1024x2048 .bf16) : k0_pay45 (F := Ideal) (xr 3 x0) x1 x2 = P 3 x0 x1 x2 := rfl

/-- What the projection scratch is given is one function of the product. -/
theorem pj1_eq : k0_pay26 (F := Ideal) = k0_pay14 (F := Ideal) := rfl

/-- What the projection scratch is given is one function of the product. -/
theorem pj2_eq : k0_pay40 (F := Ideal) = k0_pay14 (F := Ideal) := rfl

/-- What the projection scratch is given is one function of the product. -/
theorem pj3_eq : k0_pay55 (F := Ideal) = k0_pay14 (F := Ideal) := rfl

/-- What the convolution carries is one function. -/
theorem carry1_eq : k0_pay43 (F := Ideal) = k0_pay29 (F := Ideal) := rfl

/-- What the convolution carries is one function. -/
theorem carry2_eq : k0_pay58 (F := Ideal) = k0_pay29 (F := Ideal) := rfl

/-- What the convolution carries is one function. -/
theorem carry3_eq : k0_pay63 (F := Ideal) = k0_pay29 (F := Ideal) := rfl

/-- The second sub-block's convolution is the first's. -/
theorem conv1_eq : k0_pay44 (F := Ideal) = k0_pay30 (F := Ideal) := rfl

/-- The third sub-block's convolution is the first's. -/
theorem conv2_eq (x3 : FVec Ideal S3x512 .f32) (h b g : FVec Ideal S512x512 .f32) (p : FVec Ideal S2x8x512 .f32) : k0_pay60 (F := Ideal) (k0_pay59 (F := Ideal) x3 h b g p) = k0_pay30 (F := Ideal) x3 h b g p := rfl

/-- The fourth sub-block's convolution is the first's. -/
theorem conv3_eq (x3 : FVec Ideal S3x512 .f32) (h b g : FVec Ideal S512x512 .f32) (p : FVec Ideal S2x8x512 .f32) :
    k0_pay1 (F := Ideal) x3 b (k0_pay61 (F := Ideal) h g) (k0_pay62 (F := Ideal) h g) p (iota .tc S2x8x512 32 [1] iota_S2x8x512_d1_w32) (k0_pay64 (F := Ideal) x3 h g p) = k0_pay30 (F := Ideal) x3 h b g p := rfl

/-- The weights as loaded. -/
theorem cw_eq (x3 : FVec Ideal S3x512 .f32) : k0_pay3 (F := Ideal) x3 = x3 := by
  funext y
  idx_vars y
  pointwise [k0_pay3]

/-! ## The blocks the body leaves, as functions of the staged blocks -/

/-- The block of the first result: slab `y 0`, token `y 1 / 8` of sequence `y 1 % 8`. -/
def GU (x0 : FVec Ideal S8x256x1024 .f32) (x1 : FVec Ideal S1x1024 .f32) (x2 : FVec Ideal S1024x2048 .bf16) : S4x2048x128.Idx → Elt Ideal .f32 :=
  fun y => P ⟨(y 1).val % 8 / 2, by omega⟩ x0 x1 x2
    (ix2 ⟨256 * ((y 1).val % 8 % 2) + (y 1).val / 8, by have h : (y 1).val < 2048 := (y 1).isLt; omega⟩
      ⟨128 * (y 0).val + (y 2).val, by have h : (y 0).val < 4 := (y 0).isLt; have h' : (y 2).val < 128 := (y 2).isLt; omega⟩)

/-- The block of the second result, from what the sub-blocks before this one carried. -/
def GY (x0 : FVec Ideal S8x256x1024 .f32) (x1 : FVec Ideal S1x1024 .f32) (x2 : FVec Ideal S1024x2048 .bf16) (x3 : FVec Ideal S3x512 .f32)
    (xs : FVec Ideal S8x8x512 .f32) : S8x256x512.Idx → Elt Ideal .f32 :=
  fun y => k0_pay30 (F := Ideal) x3 (cols 512 (by decide) (P ⟨(y 0).val / 2, by have h : (y 0).val < 8 := (y 0).isLt; omega⟩ x0 x1 x2))
    (cols 1024 (by decide) (P ⟨(y 0).val / 2, by have h : (y 0).val < 8 := (y 0).isLt; omega⟩ x0 x1 x2))
    (cols 1536 (by decide) (P ⟨(y 0).val / 2, by have h : (y 0).val < 8 := (y 0).isLt; omega⟩ x0 x1 x2))
    (prev ⟨(y 0).val / 2, by have h : (y 0).val < 8 := (y 0).isLt; omega⟩ xs) (ix3 ⟨(y 0).val % 2, by omega⟩ (y 1) (y 2))

/-- What the convolution carries to the next block. -/
def GZ (x0 : FVec Ideal S8x256x1024 .f32) (x1 : FVec Ideal S1x1024 .f32) (x2 : FVec Ideal S1024x2048 .bf16) : S8x8x512.Idx → Elt Ideal .f32 :=
  fun y => k0_pay29 (F := Ideal) (cols 512 (by decide) (P ⟨(y 0).val / 2, by have h : (y 0).val < 8 := (y 0).isLt; omega⟩ x0 x1 x2))
    (cols 1536 (by decide) (P ⟨(y 0).val / 2, by have h : (y 0).val < 8 := (y 0).isLt; omega⟩ x0 x1 x2))
    (ix3 ⟨(y 0).val % 2, by omega⟩ (y 1) (y 2))

/-- A slab of a product, as the body cuts it. -/
theorem slab_at (a o : ℕ) (ha : a ≤ 256) (ho : o ≤ 384) (p : FVec Ideal S512x2048 .f32) (hs) (hc) (s : Fin 256) (l : Fin 128) :
    shapeCast S1x256x128 (extractStridedSlice S256x128 ![a, o] p hs) hc (ix3 0 s l)
      = p (ix2 ⟨a + s.val, by omega⟩ ⟨o + l.val, by omega⟩) := by
  pointwise []

/-- One of the first result's strided stores. -/
theorem pieceU (b j : ℕ) (hb : b < 8) (hj : j < 4) (x0 : FVec Ideal S8x256x1024 .f32) (x1 : FVec Ideal S1x1024 .f32) (x2 : FVec Ideal S1024x2048 .bf16)
    (w : FVec Ideal S1x256x128 .f32) (hs) (hc)
    (hw : w = shapeCast S1x256x128 (extractStridedSlice S256x128 ![256 * (b % 2), 128 * j] (P ⟨b / 2, by omega⟩ x0 x1 x2) hs) hc)
    (inb) (hp) (x : S1x256x128.Idx) :
    w x = GU x0 x1 x2 ((⟨⟨![j, b, 0], ![1, 256, 128], ![1, 8, 1], inb⟩, hp⟩ : Rect S4x2048x128).emb x) := by
  subst hw
  have h0 : (x 0).val < 1 := (x 0).isLt
  have h1 : (x 1).val < 256 := (x 1).isLt
  have h2 : (x 2).val < 128 := (x 2).isLt
  have hx : x = ix3 (0 : Fin 1) (x 1) (x 2) := by
    funext a
    match a with
    | 0 => exact Fin.ext (by change (x 0).val = 0; omega)
    | 1 => rfl
    | 2 => rfl
  rw [hx]
  refine (slab_at _ _ (by omega) (by omega) _ _ _ _ _).trans ?_
  have e1 : (b + 8 * (x 1).val) % 8 = b := by omega
  have e2 : (b + 8 * (x 1).val) / 8 = (x 1).val := by omega
  have key : ∀ r r' : Fin 4, ∀ s s' : Fin 512, ∀ l l' : Fin 2048, r.val = r'.val → s.val = s'.val → l.val = l'.val →
      P r x0 x1 x2 (ix2 s l) = P r' x0 x1 x2 (ix2 s' l') := by
    intro r r' s s' l l' e e' e''
    rw [Fin.ext e, Fin.ext e', Fin.ext e'']
  refine key _ _ _ _ _ _ ?_ ?_ ?_
  · change b / 2 = (b + 8 * (x 1).val) % 8 / 2; omega
  · change 256 * (b % 2) + (x 1).val = 256 * ((b + 8 * (x 1).val) % 8 % 2) + (b + 8 * (x 1).val) / 8; omega
  · change 128 * j + (x 2).val = 128 * (j + 1 * 0) + (0 + 1 * (x 2).val); omega

/-- One of the second result's stores. -/
theorem pieceY (r : Fin 4) (o : ℕ) (ho : o = 2 * r.val) (x0 : FVec Ideal S8x256x1024 .f32) (x1 : FVec Ideal S1x1024 .f32) (x2 : FVec Ideal S1024x2048 .bf16)
    (x3 : FVec Ideal S3x512 .f32) (xs : FVec Ideal S8x8x512 .f32) (h b g : FVec Ideal S512x512 .f32) (p : FVec Ideal S2x8x512 .f32)
    (eh : h = cols 512 (by decide) (P r x0 x1 x2)) (eb : b = cols 1024 (by decide) (P r x0 x1 x2)) (eg : g = cols 1536 (by decide) (P r x0 x1 x2))
    (ep : p = prev r xs) (inb) (x : S2x256x512.Idx) :
    k0_pay30 (F := Ideal) x3 h b g p x = GY x0 x1 x2 x3 xs ((Rect.unit (s := S8x256x512) ![o, 0, 0] ![2, 256, 512] inb).emb x) := by
  subst eh eb eg ep ho
  have h0 : (x 0).val < 2 := (x 0).isLt
  have key : ∀ r' : Fin 4, ∀ x' : S2x256x512.Idx, r = r' → x = x' →
      k0_pay30 (F := Ideal) x3 (cols 512 (by decide) (P r x0 x1 x2)) (cols 1024 (by decide) (P r x0 x1 x2)) (cols 1536 (by decide) (P r x0 x1 x2)) (prev r xs) x
        = k0_pay30 (F := Ideal) x3 (cols 512 (by decide) (P r' x0 x1 x2)) (cols 1024 (by decide) (P r' x0 x1 x2)) (cols 1536 (by decide) (P r' x0 x1 x2)) (prev r' xs) x' := by
    intro r' x' e e'
    rw [e, e']
  refine key _ _ (Fin.ext ?_) ?_
  · change r.val = (2 * r.val + 1 * (x 0).val) / 2; omega
  · funext a
    match a with
    | 0 => exact Fin.ext (by change (x 0).val = (2 * r.val + 1 * (x 0).val) % 2; omega)
    | 1 => exact Fin.ext (by change (x 1).val = 0 + 1 * (x 1).val; omega)
    | 2 => exact Fin.ext (by change (x 2).val = 0 + 1 * (x 2).val; omega)

/-- One of the stores of the carried rows. -/
theorem pieceZ (r : Fin 4) (o : ℕ) (ho : o = 2 * r.val) (x0 : FVec Ideal S8x256x1024 .f32) (x1 : FVec Ideal S1x1024 .f32) (x2 : FVec Ideal S1024x2048 .bf16)
    (h g : FVec Ideal S512x512 .f32)
    (eh : h = cols 512 (by decide) (P r x0 x1 x2)) (eg : g = cols 1536 (by decide) (P r x0 x1 x2)) (inb) (x : S2x8x512.Idx) :
    k0_pay29 (F := Ideal) h g x = GZ x0 x1 x2 ((Rect.unit (s := S8x8x512) ![o, 0, 0] ![2, 8, 512] inb).emb x) := by
  subst eh eg ho
  have h0 : (x 0).val < 2 := (x 0).isLt
  have key : ∀ r' : Fin 4, ∀ x' : S2x8x512.Idx, r = r' → x = x' →
      k0_pay29 (F := Ideal) (cols 512 (by decide) (P r x0 x1 x2)) (cols 1536 (by decide) (P r x0 x1 x2)) x
        = k0_pay29 (F := Ideal) (cols 512 (by decide) (P r' x0 x1 x2)) (cols 1536 (by decide) (P r' x0 x1 x2)) x' := by
    intro r' x' e e'
    rw [e, e']
  refine key _ _ (Fin.ext ?_) ?_
  · change r.val = (2 * r.val + 1 * (x 0).val) / 2; omega
  · funext a
    match a with
    | 0 => exact Fin.ext (by change (x 0).val = (2 * r.val + 1 * (x 0).val) % 2; omega)
    | 1 => exact Fin.ext (by change (x 1).val = 0 + 1 * (x 1).val; omega)
    | 2 => exact Fin.ext (by change (x 2).val = 0 + 1 * (x 2).val; omega)

/-- A store of two carried sequences is not met by a later one. -/
theorem keep_miss (o' : ℕ) (b : Fin 8) (ho : o' + 2 ≤ b.val) (s : Fin 8) (l : Fin 512) (inb) (w : FVec Ideal S2x8x512 .f32) (L : List (View.Piece (Elt Ideal) S8x8x512 .f32)) :
    View.canon (⟨Rect.unit (s := S8x8x512) ![o', 0, 0] ![2, 8, 512] inb, w⟩ :: L) (ix3 b s l) = View.canon L (ix3 b s l) := by
  refine View.canon_cons_of_not_mem (Val := Elt Ideal) (e := .f32) _ L fun hm => ?_
  obtain ⟨j, hj, e⟩ := (LoadRect.mem_set _).mp hm 0
  change j < 2 at hj
  change b.val = o' + 1 * j at e
  omega

/-- A store of the whole of the carried rows. -/
theorem keep_whole (b : Fin 8) (s : Fin 8) (l : Fin 512) (inb) (w : FVec Ideal S8x8x512 .f32) (L : List (View.Piece (Elt Ideal) S8x8x512 .f32)) :
    View.canon (⟨Rect.unit (s := S8x8x512) ![0, 0, 0] ![8, 8, 512] inb, w⟩ :: L) (ix3 b s l) = w (ix3 b s l) := by
  have e : (Rect.unit (s := S8x8x512) ![0, 0, 0] ![8, 8, 512] inb).emb (ix3 b s l) = (ix3 b s l : S8x8x512.Idx) := by
    funext x
    match x with
    | 0 => exact Fin.ext (by change 0 + 1 * b.val = b.val; omega)
    | 1 => exact Fin.ext (by change 0 + 1 * s.val = s.val; omega)
    | 2 => exact Fin.ext (by change 0 + 1 * l.val = l.val; omega)
  have h := View.canon_cons_emb (Val := Elt Ideal) (e := .f32) (Rect.unit (s := S8x8x512) ![0, 0, 0] ![8, 8, 512] inb) w L (ix3 b s l)
  rw [e] at h
  exact h

/-- A load of two carried sequences, from what the stores before it left. -/
theorem ldk {sg : RefSig} {κ' : Kind} {sp : Space} (r : Fin 4) (o : ℕ) (ho : o = 2 * r.val) (v : View sg κ' sp S8x8x512 .f32) (L : List (View.Piece (Elt Ideal) S8x8x512 .f32))
    (xs : FVec Ideal S8x8x512 .f32) (hL : ∀ b : Fin 8, ∀ s : Fin 8, ∀ l : Fin 512, 2 * r.val ≤ b.val → View.canon L (ix3 b s l) = xs (ix3 b s l)) (inb) :
    v.readCov L (Rect.unit (s := S8x8x512) ![o, 0, 0] ![2, 8, 512] inb).toLoadRect = prev r xs := by
  subst ho
  rw [View.readCov_eq_canon']
  funext x
  have h0 : (x 0).val < 2 := (x 0).isLt
  refine Eq.trans (congrArg (View.canon L) ?_) (hL ⟨2 * r.val + (x 0).val, by omega⟩ (x 1) (x 2) (by change 2 * r.val ≤ 2 * r.val + (x 0).val; omega))
  funext a
  match a with
  | 0 => exact Fin.ext (by change 2 * r.val + 1 * (x 0).val = 2 * r.val + (x 0).val; omega)
  | 1 => exact Fin.ext (by change 0 + 1 * (x 1).val = (x 1).val; omega)
  | 2 => exact Fin.ext (by change 0 + 1 * (x 2).val = (x 2).val; omega)

/-- Every store of the first result holds the block's values. -/
theorem allU_B (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : ¬isFirst i)
    (x0 : FVec Ideal S8x256x1024 .f32) (x1 : FVec Ideal S1x1024 .f32) (x2 : FVec Ideal S1024x2048 .bf16) (x3 : FVec Ideal S3x512 .f32) (xs : FVec Ideal S8x8x512 .f32) :
    ∀ p ∈ (bodyRunB (F := Ideal) c i arg1 harg1 arg2 harg2 arg3 harg3 arg4 harg4 arg5 harg5 arg6 harg6 arg7 harg7 arg8 harg8 hc x0 x1 x2 x3 xs).1, ∀ x, p.2 x = GU x0 x1 x2 (p.1.emb x) := by
  dsimp only [bodyRunB, bodyRunB.sl.H7_2, bodyRunB.sl.H7_3, bodyRunB.sl.H7_4, bodyRunB.sl.r, bodyRunB.sl.r_1, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_2, bodyRunB.sl.r_20, bodyRunB.sl.r_3, bodyRunB.sl.r_4, bodyRunB.sl.r_5, bodyRunB.sl.r_6, bodyRunB.sl.r_7, bodyRunB.sl.r_8, bodyRunB.sl.r_9, bodyRunB.sl.v0, bodyRunB.sl.v1, bodyRunB.sl.v119, bodyRunB.sl.v122, bodyRunB.sl.v125, bodyRunB.sl.v2, bodyRunB.sl.v224, bodyRunB.sl.v227, bodyRunB.sl.v230, bodyRunB.sl.v233, bodyRunB.sl.v329, bodyRunB.sl.v332, bodyRunB.sl.v335, bodyRunB.sl.v338, bodyRunB.sl.v378, bodyRunB.sl.v381, bodyRunB.sl.v384, bodyRunB.sl.v387, bodyRunB.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [List.forall_mem_cons]
  exact ⟨pieceU 7 3 (by omega) (by omega) x0 x1 x2 _ slices_S512x2048_o256_384_S256x128 shapeCasts_S256x128_S1x256x128 rfl _ _,
    pieceU 7 2 (by omega) (by omega) x0 x1 x2 _ slices_S512x2048_o256_256_S256x128 shapeCasts_S256x128_S1x256x128 rfl _ _,
    pieceU 7 1 (by omega) (by omega) x0 x1 x2 _ slices_S512x2048_o256_128_S256x128 shapeCasts_S256x128_S1x256x128 rfl _ _,
    pieceU 7 0 (by omega) (by omega) x0 x1 x2 _ slices_S512x2048_o256_0_S256x128 shapeCasts_S256x128_S1x256x128 rfl _ _,
    pieceU 6 3 (by omega) (by omega) x0 x1 x2 _ slices_S512x2048_o0_384_S256x128 shapeCasts_S256x128_S1x256x128 rfl _ _,
    pieceU 6 2 (by omega) (by omega) x0 x1 x2 _ slices_S512x2048_o0_256_S256x128 shapeCasts_S256x128_S1x256x128 rfl _ _,
    pieceU 6 1 (by omega) (by omega) x0 x1 x2 _ slices_S512x2048_o0_128_S256x128 shapeCasts_S256x128_S1x256x128 rfl _ _,
    pieceU 6 0 (by omega) (by omega) x0 x1 x2 _ slices_S512x2048_o0_0_S256x128 shapeCasts_S256x128_S1x256x128 rfl _ _,
    pieceU 5 3 (by omega) (by omega) x0 x1 x2 _ slices_S512x2048_o256_384_S256x128 shapeCasts_S256x128_S1x256x128 rfl _ _,
    pieceU 5 2 (by omega) (by omega) x0 x1 x2 _ slices_S512x2048_o256_256_S256x128 shapeCasts_S256x128_S1x256x128 rfl _ _,
    pieceU 5 1 (by omega) (by omega) x0 x1 x2 _ slices_S512x2048_o256_128_S256x128 shapeCasts_S256x128_S1x256x128 rfl _ _,
    pieceU 5 0 (by omega) (by omega) x0 x1 x2 _ slices_S512x2048_o256_0_S256x128 shapeCasts_S256x128_S1x256x128 rfl _ _,
    pieceU 4 3 (by omega) (by omega) x0 x1 x2 _ slices_S512x2048_o0_384_S256x128 shapeCasts_S256x128_S1x256x128 rfl _ _,
    pieceU 4 2 (by omega) (by omega) x0 x1 x2 _ slices_S512x2048_o0_256_S256x128 shapeCasts_S256x128_S1x256x128 rfl _ _,
    pieceU 4 1 (by omega) (by omega) x0 x1 x2 _ slices_S512x2048_o0_128_S256x128 shapeCasts_S256x128_S1x256x128 rfl _ _,
    pieceU 4 0 (by omega) (by omega) x0 x1 x2 _ slices_S512x2048_o0_0_S256x128 shapeCasts_S256x128_S1x256x128 rfl _ _,
    pieceU 3 3 (by omega) (by omega) x0 x1 x2 _ slices_S512x2048_o256_384_S256x128 shapeCasts_S256x128_S1x256x128 rfl _ _,
    pieceU 3 2 (by omega) (by omega) x0 x1 x2 _ slices_S512x2048_o256_256_S256x128 shapeCasts_S256x128_S1x256x128 rfl _ _,
    pieceU 3 1 (by omega) (by omega) x0 x1 x2 _ slices_S512x2048_o256_128_S256x128 shapeCasts_S256x128_S1x256x128 rfl _ _,
    pieceU 3 0 (by omega) (by omega) x0 x1 x2 _ slices_S512x2048_o256_0_S256x128 shapeCasts_S256x128_S1x256x128 rfl _ _,
    pieceU 2 3 (by omega) (by omega) x0 x1 x2 _ slices_S512x2048_o0_384_S256x128 shapeCasts_S256x128_S1x256x128 rfl _ _,
    pieceU 2 2 (by omega) (by omega) x0 x1 x2 _ slices_S512x2048_o0_256_S256x128 shapeCasts_S256x128_S1x256x128 rfl _ _,
    pieceU 2 1 (by omega) (by omega) x0 x1 x2 _ slices_S512x2048_o0_128_S256x128 shapeCasts_S256x128_S1x256x128 rfl _ _,
    pieceU 2 0 (by omega) (by omega) x0 x1 x2 _ slices_S512x2048_o0_0_S256x128 shapeCasts_S256x128_S1x256x128 rfl _ _,
    pieceU 1 3 (by omega) (by omega) x0 x1 x2 _ slices_S512x2048_o256_384_S256x128 shapeCasts_S256x128_S1x256x128 rfl _ _,
    pieceU 1 2 (by omega) (by omega) x0 x1 x2 _ slices_S512x2048_o256_256_S256x128 shapeCasts_S256x128_S1x256x128 rfl _ _,
    pieceU 1 1 (by omega) (by omega) x0 x1 x2 _ slices_S512x2048_o256_128_S256x128 shapeCasts_S256x128_S1x256x128 rfl _ _,
    pieceU 1 0 (by omega) (by omega) x0 x1 x2 _ slices_S512x2048_o256_0_S256x128 shapeCasts_S256x128_S1x256x128 rfl _ _,
    pieceU 0 3 (by omega) (by omega) x0 x1 x2 _ slices_S512x2048_o0_384_S256x128 shapeCasts_S256x128_S1x256x128 rfl _ _,
    pieceU 0 2 (by omega) (by omega) x0 x1 x2 _ slices_S512x2048_o0_256_S256x128 shapeCasts_S256x128_S1x256x128 rfl _ _,
    pieceU 0 1 (by omega) (by omega) x0 x1 x2 _ slices_S512x2048_o0_128_S256x128 shapeCasts_S256x128_S1x256x128 rfl _ _,
    pieceU 0 0 (by omega) (by omega) x0 x1 x2 _ slices_S512x2048_o0_0_S256x128 shapeCasts_S256x128_S1x256x128 rfl _ _, by simp⟩

/-- Every store of the second result holds the block's values. -/
theorem allY_B (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : ¬isFirst i)
    (x0 : FVec Ideal S8x256x1024 .f32) (x1 : FVec Ideal S1x1024 .f32) (x2 : FVec Ideal S1024x2048 .bf16) (x3 : FVec Ideal S3x512 .f32) (xs : FVec Ideal S8x8x512 .f32) :
    ∀ p ∈ (bodyRunB (F := Ideal) c i arg1 harg1 arg2 harg2 arg3 harg3 arg4 harg4 arg5 harg5 arg6 harg6 arg7 harg7 arg8 harg8 hc x0 x1 x2 x3 xs).2.1, ∀ x, p.2 x = GY x0 x1 x2 x3 xs (p.1.emb x) := by
  dsimp only [bodyRunB, bodyRunB.sl.H7_2, bodyRunB.sl.H7_3, bodyRunB.sl.H7_4, bodyRunB.sl.r, bodyRunB.sl.r_1, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_2, bodyRunB.sl.r_20, bodyRunB.sl.r_3, bodyRunB.sl.r_4, bodyRunB.sl.r_5, bodyRunB.sl.r_6, bodyRunB.sl.r_7, bodyRunB.sl.r_8, bodyRunB.sl.r_9, bodyRunB.sl.v0, bodyRunB.sl.v1, bodyRunB.sl.v119, bodyRunB.sl.v122, bodyRunB.sl.v125, bodyRunB.sl.v2, bodyRunB.sl.v224, bodyRunB.sl.v227, bodyRunB.sl.v230, bodyRunB.sl.v233, bodyRunB.sl.v329, bodyRunB.sl.v332, bodyRunB.sl.v335, bodyRunB.sl.v338, bodyRunB.sl.v378, bodyRunB.sl.v381, bodyRunB.sl.v384, bodyRunB.sl.v387, bodyRunB.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [conv1_eq, conv2_eq, conv3_eq, cw_eq]
  simp only [List.forall_mem_cons]
  exact ⟨pieceY 3 6 rfl x0 x1 x2 x3 xs _ _ _ _ (ldp_hit 1 0 512 (by omega) (by omega) rfl _ _ _ _ _ _ _ _ _ _) (ldp_hit 1 512 1024 (by omega) (by omega) rfl _ _ _ _ _ _ _ _ _ _) (ldp_hit 1 1024 1536 (by omega) (by omega) rfl _ _ _ _ _ _ _ _ _ _) rfl _,
    pieceY 2 4 rfl x0 x1 x2 x3 xs _ _ _ _ (ldp_miss 0 1 0 512 (by omega) (by omega) (by omega) rfl _ _ _ _ _ _ _ _ _ _ _ _) (ldp_miss 0 1 512 1024 (by omega) (by omega) (by omega) rfl _ _ _ _ _ _ _ _ _ _ _ _) (ldp_miss 0 1 1024 1536 (by omega) (by omega) (by omega) rfl _ _ _ _ _ _ _ _ _ _ _ _) rfl _,
    pieceY 1 2 rfl x0 x1 x2 x3 xs _ _ _ _ (ldp_miss 1 0 0 512 (by omega) (by omega) (by omega) rfl _ _ _ _ _ _ _ _ _ _ _ _) (ldp_miss 1 0 512 1024 (by omega) (by omega) (by omega) rfl _ _ _ _ _ _ _ _ _ _ _ _) (ldp_miss 1 0 1024 1536 (by omega) (by omega) (by omega) rfl _ _ _ _ _ _ _ _ _ _ _ _) rfl _,
    pieceY 0 0 rfl x0 x1 x2 x3 xs _ _ _ _ (ldp_miss 0 1 0 512 (by omega) (by omega) (by omega) rfl _ _ _ _ _ _ _ _ _ _ _ _) (ldp_miss 0 1 512 1024 (by omega) (by omega) (by omega) rfl _ _ _ _ _ _ _ _ _ _ _ _) (ldp_miss 0 1 1024 1536 (by omega) (by omega) (by omega) rfl _ _ _ _ _ _ _ _ _ _ _ _) rfl _, by simp⟩

/-- Every store of the carried rows holds the block's values. -/
theorem allZ_B (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : ¬isFirst i)
    (x0 : FVec Ideal S8x256x1024 .f32) (x1 : FVec Ideal S1x1024 .f32) (x2 : FVec Ideal S1024x2048 .bf16) (x3 : FVec Ideal S3x512 .f32) (xs : FVec Ideal S8x8x512 .f32) :
    ∀ p ∈ (bodyRunB (F := Ideal) c i arg1 harg1 arg2 harg2 arg3 harg3 arg4 harg4 arg5 harg5 arg6 harg6 arg7 harg7 arg8 harg8 hc x0 x1 x2 x3 xs).2.2.1, ∀ x, p.2 x = GZ x0 x1 x2 (p.1.emb x) := by
  dsimp only [bodyRunB, bodyRunB.sl.H7_2, bodyRunB.sl.H7_3, bodyRunB.sl.H7_4, bodyRunB.sl.r, bodyRunB.sl.r_1, bodyRunB.sl.r_10, bodyRunB.sl.r_11, bodyRunB.sl.r_12, bodyRunB.sl.r_13, bodyRunB.sl.r_14, bodyRunB.sl.r_15, bodyRunB.sl.r_16, bodyRunB.sl.r_17, bodyRunB.sl.r_18, bodyRunB.sl.r_19, bodyRunB.sl.r_2, bodyRunB.sl.r_20, bodyRunB.sl.r_3, bodyRunB.sl.r_4, bodyRunB.sl.r_5, bodyRunB.sl.r_6, bodyRunB.sl.r_7, bodyRunB.sl.r_8, bodyRunB.sl.r_9, bodyRunB.sl.v0, bodyRunB.sl.v1, bodyRunB.sl.v119, bodyRunB.sl.v122, bodyRunB.sl.v125, bodyRunB.sl.v2, bodyRunB.sl.v224, bodyRunB.sl.v227, bodyRunB.sl.v230, bodyRunB.sl.v233, bodyRunB.sl.v329, bodyRunB.sl.v332, bodyRunB.sl.v335, bodyRunB.sl.v338, bodyRunB.sl.v378, bodyRunB.sl.v381, bodyRunB.sl.v384, bodyRunB.sl.v387, bodyRunB.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [carry1_eq, carry2_eq, carry3_eq]
  simp only [List.forall_mem_cons]
  exact ⟨pieceZ 3 6 rfl x0 x1 x2 _ _ (ldp_hit 1 0 512 (by omega) (by omega) rfl _ _ _ _ _ _ _ _ _ _) (ldp_hit 1 1024 1536 (by omega) (by omega) rfl _ _ _ _ _ _ _ _ _ _) _,
    pieceZ 2 4 rfl x0 x1 x2 _ _ (ldp_miss 0 1 0 512 (by omega) (by omega) (by omega) rfl _ _ _ _ _ _ _ _ _ _ _ _) (ldp_miss 0 1 1024 1536 (by omega) (by omega) (by omega) rfl _ _ _ _ _ _ _ _ _ _ _ _) _,
    pieceZ 1 2 rfl x0 x1 x2 _ _ (ldp_miss 1 0 0 512 (by omega) (by omega) (by omega) rfl _ _ _ _ _ _ _ _ _ _ _ _) (ldp_miss 1 0 1024 1536 (by omega) (by omega) (by omega) rfl _ _ _ _ _ _ _ _ _ _ _ _) _,
    pieceZ 0 0 rfl x0 x1 x2 _ _ (ldp_miss 0 1 0 512 (by omega) (by omega) (by omega) rfl _ _ _ _ _ _ _ _ _ _ _ _) (ldp_miss 0 1 1024 1536 (by omega) (by omega) (by omega) rfl _ _ _ _ _ _ _ _ _ _ _ _) _, by simp⟩

/-- Every store of the first result holds the block's values, at the first point. -/
theorem allU_A (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : isFirst i)
    (x0 : FVec Ideal S8x256x1024 .f32) (x1 : FVec Ideal S1x1024 .f32) (x2 : FVec Ideal S1024x2048 .bf16) (x3 : FVec Ideal S3x512 .f32)  :
    ∀ p ∈ (bodyRunA (F := Ideal) c i arg1 harg1 arg2 harg2 arg3 harg3 arg4 harg4 arg5 harg5 arg6 harg6 arg7 harg7 arg8 harg8 hc x0 x1 x2 x3 ).1, ∀ x, p.2 x = GU x0 x1 x2 (p.1.emb x) := by
  dsimp only [bodyRunA, bodyRunA.sl.H6_1, bodyRunA.sl.H6_2, bodyRunA.sl.H6_3, bodyRunA.sl.H6_4, bodyRunA.sl.H7_2, bodyRunA.sl.H7_3, bodyRunA.sl.H7_4, bodyRunA.sl.r, bodyRunA.sl.r_1, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_2, bodyRunA.sl.r_20, bodyRunA.sl.r_3, bodyRunA.sl.r_4, bodyRunA.sl.r_5, bodyRunA.sl.r_6, bodyRunA.sl.r_7, bodyRunA.sl.r_8, bodyRunA.sl.r_9, bodyRunA.sl.v0, bodyRunA.sl.v1, bodyRunA.sl.v119, bodyRunA.sl.v122, bodyRunA.sl.v125, bodyRunA.sl.v128, bodyRunA.sl.v2, bodyRunA.sl.v224, bodyRunA.sl.v227, bodyRunA.sl.v230, bodyRunA.sl.v233, bodyRunA.sl.v329, bodyRunA.sl.v332, bodyRunA.sl.v335, bodyRunA.sl.v338, bodyRunA.sl.v378, bodyRunA.sl.v381, bodyRunA.sl.v384, bodyRunA.sl.v387, bodyRunA.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [List.forall_mem_cons]
  exact ⟨pieceU 7 3 (by omega) (by omega) x0 x1 x2 _ slices_S512x2048_o256_384_S256x128 shapeCasts_S256x128_S1x256x128 rfl _ _,
    pieceU 7 2 (by omega) (by omega) x0 x1 x2 _ slices_S512x2048_o256_256_S256x128 shapeCasts_S256x128_S1x256x128 rfl _ _,
    pieceU 7 1 (by omega) (by omega) x0 x1 x2 _ slices_S512x2048_o256_128_S256x128 shapeCasts_S256x128_S1x256x128 rfl _ _,
    pieceU 7 0 (by omega) (by omega) x0 x1 x2 _ slices_S512x2048_o256_0_S256x128 shapeCasts_S256x128_S1x256x128 rfl _ _,
    pieceU 6 3 (by omega) (by omega) x0 x1 x2 _ slices_S512x2048_o0_384_S256x128 shapeCasts_S256x128_S1x256x128 rfl _ _,
    pieceU 6 2 (by omega) (by omega) x0 x1 x2 _ slices_S512x2048_o0_256_S256x128 shapeCasts_S256x128_S1x256x128 rfl _ _,
    pieceU 6 1 (by omega) (by omega) x0 x1 x2 _ slices_S512x2048_o0_128_S256x128 shapeCasts_S256x128_S1x256x128 rfl _ _,
    pieceU 6 0 (by omega) (by omega) x0 x1 x2 _ slices_S512x2048_o0_0_S256x128 shapeCasts_S256x128_S1x256x128 rfl _ _,
    pieceU 5 3 (by omega) (by omega) x0 x1 x2 _ slices_S512x2048_o256_384_S256x128 shapeCasts_S256x128_S1x256x128 rfl _ _,
    pieceU 5 2 (by omega) (by omega) x0 x1 x2 _ slices_S512x2048_o256_256_S256x128 shapeCasts_S256x128_S1x256x128 rfl _ _,
    pieceU 5 1 (by omega) (by omega) x0 x1 x2 _ slices_S512x2048_o256_128_S256x128 shapeCasts_S256x128_S1x256x128 rfl _ _,
    pieceU 5 0 (by omega) (by omega) x0 x1 x2 _ slices_S512x2048_o256_0_S256x128 shapeCasts_S256x128_S1x256x128 rfl _ _,
    pieceU 4 3 (by omega) (by omega) x0 x1 x2 _ slices_S512x2048_o0_384_S256x128 shapeCasts_S256x128_S1x256x128 rfl _ _,
    pieceU 4 2 (by omega) (by omega) x0 x1 x2 _ slices_S512x2048_o0_256_S256x128 shapeCasts_S256x128_S1x256x128 rfl _ _,
    pieceU 4 1 (by omega) (by omega) x0 x1 x2 _ slices_S512x2048_o0_128_S256x128 shapeCasts_S256x128_S1x256x128 rfl _ _,
    pieceU 4 0 (by omega) (by omega) x0 x1 x2 _ slices_S512x2048_o0_0_S256x128 shapeCasts_S256x128_S1x256x128 rfl _ _,
    pieceU 3 3 (by omega) (by omega) x0 x1 x2 _ slices_S512x2048_o256_384_S256x128 shapeCasts_S256x128_S1x256x128 rfl _ _,
    pieceU 3 2 (by omega) (by omega) x0 x1 x2 _ slices_S512x2048_o256_256_S256x128 shapeCasts_S256x128_S1x256x128 rfl _ _,
    pieceU 3 1 (by omega) (by omega) x0 x1 x2 _ slices_S512x2048_o256_128_S256x128 shapeCasts_S256x128_S1x256x128 rfl _ _,
    pieceU 3 0 (by omega) (by omega) x0 x1 x2 _ slices_S512x2048_o256_0_S256x128 shapeCasts_S256x128_S1x256x128 rfl _ _,
    pieceU 2 3 (by omega) (by omega) x0 x1 x2 _ slices_S512x2048_o0_384_S256x128 shapeCasts_S256x128_S1x256x128 rfl _ _,
    pieceU 2 2 (by omega) (by omega) x0 x1 x2 _ slices_S512x2048_o0_256_S256x128 shapeCasts_S256x128_S1x256x128 rfl _ _,
    pieceU 2 1 (by omega) (by omega) x0 x1 x2 _ slices_S512x2048_o0_128_S256x128 shapeCasts_S256x128_S1x256x128 rfl _ _,
    pieceU 2 0 (by omega) (by omega) x0 x1 x2 _ slices_S512x2048_o0_0_S256x128 shapeCasts_S256x128_S1x256x128 rfl _ _,
    pieceU 1 3 (by omega) (by omega) x0 x1 x2 _ slices_S512x2048_o256_384_S256x128 shapeCasts_S256x128_S1x256x128 rfl _ _,
    pieceU 1 2 (by omega) (by omega) x0 x1 x2 _ slices_S512x2048_o256_256_S256x128 shapeCasts_S256x128_S1x256x128 rfl _ _,
    pieceU 1 1 (by omega) (by omega) x0 x1 x2 _ slices_S512x2048_o256_128_S256x128 shapeCasts_S256x128_S1x256x128 rfl _ _,
    pieceU 1 0 (by omega) (by omega) x0 x1 x2 _ slices_S512x2048_o256_0_S256x128 shapeCasts_S256x128_S1x256x128 rfl _ _,
    pieceU 0 3 (by omega) (by omega) x0 x1 x2 _ slices_S512x2048_o0_384_S256x128 shapeCasts_S256x128_S1x256x128 rfl _ _,
    pieceU 0 2 (by omega) (by omega) x0 x1 x2 _ slices_S512x2048_o0_256_S256x128 shapeCasts_S256x128_S1x256x128 rfl _ _,
    pieceU 0 1 (by omega) (by omega) x0 x1 x2 _ slices_S512x2048_o0_128_S256x128 shapeCasts_S256x128_S1x256x128 rfl _ _,
    pieceU 0 0 (by omega) (by omega) x0 x1 x2 _ slices_S512x2048_o0_0_S256x128 shapeCasts_S256x128_S1x256x128 rfl _ _, by simp⟩

/-- Every store of the second result holds the block's values. -/
theorem allY_A (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : isFirst i)
    (x0 : FVec Ideal S8x256x1024 .f32) (x1 : FVec Ideal S1x1024 .f32) (x2 : FVec Ideal S1024x2048 .bf16) (x3 : FVec Ideal S3x512 .f32)  :
    ∀ p ∈ (bodyRunA (F := Ideal) c i arg1 harg1 arg2 harg2 arg3 harg3 arg4 harg4 arg5 harg5 arg6 harg6 arg7 harg7 arg8 harg8 hc x0 x1 x2 x3 ).2.1, ∀ x, p.2 x = GY x0 x1 x2 x3 (k0_pay2 (F := Ideal)) (p.1.emb x) := by
  dsimp only [bodyRunA, bodyRunA.sl.H6_1, bodyRunA.sl.H6_2, bodyRunA.sl.H6_3, bodyRunA.sl.H6_4, bodyRunA.sl.H7_2, bodyRunA.sl.H7_3, bodyRunA.sl.H7_4, bodyRunA.sl.r, bodyRunA.sl.r_1, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_2, bodyRunA.sl.r_20, bodyRunA.sl.r_3, bodyRunA.sl.r_4, bodyRunA.sl.r_5, bodyRunA.sl.r_6, bodyRunA.sl.r_7, bodyRunA.sl.r_8, bodyRunA.sl.r_9, bodyRunA.sl.v0, bodyRunA.sl.v1, bodyRunA.sl.v119, bodyRunA.sl.v122, bodyRunA.sl.v125, bodyRunA.sl.v128, bodyRunA.sl.v2, bodyRunA.sl.v224, bodyRunA.sl.v227, bodyRunA.sl.v230, bodyRunA.sl.v233, bodyRunA.sl.v329, bodyRunA.sl.v332, bodyRunA.sl.v335, bodyRunA.sl.v338, bodyRunA.sl.v378, bodyRunA.sl.v381, bodyRunA.sl.v384, bodyRunA.sl.v387, bodyRunA.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [conv1_eq, conv2_eq, conv3_eq, cw_eq]
  simp only [List.forall_mem_cons]
  exact ⟨pieceY 3 6 rfl x0 x1 x2 x3 (k0_pay2 (F := Ideal)) _ _ _ _ (ldp_hit 1 0 512 (by omega) (by omega) rfl _ _ _ _ _ _ _ _ _ _) (ldp_hit 1 512 1024 (by omega) (by omega) rfl _ _ _ _ _ _ _ _ _ _) (ldp_hit 1 1024 1536 (by omega) (by omega) rfl _ _ _ _ _ _ _ _ _ _) (ldk 3 6 rfl _ _ _ (fun b s l hb => (keep_miss 4 b (by omega) s l _ _ _).trans <| (keep_miss 2 b (by omega) s l _ _ _).trans <| (keep_miss 0 b (by omega) s l _ _ _).trans <| keep_whole b s l _ _ _) _) _,
    pieceY 2 4 rfl x0 x1 x2 x3 (k0_pay2 (F := Ideal)) _ _ _ _ (ldp_miss 0 1 0 512 (by omega) (by omega) (by omega) rfl _ _ _ _ _ _ _ _ _ _ _ _) (ldp_miss 0 1 512 1024 (by omega) (by omega) (by omega) rfl _ _ _ _ _ _ _ _ _ _ _ _) (ldp_miss 0 1 1024 1536 (by omega) (by omega) (by omega) rfl _ _ _ _ _ _ _ _ _ _ _ _) (ldk 2 4 rfl _ _ _ (fun b s l hb => (keep_miss 2 b (by omega) s l _ _ _).trans <| (keep_miss 0 b (by omega) s l _ _ _).trans <| keep_whole b s l _ _ _) _) _,
    pieceY 1 2 rfl x0 x1 x2 x3 (k0_pay2 (F := Ideal)) _ _ _ _ (ldp_miss 1 0 0 512 (by omega) (by omega) (by omega) rfl _ _ _ _ _ _ _ _ _ _ _ _) (ldp_miss 1 0 512 1024 (by omega) (by omega) (by omega) rfl _ _ _ _ _ _ _ _ _ _ _ _) (ldp_miss 1 0 1024 1536 (by omega) (by omega) (by omega) rfl _ _ _ _ _ _ _ _ _ _ _ _) (ldk 1 2 rfl _ _ _ (fun b s l hb => (keep_miss 0 b (by omega) s l _ _ _).trans <| keep_whole b s l _ _ _) _) _,
    pieceY 0 0 rfl x0 x1 x2 x3 (k0_pay2 (F := Ideal)) _ _ _ _ (ldp_miss 0 1 0 512 (by omega) (by omega) (by omega) rfl _ _ _ _ _ _ _ _ _ _ _ _) (ldp_miss 0 1 512 1024 (by omega) (by omega) (by omega) rfl _ _ _ _ _ _ _ _ _ _ _ _) (ldp_miss 0 1 1024 1536 (by omega) (by omega) (by omega) rfl _ _ _ _ _ _ _ _ _ _ _ _) (ldk 0 0 rfl _ _ _ (fun b s l hb =>  keep_whole b s l _ _ _) _) _, by simp⟩

/-- Every store of the carried rows but the zeros holds the block's values. -/
theorem allZ_A (c : Dev nD) (i : grid0.Coords) (arg1 : Memref sig .tc .vmem S8x256x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x2048x128 .f32) (harg5 : arg5.IsWhole) (arg6 : Memref sig .tc .vmem S8x256x512 .f32) (harg6 : arg6.IsWhole) (arg7 : Memref sig .tc .vmem S8x8x512 .f32) (harg7 : arg7.IsWhole) (arg8 : Memref sig .tc .vmem S2x512x1536 .f32) (harg8 : arg8.IsWhole) (hc : isFirst i)
    (x0 : FVec Ideal S8x256x1024 .f32) (x1 : FVec Ideal S1x1024 .f32) (x2 : FVec Ideal S1024x2048 .bf16) (x3 : FVec Ideal S3x512 .f32)  :
    ∀ p ∈ (bodyRunA (F := Ideal) c i arg1 harg1 arg2 harg2 arg3 harg3 arg4 harg4 arg5 harg5 arg6 harg6 arg7 harg7 arg8 harg8 hc x0 x1 x2 x3 ).2.2.1.take 4, ∀ x, p.2 x = GZ x0 x1 x2 (p.1.emb x) := by
  dsimp only [bodyRunA, bodyRunA.sl.H6_1, bodyRunA.sl.H6_2, bodyRunA.sl.H6_3, bodyRunA.sl.H6_4, bodyRunA.sl.H7_2, bodyRunA.sl.H7_3, bodyRunA.sl.H7_4, bodyRunA.sl.r, bodyRunA.sl.r_1, bodyRunA.sl.r_10, bodyRunA.sl.r_11, bodyRunA.sl.r_12, bodyRunA.sl.r_13, bodyRunA.sl.r_14, bodyRunA.sl.r_15, bodyRunA.sl.r_16, bodyRunA.sl.r_17, bodyRunA.sl.r_18, bodyRunA.sl.r_19, bodyRunA.sl.r_2, bodyRunA.sl.r_20, bodyRunA.sl.r_3, bodyRunA.sl.r_4, bodyRunA.sl.r_5, bodyRunA.sl.r_6, bodyRunA.sl.r_7, bodyRunA.sl.r_8, bodyRunA.sl.r_9, bodyRunA.sl.v0, bodyRunA.sl.v1, bodyRunA.sl.v119, bodyRunA.sl.v122, bodyRunA.sl.v125, bodyRunA.sl.v128, bodyRunA.sl.v2, bodyRunA.sl.v224, bodyRunA.sl.v227, bodyRunA.sl.v230, bodyRunA.sl.v233, bodyRunA.sl.v329, bodyRunA.sl.v332, bodyRunA.sl.v335, bodyRunA.sl.v338, bodyRunA.sl.v378, bodyRunA.sl.v381, bodyRunA.sl.v384, bodyRunA.sl.v387, bodyRunA.sl.v392]
  simp only [ldw1, ldw2, ldw3, ld0 0 _ _ _ 0 rfl, ld0 1 _ _ _ 2 rfl, ld0 2 _ _ _ 4 rfl, ld0 3 _ _ _ 6 rfl, ld6 0 _ _ _ 0 rfl, ld6 1 _ _ _ 2 rfl, ld6 2 _ _ _ 4 rfl, ld6 3 _ _ _ 6 rfl, P0_eq, P1_eq, P2_eq, P3_eq, pj1_eq, pj2_eq, pj3_eq]
  simp only [carry1_eq, carry2_eq, carry3_eq]
  simp only [List.take_succ_cons, List.take_zero, List.forall_mem_cons]
  exact ⟨pieceZ 3 6 rfl x0 x1 x2 _ _ (ldp_hit 1 0 512 (by omega) (by omega) rfl _ _ _ _ _ _ _ _ _ _) (ldp_hit 1 1024 1536 (by omega) (by omega) rfl _ _ _ _ _ _ _ _ _ _) _,
    pieceZ 2 4 rfl x0 x1 x2 _ _ (ldp_miss 0 1 0 512 (by omega) (by omega) (by omega) rfl _ _ _ _ _ _ _ _ _ _ _ _) (ldp_miss 0 1 1024 1536 (by omega) (by omega) (by omega) rfl _ _ _ _ _ _ _ _ _ _ _ _) _,
    pieceZ 1 2 rfl x0 x1 x2 _ _ (ldp_miss 1 0 0 512 (by omega) (by omega) (by omega) rfl _ _ _ _ _ _ _ _ _ _ _ _) (ldp_miss 1 0 1024 1536 (by omega) (by omega) (by omega) rfl _ _ _ _ _ _ _ _ _ _ _ _) _,
    pieceZ 0 0 rfl x0 x1 x2 _ _ (ldp_miss 0 1 0 512 (by omega) (by omega) (by omega) rfl _ _ _ _ _ _ _ _ _ _ _ _) (ldp_miss 0 1 1024 1536 (by omega) (by omega) (by omega) rfl _ _ _ _ _ _ _ _ _ _ _ _) _, by simp⟩

end Cert.InprojIdeal.Value
-- ==== Proof.InprojValue.lean ====
module

public import proofs.«01_k».proof.Proof.InprojPieces
public import Idealize.ShloMosaic.Lib.Pipeline.CanonAppend

/-! # What the input projection's result arrays hold -/

@[expose] public section

set_option maxRecDepth 16384

noncomputable section

namespace Cert.InprojIdeal.Value

open Cert.InprojIdeal Cert.InprojIdeal.Gen Cert.Rows
open Idealize.ShloMosaic Idealize.ShloMosaic.TcCoe Idealize.SL.Sem
open Idealize.ShloMosaic.Pipeline (Dat)

/-- The zeros the carried rows start from. -/
theorem zeros_at (i : S8x8x512.Idx) : k0_pay2 (F := Ideal) i = (0 : EReal) := by
  idx_vars i
  pointwise [k0_pay2]

section
variable (a0 : FVec Ideal S8x8192x1024 .f32) (a1 : FVec Ideal S1x1024 .f32) (a2 : FVec Ideal S1x1024x2048 .f32) (a3 : FVec Ideal S1x3x512 .f32)
  (t : ℕ) (ht : t < 32)
  (x0 : FVec Ideal S8x256x1024 .f32) (x1 : FVec Ideal S1x1024 .f32) (x2 : FVec Ideal S1024x2048 .bf16) (x3 : FVec Ideal S3x512 .f32)
  (h0 : ∀ (b : Fin 8) (s : Fin 256) (k : Fin 1024), x0 (ix3 b s k) = a0 (ix3 b ⟨t * 256 + s.val, by omega⟩ k))
  (h1 : ∀ k : Fin 1024, x1 (ix2 0 k) = a1 (ix2 0 k))
  (h2 : ∀ (p : Fin 1024) (q : Fin 2048), x2 (ix2 p q) = a2 (ix3 0 p q))
  (h3 : ∀ (p : Fin 3) (q : Fin 512), x3 (ix2 p q) = a3 (ix3 0 p q))

include h0 h1 h2 in
/-- A row of a sub-block's projection is a token's. -/
theorem P_row (r : Fin 4) (i : Fin 512) (n : Fin 2048) (b : Fin 8) (s : Fin 8192) (hb : b.val = 2 * r.val + i.val / 256) (hs : s.val = t * 256 + i.val % 256) :
    P r x0 x1 x2 (ix2 i n) = tok a0 a1 a2 b s n := by
  refine (proj_at _ _ _ _ _).trans ?_
  have e : (fun k => xr r x0 (ix3 ⟨i.val / 256, by omega⟩ ⟨i.val % 256, by omega⟩ k)) = fun k => a0 (ix3 b s k) := by
    funext k
    refine (h0 ⟨2 * r.val + i.val / 256, by omega⟩ ⟨i.val % 256, by omega⟩ k).trans ?_
    rw [show (⟨2 * r.val + i.val / 256, by omega⟩ : Fin 8) = b from Fin.ext hb.symm,
      show (⟨t * 256 + i.val % 256, by omega⟩ : Fin 8192) = s from Fin.ext hs.symm]
  unfold tok
  rw [e, funext h1, show (fun p q => x2 (ix2 p q)) = fun p q => a2 (ix3 0 p q) from funext fun p => funext fun q => h2 p q]

include h0 h1 h2 in
/-- What the convolution reads at a row of a sub-block. -/
theorem z_row (r : Fin 4) (i : Fin 512) (l : Fin 512) (b : Fin 8) (s : Fin 8192) (hb : b.val = 2 * r.val + i.val / 256) (hs : s.val = t * 256 + i.val % 256) :
    cols 1536 (by decide) (P r x0 x1 x2) (ix2 i l) * cols 512 (by decide) (P r x0 x1 x2) (ix2 i l) = gated (tok a0 a1 a2 b s) l :=
  congrArg₂ (· * ·) (P_row a0 a1 a2 t ht x0 x1 x2 h0 h1 h2 r i ⟨1536 + l.val, by omega⟩ b s hb hs)
    (P_row a0 a1 a2 t ht x0 x1 x2 h0 h1 h2 r i ⟨512 + l.val, by omega⟩ b s hb hs)

include h0 h1 h2 in
/-- The block of the first result at a grid point. -/
theorem GU_at (y : S4x2048x128.Idx) (j : S4x65536x128.Idx) (e0 : (j 0).val = (y 0).val) (e1 : (j 1).val = t * 2048 + (y 1).val) (e2 : (j 2).val = (y 2).val) :
    GU x0 x1 x2 y = uOut a0 a1 a2 j := by
  have hy1 : (y 1).val < 2048 := (y 1).isLt
  have hy0 : (y 0).val < 4 := (y 0).isLt
  have hy2 : (y 2).val < 128 := (y 2).isLt
  have q1 : (256 * ((y 1).val % 8 % 2) + (y 1).val / 8) / 256 = (y 1).val % 8 % 2 := by omega
  have q2 : (256 * ((y 1).val % 8 % 2) + (y 1).val / 8) % 256 = (y 1).val / 8 := by omega
  refine (P_row a0 a1 a2 t ht x0 x1 x2 h0 h1 h2 _ _ _ ⟨(j 1).val % 8, by omega⟩ ⟨(j 1).val / 8, by omega⟩ ?_ ?_).trans ?_
  · change (j 1).val % 8 = 2 * ((y 1).val % 8 / 2) + (256 * ((y 1).val % 8 % 2) + (y 1).val / 8) / 256
    rw [q1]; omega
  · change (j 1).val / 8 = t * 256 + (256 * ((y 1).val % 8 % 2) + (y 1).val / 8) % 256
    rw [q2]; omega
  · exact congrArg (tok a0 a1 a2 ⟨(j 1).val % 8, by omega⟩ ⟨(j 1).val / 8, by omega⟩) (Fin.ext (by change 128 * (y 0).val + (y 2).val = 128 * (j 0).val + (j 2).val; omega))

include h0 h1 h2 in
/-- What a grid point leaves for the next. -/
theorem GZ_at (b : Fin 8) (s : Fin 8) (l : Fin 512) :
    GZ x0 x1 x2 (ix3 b s l) = gated (tok a0 a1 a2 b ⟨t * 256 + 248 + s.val, by omega⟩) l := by
  refine (carry_at _ _ _ _ _).trans ?_
  refine z_row a0 a1 a2 t ht x0 x1 x2 h0 h1 h2 _ _ l b _ ?_ ?_
  · change b.val = 2 * (b.val / 2) + (b.val % 2 * 256 + (248 + s.val)) / 256; omega
  · change t * 256 + 248 + s.val = t * 256 + (b.val % 2 * 256 + (248 + s.val)) % 256; omega

include h0 h1 h2 in
/-- The convolution's input `n` tokens back, the carried rows being the last block's. -/
theorem back_at (xs : FVec Ideal S8x8x512 .f32)
    (hx : ∀ (b : Fin 8) (s : Fin 8) (l : Fin 512), xs (ix3 b s l) = if h : t = 0 then (0 : EReal) else gated (tok a0 a1 a2 b ⟨(t - 1) * 256 + 248 + s.val, by omega⟩) l)
    (n : ℕ) (hn : n ≤ 2) (b : Fin 8) (s : Fin 256) (l : Fin 512) :
    back n (cols 512 (by decide) (P ⟨b.val / 2, by omega⟩ x0 x1 x2)) (cols 1536 (by decide) (P ⟨b.val / 2, by omega⟩ x0 x1 x2)) (prev ⟨b.val / 2, by omega⟩ xs)
        ⟨b.val % 2, by omega⟩ s l
      = ago (tok a0 a1 a2 b) n ⟨t * 256 + s.val, by omega⟩ l := by
  unfold back ago
  by_cases hs : s.val < n
  · rw [if_pos hs]
    have hp : prev ⟨b.val / 2, by omega⟩ xs (ix3 ⟨b.val % 2, by omega⟩ ⟨(s.val + 8 - n) % 8, by omega⟩ l) = xs (ix3 b ⟨(s.val + 8 - n) % 8, by omega⟩ l) := by
      refine congrArg (fun b' => xs (ix3 b' ⟨(s.val + 8 - n) % 8, by omega⟩ l)) (Fin.ext ?_)
      change 2 * (b.val / 2) + b.val % 2 = b.val
      omega
    rw [hp, hx]
    by_cases h : t = 0
    · subst h
      rw [dif_pos rfl, if_pos (by change 0 * 256 + s.val < n; omega)]
    · rw [dif_neg h, if_neg (by change ¬ t * 256 + s.val < n; omega)]
      refine congrArg (fun s' => gated (tok a0 a1 a2 b s') l) (Fin.ext ?_)
      change (t - 1) * 256 + 248 + (s.val + 8 - n) % 8 = t * 256 + s.val - n
      omega
  · rw [if_neg hs, if_neg (by change ¬ t * 256 + s.val < n; omega)]
    refine z_row a0 a1 a2 t ht x0 x1 x2 h0 h1 h2 _ _ l b _ ?_ ?_
    · change b.val = 2 * (b.val / 2) + (b.val % 2 * 256 + (s.val + 256 - n) % 256) / 256; omega
    · change t * 256 + s.val - n = t * 256 + (b.val % 2 * 256 + (s.val + 256 - n) % 256) % 256; omega

include h0 h1 h2 h3 in
/-- The block of the second result at a grid point. -/
theorem GY_at (xs : FVec Ideal S8x8x512 .f32)
    (hx : ∀ (b : Fin 8) (s : Fin 8) (l : Fin 512), xs (ix3 b s l) = if h : t = 0 then (0 : EReal) else gated (tok a0 a1 a2 b ⟨(t - 1) * 256 + 248 + s.val, by omega⟩) l)
    (b : Fin 8) (s : Fin 256) (l : Fin 512) :
    GY x0 x1 x2 x3 xs (ix3 b s l) = yOut a0 a1 a2 a3 (ix3 b ⟨t * 256 + s.val, by omega⟩ l) := by
  refine (conv_at _ _ _ _ _ _ _ _).trans ?_
  have e2 := back_at a0 a1 a2 t ht x0 x1 x2 h0 h1 h2 xs hx 2 (by omega) b s l
  have e1 := back_at a0 a1 a2 t ht x0 x1 x2 h0 h1 h2 xs hx 1 (by omega) b s l
  have ez := z_row a0 a1 a2 t ht x0 x1 x2 h0 h1 h2 ⟨b.val / 2, by omega⟩ ⟨b.val % 2 * 256 + s.val, by omega⟩ l b ⟨t * 256 + s.val, by omega⟩
    (by change b.val = 2 * (b.val / 2) + (b.val % 2 * 256 + s.val) / 256; omega)
    (by change t * 256 + s.val = t * 256 + (b.val % 2 * 256 + s.val) % 256; omega)
  have eb := P_row a0 a1 a2 t ht x0 x1 x2 h0 h1 h2 ⟨b.val / 2, by omega⟩ ⟨b.val % 2 * 256 + s.val, by omega⟩ ⟨1024 + l.val, by omega⟩ b ⟨t * 256 + s.val, by omega⟩
    (by change b.val = 2 * (b.val / 2) + (b.val % 2 * 256 + s.val) / 256; omega)
    (by change t * 256 + s.val = t * 256 + (b.val % 2 * 256 + s.val) % 256; omega)
  have ew : (fun p q => x3 (ix2 p q)) = fun p q => a3 (ix3 0 p q) := funext fun p => funext fun q => h3 p q
  have key : ∀ cw cw' : Fin 3 → Fin 512 → EReal, ∀ g g' u u' v v' z z' : EReal, cw = cw' → g = g' → u = u' → v = v' → z = z' →
      conv3 cw g u v z l = conv3 cw' g' u' v' z' l := by
    intro cw cw' g g' u u' v v' z z' i1 i2 i3 i4 i5
    rw [i1, i2, i3, i4, i5]
  exact key _ _ _ _ _ _ _ _ _ _ ew eb e2 e1 ez

end

/-! ## The run's blocks -/

variable (m : (ℓ : Loc nD τ sig) → Buf (Elt Ideal) ℓ)

/-- What a point leaves in the first result's block, whatever was carried. -/
theorem outU_eq (c : Dev nD) (t : Fin cfg0.N) (xs : FVec Ideal S8x8x512 .f32) :
    outU m c t xs = GU (iblk m c 0 t) (iblk m c 1 t) (iblk m c 2 t) := by
  funext y
  unfold outU
  by_cases h : isFirst (grid0.coords t)
  · rw [dif_pos h, View.read_writes_junk_eq_canon]
    exact View.canon_apply_of_pieces (Val := Elt Ideal) (e := .f32) (GU (iblk m c 0 t) (iblk m c 1 t) (iblk m c 2 t)) _
      (allU_A c _ _ _ _ _ _ _ _ _ _ _ _ _ _ _ _ _ h _ _ _ _) y (coverU_A m c t h y)
  · rw [dif_neg h, View.read_writes_junk_eq_canon]
    exact View.canon_apply_of_pieces (Val := Elt Ideal) (e := .f32) (GU (iblk m c 0 t) (iblk m c 1 t) (iblk m c 2 t)) _
      (allU_B c _ _ _ _ _ _ _ _ _ _ _ _ _ _ _ _ _ h _ _ _ _ xs) y (coverU_B m c t h xs y)

/-- What a point leaves in the carried rows, whatever was carried. -/
theorem outZ_eq (c : Dev nD) (t : Fin cfg0.N) (xs : FVec Ideal S8x8x512 .f32) :
    outZ m c t xs = GZ (iblk m c 0 t) (iblk m c 1 t) (iblk m c 2 t) := by
  funext y
  unfold outZ
  by_cases h : isFirst (grid0.coords t)
  · rw [dif_pos h, View.read_writes_junk_eq_canon, ← List.take_append_drop 4 (runA m c t h).2.2.1]
    exact View.canon_append_of_pieces (Val := Elt Ideal) (e := .f32) (GZ (iblk m c 0 t) (iblk m c 1 t) (iblk m c 2 t)) _ _
      (allZ_A c _ _ _ _ _ _ _ _ _ _ _ _ _ _ _ _ _ h _ _ _ _) y
      (View.cover_of_tiledL ((runA m c t h).2.2.1.take 4) S2x8x512.size (by sl_kernel_rfl) y)
  · rw [dif_neg h, View.read_writes_junk_eq_canon]
    exact View.canon_apply_of_pieces (Val := Elt Ideal) (e := .f32) (GZ (iblk m c 0 t) (iblk m c 1 t) (iblk m c 2 t)) _
      (allZ_B c _ _ _ _ _ _ _ _ _ _ _ _ _ _ _ _ _ h _ _ _ _ xs) y (coverZ_B m c t h xs y)

/-- What a point leaves in the second result's block: from zeros at the first point, else from what was carried. -/
theorem outY_eq (c : Dev nD) (t : Fin cfg0.N) (xs xs' : FVec Ideal S8x8x512 .f32)
    (hx : xs' = if t.val = 0 then k0_pay2 (F := Ideal) else xs) :
    outY m c t xs = GY (iblk m c 0 t) (iblk m c 1 t) (iblk m c 2 t) (iblk m c 3 t) xs' := by
  have hN : t.val < 32 := lt_of_lt_of_eq t.isLt N_0
  funext y
  unfold outY
  by_cases h : isFirst (grid0.coords t)
  · have hz : t.val = 0 := by have := (isFirst_iff t).mp h; omega
    rw [if_pos hz] at hx
    subst hx
    rw [dif_pos h, View.read_writes_junk_eq_canon]
    exact View.canon_apply_of_pieces (Val := Elt Ideal) (e := .f32) (GY (iblk m c 0 t) (iblk m c 1 t) (iblk m c 2 t) (iblk m c 3 t) (k0_pay2 (F := Ideal))) _
      (allY_A c _ _ _ _ _ _ _ _ _ _ _ _ _ _ _ _ _ h _ _ _ _) y (coverY_A m c t h y)
  · have hz : ¬ t.val = 0 := fun hz => h ((isFirst_iff t).mpr (by rw [hz]))
    rw [if_neg hz] at hx
    subst hx
    rw [dif_neg h, View.read_writes_junk_eq_canon]
    exact View.canon_apply_of_pieces (Val := Elt Ideal) (e := .f32) (GY (iblk m c 0 t) (iblk m c 1 t) (iblk m c 2 t) (iblk m c 3 t) xs') _
      (allY_B c _ _ _ _ _ _ _ _ _ _ _ _ _ _ _ _ _ h _ _ _ _ xs') y (coverY_B m c t h xs' y)

/-- The index maps of the call's windows: the activations and the results move with the grid, the weights stay. -/
theorem idx : ∀ t : Fin cfg0.N, win0_0.index t = ![0, t.val, 0] ∧ win0_1.index t = ![0, 0] ∧ win0_2.index t = ![0, 0]
    ∧ win0_3.index t = ![0, 0] ∧ win0_4.index t = ![0, t.val, 0] ∧ win0_5.index t = ![0, t.val, 0] :=
  (by decide +kernel : ∀ t : Fin grid0.N, _)

theorem lt32 (t : Fin cfg0.N) : t.val < 32 := lt_of_lt_of_eq t.isLt N_0

/-- Window 0's block at grid point `t`, read from its argument array. -/
theorem iblk0_at (c : Dev nD) (t : Fin cfg0.N) (b : Fin 8) (s : Fin 256) (k : Fin 1024) :
    (show EReal from iblk m c 0 t (ix3 b s k))
      = m ((c : Thread nD τ).loc main_arg0) (ix3 b ⟨t.val * 256 + s.val, by have := lt32 t; omega⟩ k) := by
  blk_point [iblk, V, idx t]

/-- Window 1's block is its argument array at every grid point. -/
theorem iblk1_at (c : Dev nD) (t : Fin cfg0.N) (q : Fin 1024) :
    (show EReal from iblk m c 1 t (ix2 0 q)) = m ((c : Thread nD τ).loc main_arg1) (ix2 0 q) := by
  blk_point [iblk, V, idx t]

/-- Window 2's block is its argument array at every grid point. -/
theorem iblk2_at (c : Dev nD) (t : Fin cfg0.N) (p : Fin 1024) (q : Fin 2048) :
    (show EReal from iblk m c 2 t (ix2 p q)) = m ((c : Thread nD τ).loc main_arg2) (ix3 0 p q) := by
  blk_point [iblk, V, idx t]

/-- Window 3's block is its argument array at every grid point. -/
theorem iblk3_at (c : Dev nD) (t : Fin cfg0.N) (p : Fin 3) (q : Fin 512) :
    (show EReal from iblk m c 3 t (ix2 p q)) = m ((c : Thread nD τ).loc main_arg3) (ix3 0 p q) := by
  blk_point [iblk, V, idx t]

/-- Where index `y` of grid point `t`'s block lies in the first result array. -/
theorem emb4_eq (t : Fin cfg0.N) (y : S4x2048x128.Idx) :
    ((cfg0.win 4).blk t).view.emb y = (ix3 (y 0) ⟨t.val * 2048 + (y 1).val, by
      have h : t.val < 32 := lt32 t
      have h' : (y 1).val < 2048 := (y 1).isLt
      omega⟩ (y 2) : S4x65536x128.Idx) := by
  blk_ext [idx t]

/-- Where index `y` of grid point `t`'s block lies in the second result array. -/
theorem emb5_eq (t : Fin cfg0.N) (y : S8x256x512.Idx) :
    ((cfg0.win 5).blk t).view.emb y = (ix3 (y 0) ⟨t.val * 256 + (y 1).val, by
      have h : t.val < 32 := lt32 t
      have h' : (y 1).val < 256 := (y 1).isLt
      omega⟩ (y 2) : S8x8192x512.Idx) := by
  blk_ext [idx t]

/-- The first result array after the run. -/
theorem final4 (c : Dev nD) : (dats m 0 c).arrAt 4 (cfgs 0).N
    = uOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, outU_eq, emb4_eq]
  exact GU_at _ _ _ t.val (lt32 t) _ _ _ (iblk0_at m c t) (iblk1_at m c t) (iblk2_at m c t) y _ rfl rfl rfl

/-- The rows carried into a point, or zeros at the first. -/
theorem carried_at (c : Dev nD) (t : Fin cfg0.N) (b : Fin 8) (s : Fin 8) (l : Fin 512) :
    (if t.val = 0 then k0_pay2 (F := Ideal) else carried m c t.val (Nat.le_of_lt t.isLt)) (ix3 b s l)
      = if h : t.val = 0 then (0 : EReal) else gated (tok (m ((c : Thread nD τ).loc main_arg0)) (m ((c : Thread nD τ).loc main_arg1)) (m ((c : Thread nD τ).loc main_arg2)) b
          ⟨(t.val - 1) * 256 + 248 + s.val, by have := lt32 t; omega⟩) l := by
  obtain ⟨n, hn⟩ := t
  cases n with
  | zero => rw [if_pos rfl, dif_pos rfl]; exact zeros_at _
  | succ n =>
    rw [if_neg (Nat.succ_ne_zero n), dif_neg (Nat.succ_ne_zero n)]
    change outZ m c ⟨n, Nat.lt_of_succ_lt hn⟩ _ (ix3 b s l) = _
    rw [outZ_eq]
    exact GZ_at _ _ _ n (lt32 ⟨n, Nat.lt_of_succ_lt hn⟩) _ _ _ (iblk0_at m c _) (iblk1_at m c _) (iblk2_at m c _) b s l

/-- The second result array after the run. -/
theorem final5 (c : Dev nD) : (dats m 0 c).arrAt 5 (cfgs 0).N
    = yOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, outY_eq m c t _ _ rfl, emb5_eq]
  have hy : y = ix3 (y 0) (y 1) (y 2) := by
    funext a
    match a with
    | 0 => rfl
    | 1 => rfl
    | 2 => rfl
  rw [hy]
  exact GY_at _ _ _ _ t.val (lt32 t) _ _ _ _ (iblk0_at m c t) (iblk1_at m c t) (iblk2_at m c t) (iblk3_at m c t) _ (carried_at m c t) (y 0) (y 1) (y 2)

/-- The run: the result arrays at the layer's functions of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v5_0) = uOut (m ((c : Thread nD τ).loc main_arg0)) (m ((c : Thread nD τ).loc main_arg1)) (m ((c : Thread nD τ).loc main_arg2))
      ∧ r.2.mem ((c.tc : Thread nD τ).loc main_v5_1) = yOut (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c), ((h.1 c).1 5).trans (final5 m c), h.2.1 c⟩)
    (θ_run_and (run_main m ρ) (frame m ρ))

end Cert.InprojIdeal.Value
-- ==== Proof.InprojRefRow.lean ====
module

public import proofs.«01_k».proof.Proof.Gen.InprojRefIdeal.Run
public import proofs.«01_k».proof.Proof.InprojRows
public import Idealize.ShloMosaic.Lib.Pipeline.ValueKit

/-! # What the reference of the layer's first call computes, token by token -/

@[expose] public section

set_option maxRecDepth 16384

noncomputable section

namespace Cert.InprojRefIdeal.Value

open Cert.InprojRefIdeal Cert.InprojRefIdeal.Gen Cert.Rows
open Idealize.ShloMosaic Idealize.ShloMosaic.TcCoe Idealize.ShloMosaic.StableHlo Idealize.SL.Sem

variable (a0 : FVec Ideal S8x8192x1024 .f32) (a1 : FVec Ideal S1x1024 .f32) (a2 : FVec Ideal S1x1024x2048 .f32) (a3 : FVec Ideal S1x3x512 .f32)
  (p : FVec Ideal S8x8192x2048 .f32)

/-- The reference's projection. -/
def projA : FVec Ideal S8x8192x2048 .f32 :=
  Host.dotGeneral dot_S8x8192x1024_S1024x2048_S8x8192x2048_2_0_01_1_n_n none (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ a1 shapeCasts_S1x1024_S1024)))) (shapeCast _ a2 shapeCasts_S1x1024x2048_S1024x2048)

/-- Its row of a token. -/
theorem projA_at (b : Fin 8) (s : Fin 8192) (n : Fin 2048) : projA a0 a1 a2 (ix3 b s n) = tok a0 a1 a2 b s n := by
  pointwise [projA, tok, projRow, rms]

/-- The convolution's input with two zero tokens before it. -/
def padA : FVec Ideal S8x8194x512 .f32 :=
  pad S8x8194x512 ![0, 2, 0] ![0, 0, 0] ![0, 0, 0] (mulf (extractStridedSlice S8x8192x512 ![0, 0, 1536] p slices_S8x8192x2048_S8x8192x512_0_0_1536) (extractStridedSlice S8x8192x512 ![0, 0, 512] p slices_S8x8192x2048_S8x8192x512_0_0_512)) (sitofp .f32 (constantI S_ 32 0#32)) pads_S8x8192x512_S8x8194x512_000_200_000 h_S_

/-- It at a token. -/
theorem padA_at (b : Fin 8) (s : Fin 8194) (l : Fin 512) :
    padA p (ix3 b s l) = if s.val < 2 then 0 else gated (fun n => p (ix3 b ⟨s.val - 2, by omega⟩ n)) l := by
  have hz : (FloatOps.sitofp (F := Ideal) FTy.f32 (0#32) : EReal) = 0 := by
    change (((0#32 : BitVec 32).toInt : ℝ) : EReal) = 0
    simp
  by_cases hs : s.val < 2
  · rw [if_pos hs]
    refine Eq.trans ?_ hz
    pointwise [padA, gated]
    rw [dif_neg (by omega)]
  · rw [if_neg hs]
    pointwise [padA, gated]
    rw [dif_pos (by omega)]

/-- The reference's short convolution. -/
def convA : FVec Ideal S8x8192x512 .f32 :=
  mulf (extractStridedSlice S8x8192x512 ![0, 0, 1024] p slices_S8x8192x2048_S8x8192x512_0_0_1024)
    (addf (addf (mulf (broadcastInDim S8x8192x512 ![0, 1, 2] bcast_S1x1x512_S8x8192x512_0_1_2 (broadcastInDim S1x1x512 ![2] bcast_S512_S1x1x512_2 (shapeCast _ (extractStridedSlice S1x512 ![0, 0] (shapeCast _ a3 shapeCasts_S1x3x512_S3x512) slices_S3x512_S1x512_0_0) shapeCasts_S1x512_S512)))
        (extractStridedSlice S8x8192x512 ![0, 0, 0] (padA p) slices_S8x8194x512_S8x8192x512_0_0_0))
      (mulf (broadcastInDim S8x8192x512 ![0, 1, 2] bcast_S1x1x512_S8x8192x512_0_1_2 (broadcastInDim S1x1x512 ![2] bcast_S512_S1x1x512_2 (shapeCast _ (extractStridedSlice S1x512 ![1, 0] (shapeCast _ a3 shapeCasts_S1x3x512_S3x512) slices_S3x512_S1x512_1_0) shapeCasts_S1x512_S512)))
        (extractStridedSlice S8x8192x512 ![0, 1, 0] (padA p) slices_S8x8194x512_S8x8192x512_0_1_0)))
      (mulf (broadcastInDim S8x8192x512 ![0, 1, 2] bcast_S1x1x512_S8x8192x512_0_1_2 (broadcastInDim S1x1x512 ![2] bcast_S512_S1x1x512_2 (shapeCast _ (extractStridedSlice S1x512 ![2, 0] (shapeCast _ a3 shapeCasts_S1x3x512_S3x512) slices_S3x512_S1x512_2_0) shapeCasts_S1x512_S512)))
        (extractStridedSlice S8x8192x512 ![0, 2, 0] (padA p) slices_S8x8194x512_S8x8192x512_0_2_0)))

/-- It at a channel of a token. -/
theorem convA_at (b : Fin 8) (s : Fin 8192) (l : Fin 512) :
    convA a3 p (ix3 b s l) = convOut (fun s n => p (ix3 b s n)) (fun i q => a3 (ix3 0 i q)) s l := by
  have e2 : padA p (ix3 b ⟨s.val, by omega⟩ l) = ago (fun s n => p (ix3 b s n)) 2 s l := padA_at p b ⟨s.val, by omega⟩ l
  have e1 : padA p (ix3 b ⟨1 + s.val, by omega⟩ l) = ago (fun s n => p (ix3 b s n)) 1 s l := by
    refine (padA_at p b ⟨1 + s.val, by omega⟩ l).trans ?_
    unfold ago
    by_cases h : s.val < 1
    · rw [if_pos h, if_pos (by change 1 + s.val < 2; omega)]
    · rw [if_neg h, if_neg (by change ¬ 1 + s.val < 2; omega)]
      refine congrArg (fun s' => gated (fun n => p (ix3 b s' n)) l) (Fin.ext ?_)
      change 1 + s.val - 2 = s.val - 1
      omega
  have e0 : padA p (ix3 b ⟨2 + s.val, by omega⟩ l) = gated (fun n => p (ix3 b s n)) l := by
    refine (padA_at p b ⟨2 + s.val, by omega⟩ l).trans ?_
    rw [if_neg (by change ¬ 2 + s.val < 2; omega)]
    refine congrArg (fun s' => gated (fun n => p (ix3 b s' n)) l) (Fin.ext ?_)
    change 2 + s.val - 2 = s.val
    omega
  unfold convOut
  rw [← e2, ← e1, ← e0]
  pointwise [convA, conv3]

/-- The reference's second result is the layer's function of the arguments. -/
theorem conv_eq : convA a3 (projA a0 a1 a2) = yOut a0 a1 a2 a3 := by
  funext j
  have hj : j = ix3 (j 0) (j 1) (j 2) := by
    funext a
    match a with
    | 0 => rfl
    | 1 => rfl
    | 2 => rfl
  rw [hj]
  refine (convA_at a3 _ (j 0) (j 1) (j 2)).trans ?_
  exact congrArg (fun q => convOut q (fun i q => a3 (ix3 0 i q)) (j 1) (j 2))
    (funext fun s => funext fun n => projA_at a0 a1 a2 (j 0) s n)

/-- The reference's first result. -/
def scanA : FVec Ideal S4x65536x128 .f32 :=
  shapeCast _ (transpose S4x8192x8x128 [2, 1, 0, 3] (shapeCast _ (extractStridedSlice S8x8192x512 ![0, 0, 0] p slices_S8x8192x2048_S8x8192x512_0_0_0) shapeCasts_S8x8192x512_S8x8192x4x128) transposes_S8x8192x4x128_S4x8192x8x128_2_1_0_3) shapeCasts_S4x8192x8x128_S4x65536x128

/-- It at an index. -/
theorem scanA_at (j : Fin 4) (i : Fin 65536) (l : Fin 128) :
    scanA p (ix3 j i l) = p (ix3 ⟨i.val % 8, by omega⟩ ⟨i.val / 8, by omega⟩ ⟨128 * j.val + l.val, by omega⟩) := by
  pointwise [scanA]
  exact congrArg (fun n => p (ix3 _ _ n)) (Fin.ext (by simp [Nat.mul_comm]))

/-- The reference's first result is the layer's function of the arguments. -/
theorem scan_eq : scanA (projA a0 a1 a2) = uOut a0 a1 a2 := by
  funext j
  have hj : j = ix3 (j 0) (j 1) (j 2) := by
    funext a
    match a with
    | 0 => rfl
    | 1 => rfl
    | 2 => rfl
  rw [hj]
  exact (scanA_at _ (j 0) (j 1) (j 2)).trans (projA_at a0 a1 a2 _ _ _)

/-- The reference's run: its results at the layer's functions of the arguments, the arguments unchanged. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) = uOut (m ((c.tc : Thread nD τ).loc main_arg0)) (m ((c.tc : Thread nD τ).loc main_arg1)) (m ((c.tc : Thread nD τ).loc main_arg2))
      ∧ r.2.mem ((c.tc : Thread nD τ).loc main_v43) = yOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (scan_eq _ _ _), (h c).2.1.trans (conv_eq _ _ _ _), (h c).2.2⟩)
    (run (F := Ideal) m ρ)

end Cert.InprojRefIdeal.Value
-- ==== Proof.InprojClaims.lean ====
module

public import proofs.«01_k».proof.Defs
public import proofs.«01_k».proof.Proof.Gen.Inproj
public import proofs.«01_k».proof.Proof.InprojFrame
public import proofs.«01_k».proof.Proof.InprojValue
public import proofs.«01_k».proof.Proof.InprojRefRow
public import Idealize.ShloMosaic.Lib.Quiescent

/-! # The claims about the layer's first call -/

@[expose] public section

noncomputable section

namespace Cert.Proof.InprojClaims

open Idealize.ShloMosaic Idealize.SL.Sem

section
open Cert.InprojIdeal

/-- The frame claim of the idealized kernel's text at any reading of the floats. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel as printed and the idealized kernel have the same text, so their frame claims are one at the two readings. -/
theorem frame_text : Cert.quiescent_Inproj (hInproj := Cert.Inproj.Gen.facts) = FrameAt Bits := by sl_kernel_rfl

end

/-- The kernel as printed runs, keeps its arguments and leaves every counter at zero. -/
theorem frame_p : Cert.quiescent_Inproj (hInproj := Cert.Inproj.Gen.facts) := by
  rw [frame_text]
  exact fun m ρ _ => Cert.InprojIdeal.Gen.frame m ρ

/-- The idealized kernel does too. -/
theorem frame_pi : Cert.quiescent_InprojIdeal := fun m ρ _ => Cert.InprojIdeal.Gen.frame m ρ

/-- The reference runs and keeps its arguments. -/
theorem frame_ri : Cert.quiescent_InprojRefIdeal := fun m ρ _ =>
  (θ_run Cert.InprojRefIdeal.defs _ _).mono (fun r h => ⟨fun c => (h c).2.2,
      Idealize.ShloMosaic.sem_eq_zero_of_no_sems (by decide) r.2⟩)
    (Cert.InprojRefIdeal.Value.run_at m ρ)

/-- No constant is named, so there is nothing to preserve. -/
theorem preserves : Cert.preserves_Inproj_InprojIdeal := trivial

/-- Over the extended reals both results of the kernel are the reference's. -/
theorem algebraic : Cert.algebraic_InprojIdeal_InprojRefIdeal := by
  intro m ρ m' ρ' _ hagree
  refine ⟨_, _, Cert.InprojIdeal.Value.run m ρ, ?_⟩
  refine (θ_run Cert.InprojRefIdeal.defs _ _).mono (fun _ h c => ?_) (Cert.InprojRefIdeal.Value.run_at m' ρ')
  obtain ⟨e0, e1, e2, e3⟩ := hagree c
  refine ⟨(h c).1.trans ?_, (h c).2.1.trans ?_, (h c).2.2⟩
  · rw [e0, e1, e2]
  · rw [e0, e1, e2, e3]

end Cert.Proof.InprojClaims
-- ==== Proof.ScanLoop.lean ====
module

public import proofs.«01_k».proof.Proof.Gen.ScanIdeal.Launch
public import Idealize.ShloMosaic.Lib.Tactic

/-! # The body of the scan, as the loops it was written with -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

/-- A program of the body. -/
abbrev BP (F : FTy → Type) (α : Type) := Prog (TpuEff nD τ sig (Elt F) Λ₀ .tc) α

/-- `n` rounds of `f`, at `k`, `k + 1`, and so on, each taking what the last one gave. -/
def rounds {α : Type} (f : Nat → α → BP F α) (n : Nat) : Nat → α → BP F α :=
  Nat.rec (fun _ a => pure a) (fun _ ih k a => f k a >>= fun b => ih (k + 1) b) n

theorem box8 {k j : Nat} (hk : k < 128) (hj : j < 8) : ∀ a, (![8 * k, 512 * j] : Fin 2 → Nat) a + S8x512.size a ≤ S1024x4096.size a
  | 0 => by show 8 * k + 8 ≤ 1024; omega
  | 1 => by show 512 * j + 512 ≤ 4096; omega

theorem box9 {j : Nat} (hj : j < 8) : ∀ a, (![0, 512 * j] : Fin 2 → Nat) a + S8x512.size a ≤ S8x4096.size a
  | 0 => by show 0 + 8 ≤ 8; omega
  | 1 => by show 512 * j + 512 ≤ 4096; omega

theorem box4 {j : Nat} (hj : j < 4) : ∀ a, (![0, 512 * j] : Fin 2 → Nat) a + S1x512.size a ≤ S1x2048.size a
  | 0 => by show 0 + 1 ≤ 1; omega
  | 1 => by show 512 * j + 512 ≤ 2048; omega

theorem box1 {j i : Nat} (hj : j < 4) (hi : i < 2) : ∀ a, (![j, 0, i, 0, 0] : Fin 5 → Nat) a + S1x128x1x8x128.size a ≤ S4x128x2x8x128.size a
  | 0 => by show j + 1 ≤ 4; omega
  | 1 => by show 0 + 128 ≤ 128; omega
  | 2 => by show i + 1 ≤ 2; omega
  | 3 => by show 0 + 8 ≤ 8; omega
  | 4 => by show 0 + 128 ≤ 128; omega

theorem box2 {j : Nat} (hj : j < 4) : ∀ a, (![j, 0, 0] : Fin 3 → Nat) a + S1x256x1024.size a ≤ S4x256x1024.size a
  | 0 => by show j + 1 ≤ 4; omega
  | 1 => by show 0 + 256 ≤ 256; omega
  | 2 => by show 0 + 1024 ≤ 1024; omega

theorem box3 {j : Nat} (hj : j < 4) : ∀ a, (![j, 0, 0] : Fin 3 → Nat) a + S1x1280x256.size a ≤ S4x1280x256.size a
  | 0 => by show j + 1 ≤ 4; omega
  | 1 => by show 0 + 1280 ≤ 1280; omega
  | 2 => by show 0 + 256 ≤ 256; omega

theorem box8w {j : Nat} (hj : j < 4) : ∀ a, (![0, 1024 * j] : Fin 2 → Nat) a + S1024x1024.size a ≤ S1024x4096.size a
  | 0 => by show 0 + 1024 ≤ 1024; omega
  | 1 => by show 1024 * j + 1024 ≤ 4096; omega

theorem box6 {j : Nat} (hj : j < 4) : ∀ a, (![0, 128 * j] : Fin 2 → Nat) a + S1x128.size a ≤ S1x512.size a
  | 0 => by show 0 + 1 ≤ 1; omega
  | 1 => by show 128 * j + 128 ≤ 512; omega

theorem box10 {j r : Nat} (hj : j < 4) (hr : r < 256) : ∀ a, (![j, 8 * r, 0] : Fin 3 → Nat) a + S1x8x128.size a ≤ S4x2048x128.size a
  | 0 => by show j + 1 ≤ 4; omega
  | 1 => by show 8 * r + 8 ≤ 2048; omega
  | 2 => by show 0 + 128 ≤ 128; omega

theorem box10r {j b : Nat} (hj : j < 4) (hb : b < 8) : ∀ a, S1x256x128.size a = 0 ∨ (![j, b, 0] : Fin 3 → Nat) a + (![1, 8, 1] : Fin 3 → Nat) a * (S1x256x128.size a - 1) < S4x2048x128.size a
  | 0 => .inr (by show j + 1 * 0 < 4; omega)
  | 1 => .inr (by show b + 8 * 255 < 2048; omega)
  | 2 => .inr (by show 0 + 1 * 127 < 128; omega)

theorem box7 {b : Nat} (hb : b < 8) : ∀ a, (![b, 0, 0] : Fin 3 → Nat) a + S1x256x512.size a ≤ S8x256x512.size a
  | 0 => by show b + 1 ≤ 8; omega
  | 1 => by show 0 + 256 ≤ 256; omega
  | 2 => by show 0 + 512 ≤ 512; omega

theorem sl8 {k : Nat} (hk : k < 128) : S1024x128.Slices ![8 * k, 0] S8x128 := by
  refine ⟨rfl, ?_⟩
  intro a
  match a with
  | 0 => show 8 * k + 8 ≤ 1024; omega
  | 1 => show 0 + 128 ≤ 128; omega

variable (arg1 : Memref sig .tc .vmem S4x128x2x8x128 .f32) (arg2 : Memref sig .tc .vmem S4x256x1024 .bf16) (arg3 : Memref sig .tc .vmem S4x1280x256 .bf16) (arg4 : Memref sig .tc .vmem S1x2048 .f32) (arg5 : Memref sig .tc .vmem S1x2048 .f32) (arg6 : Memref sig .tc .vmem S1x512 .f32) (arg7 : Memref sig .tc .vmem S8x256x512 .f32) (arg8 : Memref sig .tc .vmem S1024x4096 .f32) (arg9 : Memref sig .tc .vmem S8x4096 .f32) (arg10 : Memref sig .tc .vmem S4x2048x128 .f32)

/-- The rows of step `i` of each chunk of tile `j`. -/
def stepRows (j i : Nat) (hj : j < 4) (hi : i < 2) : BP F (FVec F S1024x128 .f32) := do
  let v : Vec F S1x128x1x8x128 .f32 ← Prog.lift (.load arg1 (Rect.unit (s := S4x128x2x8x128) ![j, 0, i, 0, 0] S1x128x1x8x128.size (box1 hj hi)).toLoadRect (View.loadsAt_vmem h_S1x128x1x8x128))
  pure (shapeCast S1024x128 (shapeCast S128x8x128 v shapeCasts_S1x128x1x8x128_S128x8x128 : FVec F S128x8x128 .f32) shapeCasts_S128x8x128_S1024x128)

/-- The rows of a chunk's two steps, side by side. -/
def chunkRows (j : Nat) (hj : j < 4) : BP F (FVec F S1024x256 .bf16) := do
  let a ← stepRows arg1 j 0 hj (by omega)
  let b ← stepRows arg1 j 1 hj (by omega)
  pure (truncf .bf16 (concatenate S1024x256 1 [⟨S1024x128, a⟩, ⟨S1024x128, b⟩] concatenates_S1024x128_S1024x128_S1024x256_d1 : FVec F S1024x256 .f32) bitsLt_bf16_f32)

/-- A tile's inputs to the recurrence. -/
def feed (j : Nat) : BP F PUnit :=
  if hj : j < 4 then do
    let r ← chunkRows arg1 j hj
    let w : Vec F S1x256x1024 .bf16 ← Prog.lift (.load arg2 (Rect.unit (s := S4x256x1024) ![j, 0, 0] S1x256x1024.size (box2 hj)).toLoadRect (View.loadsAt_vmem h_S1x256x1024))
    let _v : Vec F S1024x1024 .f32 ← Prog.lift (.load arg8 (Rect.unit (s := S1024x4096) ![0, 1024 * j] S1024x1024.size (box8w hj)).toLoadRect (View.loadsAt_vmem h_S1024x1024))
    Prog.lift (.store arg8 (Rect.unit (s := S1024x4096) ![0, 1024 * j] S1024x1024.size (box8w hj)) (shapeCast S1024x1024 (matmul dot_S1024x256_S256x1024_S1024x1024_1_0_0_1_n_n none r (shapeCast S256x1024 w shapeCasts_S1x256x1024_S256x1024 : FVec F S256x1024 .bf16) (constant S1024x1024 .f32 0x00000000#32 : FVec F S1024x1024 .f32) : FVec F S1024x1024 .f32) shapeCasts_S1024x1024_S1024x1024 : FVec F S1024x1024 .f32) Finset.univ (View.stores_vmem_bits_univ h_S1024x1024 rfl) (.inl rfl))
  else pure ⟨⟩

/-- One step of a tile's recurrence: the state before the chunk replaces the chunk's inputs. -/
def step (j : Nat) (hj : j < 4) (ar ai : FVec F S8x512 .f32) (k : Nat) (h : FVec F S8x512 .f32 × FVec F S8x512 .f32) :
    BP F (FVec F S8x512 .f32 × FVec F S8x512 .f32) :=
  if hk : k < 128 then do
    let vr : Vec F S8x512 .f32 ← Prog.lift (.load arg8 (Rect.unit (s := S1024x4096) ![8 * k, 512 * (2 * j)] S8x512.size (box8 hk (by omega))).toLoadRect (View.loadsAt_vmem h_S8x512))
    let vi : Vec F S8x512 .f32 ← Prog.lift (.load arg8 (Rect.unit (s := S1024x4096) ![8 * k, 512 * (2 * j + 1)] S8x512.size (box8 hk (by omega))).toLoadRect (View.loadsAt_vmem h_S8x512))
    let _v : Vec F S8x512 .f32 ← Prog.lift (.load arg8 (Rect.unit (s := S1024x4096) ![8 * k, 512 * (2 * j)] S8x512.size (box8 hk (by omega))).toLoadRect (View.loadsAt_vmem h_S8x512))
    Prog.lift (.store arg8 (Rect.unit (s := S1024x4096) ![8 * k, 512 * (2 * j)] S8x512.size (box8 hk (by omega))) (shapeCast S8x512 h.1 shapeCasts_S8x512_S8x512 : FVec F S8x512 .f32) Finset.univ (View.stores_vmem_bits_univ h_S8x512 rfl) (.inl rfl))
    let _v : Vec F S8x512 .f32 ← Prog.lift (.load arg8 (Rect.unit (s := S1024x4096) ![8 * k, 512 * (2 * j + 1)] S8x512.size (box8 hk (by omega))).toLoadRect (View.loadsAt_vmem h_S8x512))
    Prog.lift (.store arg8 (Rect.unit (s := S1024x4096) ![8 * k, 512 * (2 * j + 1)] S8x512.size (box8 hk (by omega))) (shapeCast S8x512 h.2 shapeCasts_S8x512_S8x512 : FVec F S8x512 .f32) Finset.univ (View.stores_vmem_bits_univ h_S8x512 rfl) (.inl rfl))
    pure ((addf (subf (mulf ar h.1) (mulf ai h.2)) vr : FVec F S8x512 .f32), (addf (addf (mulf ar h.2) (mulf ai h.1)) vi : FVec F S8x512 .f32))
  else pure h

/-- One row of multipliers over the eight sequences. -/
def spread (j : Nat) (hj : j < 4) (arg : Memref sig .tc .vmem S1x2048 .f32) : BP F (FVec F S8x512 .f32) := do
  let v : Vec F S1x512 .f32 ← Prog.lift (.load arg (Rect.unit (s := S1x2048) ![0, 512 * j] S1x512.size (box4 hj)).toLoadRect (View.loadsAt_vmem h_S1x512))
  pure (broadcastTo S8x512 (shapeCast S1x512 (shapeCast S1x512 v shapeCasts_S1x512_S1x512 : FVec F S1x512 .f32) shapeCasts_S1x512_S1x512 : FVec F S1x512 .f32) broadcasts_S1x512_S8x512)

/-- A tile's recurrence over the block. -/
def recur (n : Nat) (j : Nat) : BP F PUnit :=
  if hj : j < 4 then do
    let ar ← spread j hj arg4
    let ai ← spread j hj arg5
    let hr : Vec F S8x512 .f32 ← Prog.lift (.load arg9 (Rect.unit (s := S8x4096) ![0, 512 * (2 * j)] S8x512.size (box9 (by omega))).toLoadRect (View.loadsAt_vmem h_S8x512))
    let hi : Vec F S8x512 .f32 ← Prog.lift (.load arg9 (Rect.unit (s := S8x4096) ![0, 512 * (2 * j + 1)] S8x512.size (box9 (by omega))).toLoadRect (View.loadsAt_vmem h_S8x512))
    let h ← rounds (step arg8 j hj ar ai) n 0 (hr, hi)
    let _v : Vec F S8x512 .f32 ← Prog.lift (.load arg9 (Rect.unit (s := S8x4096) ![0, 512 * (2 * j)] S8x512.size (box9 (by omega))).toLoadRect (View.loadsAt_vmem h_S8x512))
    Prog.lift (.store arg9 (Rect.unit (s := S8x4096) ![0, 512 * (2 * j)] S8x512.size (box9 (by omega))) (shapeCast S8x512 h.1 shapeCasts_S8x512_S8x512 : FVec F S8x512 .f32) Finset.univ (View.stores_vmem_bits_univ h_S8x512 rfl) (.inl rfl))
    let _v : Vec F S8x512 .f32 ← Prog.lift (.load arg9 (Rect.unit (s := S8x4096) ![0, 512 * (2 * j + 1)] S8x512.size (box9 (by omega))).toLoadRect (View.loadsAt_vmem h_S8x512))
    Prog.lift (.store arg9 (Rect.unit (s := S8x4096) ![0, 512 * (2 * j + 1)] S8x512.size (box9 (by omega))) (shapeCast S8x512 h.2 shapeCasts_S8x512_S8x512 : FVec F S8x512 .f32) Finset.univ (View.stores_vmem_bits_univ h_S8x512 rfl) (.inl rfl))
  else pure ⟨⟩

/-- One row of a step's results put in its place. -/
def place (j i : Nat) (hj : j < 4) (hi : i < 2) (y : FVec F S1024x128 .f32) (k : Nat) (_u : PUnit) : BP F PUnit :=
  if hk : k < 128 then do
    let _v : Vec F S1x8x128 .f32 ← Prog.lift (.load arg10 (Rect.unit (s := S4x2048x128) ![j, 8 * (2 * k + i), 0] S1x8x128.size (box10 hj (by omega))).toLoadRect (View.loadsAt_vmem h_S1x8x128))
    Prog.lift (.store arg10 (Rect.unit (s := S4x2048x128) ![j, 8 * (2 * k + i), 0] S1x8x128.size (box10 hj (by omega))) (shapeCast S1x8x128 (extractStridedSlice S8x128 ![8 * k, 0] y (sl8 hk) : FVec F S8x128 .f32) shapeCasts_S8x128_S1x8x128 : FVec F S1x8x128 .f32) Finset.univ (View.stores_vmem_bits_univ h_S1x8x128 rfl) (.inl rfl))
  else pure ⟨⟩

/-- A tile's results, one step of the chunk after the other. -/
def emit (n : Nat) (j : Nat) : BP F PUnit :=
  if hj : j < 4 then do
    let st : Vec F S1024x1024 .f32 ← Prog.lift (.load arg8 (Rect.unit (s := S1024x4096) ![0, 1024 * j] S1024x1024.size (box8w hj)).toLoadRect (View.loadsAt_vmem h_S1024x1024))
    let r ← chunkRows arg1 j hj
    let w : Vec F S1x1280x256 .bf16 ← Prog.lift (.load arg3 (Rect.unit (s := S4x1280x256) ![j, 0, 0] S1x1280x256.size (box3 hj)).toLoadRect (View.loadsAt_vmem h_S1x1280x256))
    let d : Vec F S1x128 .f32 ← Prog.lift (.load arg6 (Rect.unit (s := S1x512) ![0, 128 * j] S1x128.size (box6 hj)).toLoadRect (View.loadsAt_vmem h_S1x128))
    let y : FVec F S1024x256 .f32 := matmul dot_S1024x1280_S1280x256_S1024x256_1_0_0_1_n_n none (concatenate S1024x1280 1 [⟨S1024x1024, (truncf .bf16 st bitsLt_bf16_f32 : FVec F S1024x1024 .bf16)⟩, ⟨S1024x256, r⟩] concatenates_S1024x1024_S1024x256_S1024x1280_d1 : FVec F S1024x1280 .bf16) (shapeCast S1280x256 w shapeCasts_S1x1280x256_S1280x256 : FVec F S1280x256 .bf16) (constant S1024x256 .f32 0x00000000#32 : FVec F S1024x256 .f32)
    let dj : FVec F S1024x128 .f32 := broadcastTo S1024x128 (shapeCast S1x128 d shapeCasts_S1x128_S1x128 : FVec F S1x128 .f32) broadcasts_S1x128_S1024x128
    let u0 ← stepRows arg1 j 0 hj (by omega)
    rounds (place arg10 j 0 hj (by omega) (addf (extractStridedSlice S1024x128 ![0, 0] y slices_S1024x256_o0_0_S1024x128 : FVec F S1024x128 .f32) (mulf dj u0))) n 0 ⟨⟩
    let u1 ← stepRows arg1 j 1 hj (by omega)
    rounds (place arg10 j 1 hj (by omega) (addf (extractStridedSlice S1024x128 ![0, 128] y slices_S1024x256_o0_128_S1024x128 : FVec F S1024x128 .f32) (mulf dj u1))) n 0 ⟨⟩
  else pure ⟨⟩

/-- One sequence's rows of a tile. -/
def seqRows (j b : Nat) (hj : j < 4) (hb : b < 8) : BP F (FVec F S256x128 .f32) := do
  let v : Vec F S1x256x128 .f32 ← Prog.lift (.load arg10 (⟨![j, b, 0], S1x256x128.size, ![1, 8, 1], box10r hj hb⟩ : LoadRect S4x2048x128) (View.loadsAt_vmem h_S1x256x128))
  pure (shapeCast S256x128 v shapeCasts_S1x256x128_S256x128)

/-- One sequence's rows written out, its four tiles side by side. -/
def out (b : Nat) : BP F PUnit :=
  if hb : b < 8 then do
    let y0 ← seqRows arg10 0 b (by omega) hb
    let y1 ← seqRows arg10 1 b (by omega) hb
    let y2 ← seqRows arg10 2 b (by omega) hb
    let y3 ← seqRows arg10 3 b (by omega) hb
    let _v : Vec F S1x256x512 .f32 ← Prog.lift (.load arg7 (Rect.unit (s := S8x256x512) ![b, 0, 0] S1x256x512.size (box7 hb)).toLoadRect (View.loadsAt_vmem h_S1x256x512))
    Prog.lift (.store arg7 (Rect.unit (s := S8x256x512) ![b, 0, 0] S1x256x512.size (box7 hb)) (shapeCast S1x256x512 (concatenate S256x512 1 [⟨S256x128, y0⟩, ⟨S256x128, y1⟩, ⟨S256x128, y2⟩, ⟨S256x128, y3⟩] concatenates_S256x128_S256x128_S256x128_S256x128_S256x512_d1 : FVec F S256x512 .f32) shapeCasts_S256x512_S1x256x512 : FVec F S1x256x512 .f32) Finset.univ (View.stores_vmem_bits_univ h_S1x256x512 rfl) (.inl rfl))
  else pure ⟨⟩

/-- The state cleared at the first point of the grid. -/
def clear (i : grid0.Coords) : BP F PUnit :=
  if (Scalar.cmpi .ne (Scalar.extui (Scalar.cmpi .eq (BitVec.ofNat 32 (i 0).val) 0#32)) 0#32) = 1#1 then do
    let _v : Vec F S8x4096 .f32 ← Prog.lift (.load arg9 (Rect.unit (s := S8x4096) ![0, 0] S8x4096.size inb_S8x4096_S8x4096_0_0).toLoadRect (View.loadsAt_vmem h_S8x4096))
    Prog.lift (.store arg9 (Rect.unit (s := S8x4096) ![0, 0] S8x4096.size inb_S8x4096_S8x4096_0_0) (shapeCast S8x4096 (broadcast S8x4096 (Scalar.ofBits .f32 0x00000000#32 : F .f32) : FVec F S8x4096 .f32) shapeCasts_S8x4096_S8x4096 : FVec F S8x4096 .f32) Finset.univ (View.stores_vmem_bits_univ h_S8x4096 rfl) (.inl rfl))
  else pure ⟨⟩

/-- The body with its loops. -/
def bodyLoop (i : grid0.Coords) : BP F PUnit := do
  clear arg9 i
  rounds (fun j _ => feed arg1 arg2 arg8 j) 4 0 ⟨⟩
  rounds (fun j _ => recur arg4 arg5 arg8 arg9 128 j) 4 0 ⟨⟩
  rounds (fun j _ => emit arg1 arg3 arg6 arg8 arg10 128 j) 4 0 ⟨⟩
  rounds (fun b _ => out arg7 arg10 b) 8 0 ⟨⟩

/-- The first stretch of the printed body, past the clearing: the first tile's inputs to the recurrence, and the second's rows and
    weights. -/
def firstRest : BP F (Σ' (v24 : FVec F S1024x256 .bf16), Vec F S1x256x1024 .bf16) := do
  feed arg1 arg2 arg8 0
  let r ← chunkRows arg1 1 (by omega)
  let w : Vec F S1x256x1024 .bf16 ← Prog.lift (.load arg2 (Rect.unit (s := S4x256x1024) ![1, 0, 0] S1x256x1024.size (box2 (by omega))).toLoadRect (View.loadsAt_vmem h_S1x256x1024))
  pure ⟨r, w⟩

variable (i : grid0.Coords) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)

/-- The printed first stretch is the clearing and the rest of it. -/
theorem first_eq : k0_part1 (F := F) i arg1 harg1 arg2 harg2 arg3 harg3 arg4 harg4 arg5 harg5 arg6 harg6 arg7 harg7 arg8 harg8 arg9 harg9 arg10 harg10
    = (clear arg9 i >>= fun _ => firstRest arg1 arg2 arg8) := by
  unfold k0_part1 clear
  by_cases hc : (Scalar.cmpi .ne (Scalar.extui (Scalar.cmpi .eq (BitVec.ofNat 32 (i 0).val) 0#32)) 0#32) = 1#1
  · rw [if_pos hc]
    refine (dif_pos hc).trans ?_
    sl_kernel_rfl
  · rw [if_neg hc]
    refine (dif_neg hc).trans ?_
    sl_kernel_rfl

/-- The printed body is the body with its loops. -/
theorem body_loop :
    cc0_s5_scan (F := F) i arg1 harg1 arg2 harg2 arg3 harg3 arg4 harg4 arg5 harg5 arg6 harg6 arg7 harg7 arg8 harg8 arg9 harg9 arg10 harg10 = bodyLoop arg1 arg2 arg3 arg4 arg5 arg6 arg7 arg8 arg9 arg10 i := by
  unfold cc0_s5_scan k0_part371 bodyLoop
  rw [first_eq, bind_assoc, bind_assoc]
  refine congrArg (clear arg9 i >>= ·) (funext fun _ => ?_)
  sl_kernel_rfl

end Cert.ScanIdeal.Gen

end
-- ==== Proof.ScanRun.lean ====
module

public import proofs.«01_k».proof.Proof.ScanLoop
public import Idealize.ShloMosaic.Lib.Writes

/-! # What the body of the scan leaves in its buffers -/

@[expose] public section

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Contents with one box overwritten. -/
def over {s : Shape} {A : Type} (r : Rect s) (w : r.shape.Idx → A) (X : s.Idx → A) : s.Idx → A := Function.extend r.emb w X

/-- Inside the box it is what was written, -/
theorem over_hit {s : Shape} {A : Type} (r : Rect s) (w : r.shape.Idx → A) (X : s.Idx → A) (x : r.shape.Idx) : over r w X (r.emb x) = w x :=
  r.emb.injective.extend_apply w X x

/-- outside it what was there. -/
theorem over_miss {s : Shape} {A : Type} (r : Rect s) (w : r.shape.Idx → A) (X : s.Idx → A) (y : s.Idx) (hy : y ∉ r.set) : over r w X y = X y :=
  Function.extend_apply' w X y (by rintro ⟨x, rfl⟩; exact hy (r.map_emb_univ ▸ Finset.mem_map_of_mem _ (Finset.mem_univ x)))

/-- A write read back. -/
theorem read_over {s : Shape} {e : EltTy} {κ : Kind} {sp : Space} (v : View sig κ sp s e) (f : v.ty.Contents (Elt F)) (r : Rect s) (w : r.shape.Idx → Elt F e) :
    v.read (Elt F) (v.writes (Elt F) f [⟨r, w⟩]) = over r w (v.read (Elt F) f) := by
  funext y
  by_cases hy : y ∈ r.set
  · obtain ⟨x, rfl⟩ : ∃ x, r.emb x = y := r.exists_idx_of_mem hy
    rw [over_hit, View.read_writes_cons_emb]
  · rw [over_miss _ _ _ _ hy, View.read_writes_cons_miss _ _ _ _ _ hy]; rfl

/-- A load of a buffer owned at `X`. -/
theorem owns_load {s : Shape} {e : EltTy} {cs : CoreSpace} {α : Type} (c : Dev nD) (m : Memref sig .tc cs s e) (X : s.Idx → Elt F e) (r : LoadRect s) (hl : m.view.LoadsAt r)
    (k : (r.shape.Idx → Elt F e) → BP F α) (E : Set ℕ) (Q : α → sProp 𝕄) :
    (owns (c : Thread nD τ) m fullShare X : sProp 𝕄)
      ⊢ iprop((owns (c : Thread nD τ) m fullShare X -∗ wp frame (wpE (defs₀ (F := F)) Variants.none c none) E (k (fun x => X (r.idx x))) Q)
        -∗ wp frame (wpE (defs₀ (F := F)) Variants.none c none) E (.op (.load m r hl) k) Q) := by
  unfold owns
  iintro ⟨%f, %hf, H⟩
  subst hf
  iintro Hk
  iapply (wp_load (defs := defs₀ (F := F)) Variants.none (c : Thread nD τ) none E (hl := hl) (k := k) (q := fullShare) (f := f) (Q := Q) (View.setOn_subset_set _ _)) $$ H
  iintro H
  iapply Hk
  iexists f
  isplitr; · ipureintro; rfl
  iexact H

/-- A store into a buffer owned at `X`. -/
theorem owns_store {s : Shape} {e : EltTy} {cs : CoreSpace} {α : Type} (c : Dev nD) (m : Memref sig .tc cs s e) (X : s.Idx → Elt F e) (r : Rect s) (w : r.shape.Idx → Elt F e)
    (hx : (m.access r).Stores Finset.univ) (hm : Finset.univ = Finset.univ ∨ ∀ a, r.stride a = 1)
    (k : PUnit → BP F α) (E : Set ℕ) (Q : α → sProp 𝕄) :
    (owns (c : Thread nD τ) m fullShare X : sProp 𝕄)
      ⊢ iprop((owns (c : Thread nD τ) m fullShare (over r w X) -∗ wp frame (wpE (defs₀ (F := F)) Variants.none c none) E (k ⟨⟩) Q)
        -∗ wp frame (wpE (defs₀ (F := F)) Variants.none c none) E (.op (.store m r w Finset.univ hx hm) k) Q) := by
  unfold owns
  iintro ⟨%f, %hf, H⟩
  subst hf
  iintro Hk
  iapply (wp_store_writes₀ (defs := defs₀ (F := F)) Variants.none (c : Thread nD τ) none E (w := w) (hx := hx) (hm := hm) (k := k) (f := f) (Q := Q) (m.view.set_slice_subset r)) $$ H
  iintro H
  iapply Hk
  iexists _
  isplitr
  swap
  · iexact H
  ipureintro
  exact read_over m.view f r w

/-- The contents of the body's buffers. -/
structure St (F : FTy → Type) where
  x1 : Vec F S4x128x2x8x128 .f32
  x2 : Vec F S4x256x1024 .bf16
  x3 : Vec F S4x1280x256 .bf16
  x4 : Vec F S1x2048 .f32
  x5 : Vec F S1x2048 .f32
  x6 : Vec F S1x512 .f32
  x7 : Vec F S8x256x512 .f32
  x8 : Vec F S1024x4096 .f32
  x9 : Vec F S8x4096 .f32
  x10 : Vec F S4x2048x128 .f32

variable (arg1 : Memref sig .tc .vmem S4x128x2x8x128 .f32) (arg2 : Memref sig .tc .vmem S4x256x1024 .bf16) (arg3 : Memref sig .tc .vmem S4x1280x256 .bf16) (arg4 : Memref sig .tc .vmem S1x2048 .f32) (arg5 : Memref sig .tc .vmem S1x2048 .f32) (arg6 : Memref sig .tc .vmem S1x512 .f32) (arg7 : Memref sig .tc .vmem S8x256x512 .f32) (arg8 : Memref sig .tc .vmem S1024x4096 .f32) (arg9 : Memref sig .tc .vmem S8x4096 .f32) (arg10 : Memref sig .tc .vmem S4x2048x128 .f32)

/-- The body's buffers owned whole. -/
def own (c : Dev nD) (s : St F) : sProp 𝕄 :=
  iprop(owns (c : Thread nD τ) arg1 fullShare s.x1 ∗ owns (c : Thread nD τ) arg2 fullShare s.x2 ∗ owns (c : Thread nD τ) arg3 fullShare s.x3 ∗ owns (c : Thread nD τ) arg4 fullShare s.x4 ∗ owns (c : Thread nD τ) arg5 fullShare s.x5 ∗ owns (c : Thread nD τ) arg6 fullShare s.x6 ∗ owns (c : Thread nD τ) arg7 fullShare s.x7 ∗ owns (c : Thread nD τ) arg8 fullShare s.x8 ∗ owns (c : Thread nD τ) arg9 fullShare s.x9 ∗ owns (c : Thread nD τ) arg10 fullShare s.x10)

/-- The program takes the buffers from `s` to `t` and gives `a`. -/
def Goes {α : Type} (c : Dev nD) (p : BP F α) (s : St F) (a : α) (t : St F) : Prop :=
  ∀ (E : Set ℕ) (K : α → sProp 𝕄), iprop(own arg1 arg2 arg3 arg4 arg5 arg6 arg7 arg8 arg9 arg10 c s ∗ (own arg1 arg2 arg3 arg4 arg5 arg6 arg7 arg8 arg9 arg10 c t -∗ K a)) ⊢ wp frame (wpE (defs₀ (F := F)) Variants.none c none) E p K

theorem Goes.pure {α : Type} (c : Dev nD) (s : St F) (a : α) : Goes arg1 arg2 arg3 arg4 arg5 arg6 arg7 arg8 arg9 arg10 c (Pure.pure a) s a s := by
  intro E K
  rw [wp_pure]
  iintro ⟨H, Hk⟩
  imodintro
  iapply Hk
  iexact H

theorem Goes.bind {α β : Type} {c : Dev nD} {p : BP F α} {f : α → BP F β} {s t u : St F} {a : α} {b : β}
    (hp : Goes arg1 arg2 arg3 arg4 arg5 arg6 arg7 arg8 arg9 arg10 c p s a t) (hf : Goes arg1 arg2 arg3 arg4 arg5 arg6 arg7 arg8 arg9 arg10 c (f a) t b u) : Goes arg1 arg2 arg3 arg4 arg5 arg6 arg7 arg8 arg9 arg10 c (p >>= f) s b u := by
  intro E K
  rw [wp_bind]
  iintro ⟨H, Hk⟩
  iapply (hp E (fun a => wp frame (wpE (defs₀ (F := F)) Variants.none c none) E (f a) K))
  isplitl [H]
  · iexact H
  iintro H
  iapply (hf E K)
  isplitl [H]
  · iexact H
  iexact Hk

/-- `n` turns of `g`, at `k`, `k + 1`, and so on. -/
def turns {α : Type} (g : Nat → α → α) : Nat → Nat → α → α
  | 0, _, a => a
  | n + 1, k, a => turns g n (k + 1) (g k a)

/-- A loop goes as its rounds do. -/
theorem Goes.rounds {α : Type} {c : Dev nD} {f : Nat → α → BP F α} (g : Nat → α × St F → α × St F)
    (hf : ∀ k a s, Goes arg1 arg2 arg3 arg4 arg5 arg6 arg7 arg8 arg9 arg10 c (f k a) s (g k (a, s)).1 (g k (a, s)).2) (n : Nat) :
    ∀ (k : Nat) (a : α) (s : St F), Goes arg1 arg2 arg3 arg4 arg5 arg6 arg7 arg8 arg9 arg10 c (rounds f n k a) s (turns g n k (a, s)).1 (turns g n k (a, s)).2 := by
  induction n with
  | zero => intro k a s; exact Goes.pure arg1 arg2 arg3 arg4 arg5 arg6 arg7 arg8 arg9 arg10 c s a
  | succ n ih => intro k a s; exact Goes.bind arg1 arg2 arg3 arg4 arg5 arg6 arg7 arg8 arg9 arg10 (hf k a s) (ih (k + 1) _ _)

theorem Goes.load1 (c : Dev nD) (s : St F) (r : LoadRect S4x128x2x8x128) (hl : arg1.view.LoadsAt r) :
    Goes arg1 arg2 arg3 arg4 arg5 arg6 arg7 arg8 arg9 arg10 c (Prog.lift (.load arg1 r hl)) s (fun x => s.x1 (r.idx x)) s := by
  intro E K
  unfold own
  iintro ⟨⟨H1, H2, H3, H4, H5, H6, H7, H8, H9, H10⟩, Hk⟩
  iapply (owns_load c arg1 s.x1 r hl _ E K) $$ H1
  iintro H1
  rw [wp_ret]
  imodintro
  iapply Hk
  iframe

theorem Goes.load2 (c : Dev nD) (s : St F) (r : LoadRect S4x256x1024) (hl : arg2.view.LoadsAt r) :
    Goes arg1 arg2 arg3 arg4 arg5 arg6 arg7 arg8 arg9 arg10 c (Prog.lift (.load arg2 r hl)) s (fun x => s.x2 (r.idx x)) s := by
  intro E K
  unfold own
  iintro ⟨⟨H1, H2, H3, H4, H5, H6, H7, H8, H9, H10⟩, Hk⟩
  iapply (owns_load c arg2 s.x2 r hl _ E K) $$ H2
  iintro H2
  rw [wp_ret]
  imodintro
  iapply Hk
  iframe

theorem Goes.load3 (c : Dev nD) (s : St F) (r : LoadRect S4x1280x256) (hl : arg3.view.LoadsAt r) :
    Goes arg1 arg2 arg3 arg4 arg5 arg6 arg7 arg8 arg9 arg10 c (Prog.lift (.load arg3 r hl)) s (fun x => s.x3 (r.idx x)) s := by
  intro E K
  unfold own
  iintro ⟨⟨H1, H2, H3, H4, H5, H6, H7, H8, H9, H10⟩, Hk⟩
  iapply (owns_load c arg3 s.x3 r hl _ E K) $$ H3
  iintro H3
  rw [wp_ret]
  imodintro
  iapply Hk
  iframe

theorem Goes.load4 (c : Dev nD) (s : St F) (r : LoadRect S1x2048) (hl : arg4.view.LoadsAt r) :
    Goes arg1 arg2 arg3 arg4 arg5 arg6 arg7 arg8 arg9 arg10 c (Prog.lift (.load arg4 r hl)) s (fun x => s.x4 (r.idx x)) s := by
  intro E K
  unfold own
  iintro ⟨⟨H1, H2, H3, H4, H5, H6, H7, H8, H9, H10⟩, Hk⟩
  iapply (owns_load c arg4 s.x4 r hl _ E K) $$ H4
  iintro H4
  rw [wp_ret]
  imodintro
  iapply Hk
  iframe

theorem Goes.load5 (c : Dev nD) (s : St F) (r : LoadRect S1x2048) (hl : arg5.view.LoadsAt r) :
    Goes arg1 arg2 arg3 arg4 arg5 arg6 arg7 arg8 arg9 arg10 c (Prog.lift (.load arg5 r hl)) s (fun x => s.x5 (r.idx x)) s := by
  intro E K
  unfold own
  iintro ⟨⟨H1, H2, H3, H4, H5, H6, H7, H8, H9, H10⟩, Hk⟩
  iapply (owns_load c arg5 s.x5 r hl _ E K) $$ H5
  iintro H5
  rw [wp_ret]
  imodintro
  iapply Hk
  iframe

theorem Goes.load6 (c : Dev nD) (s : St F) (r : LoadRect S1x512) (hl : arg6.view.LoadsAt r) :
    Goes arg1 arg2 arg3 arg4 arg5 arg6 arg7 arg8 arg9 arg10 c (Prog.lift (.load arg6 r hl)) s (fun x => s.x6 (r.idx x)) s := by
  intro E K
  unfold own
  iintro ⟨⟨H1, H2, H3, H4, H5, H6, H7, H8, H9, H10⟩, Hk⟩
  iapply (owns_load c arg6 s.x6 r hl _ E K) $$ H6
  iintro H6
  rw [wp_ret]
  imodintro
  iapply Hk
  iframe

theorem Goes.load7 (c : Dev nD) (s : St F) (r : LoadRect S8x256x512) (hl : arg7.view.LoadsAt r) :
    Goes arg1 arg2 arg3 arg4 arg5 arg6 arg7 arg8 arg9 arg10 c (Prog.lift (.load arg7 r hl)) s (fun x => s.x7 (r.idx x)) s := by
  intro E K
  unfold own
  iintro ⟨⟨H1, H2, H3, H4, H5, H6, H7, H8, H9, H10⟩, Hk⟩
  iapply (owns_load c arg7 s.x7 r hl _ E K) $$ H7
  iintro H7
  rw [wp_ret]
  imodintro
  iapply Hk
  iframe

theorem Goes.load8 (c : Dev nD) (s : St F) (r : LoadRect S1024x4096) (hl : arg8.view.LoadsAt r) :
    Goes arg1 arg2 arg3 arg4 arg5 arg6 arg7 arg8 arg9 arg10 c (Prog.lift (.load arg8 r hl)) s (fun x => s.x8 (r.idx x)) s := by
  intro E K
  unfold own
  iintro ⟨⟨H1, H2, H3, H4, H5, H6, H7, H8, H9, H10⟩, Hk⟩
  iapply (owns_load c arg8 s.x8 r hl _ E K) $$ H8
  iintro H8
  rw [wp_ret]
  imodintro
  iapply Hk
  iframe

theorem Goes.load9 (c : Dev nD) (s : St F) (r : LoadRect S8x4096) (hl : arg9.view.LoadsAt r) :
    Goes arg1 arg2 arg3 arg4 arg5 arg6 arg7 arg8 arg9 arg10 c (Prog.lift (.load arg9 r hl)) s (fun x => s.x9 (r.idx x)) s := by
  intro E K
  unfold own
  iintro ⟨⟨H1, H2, H3, H4, H5, H6, H7, H8, H9, H10⟩, Hk⟩
  iapply (owns_load c arg9 s.x9 r hl _ E K) $$ H9
  iintro H9
  rw [wp_ret]
  imodintro
  iapply Hk
  iframe

theorem Goes.load10 (c : Dev nD) (s : St F) (r : LoadRect S4x2048x128) (hl : arg10.view.LoadsAt r) :
    Goes arg1 arg2 arg3 arg4 arg5 arg6 arg7 arg8 arg9 arg10 c (Prog.lift (.load arg10 r hl)) s (fun x => s.x10 (r.idx x)) s := by
  intro E K
  unfold own
  iintro ⟨⟨H1, H2, H3, H4, H5, H6, H7, H8, H9, H10⟩, Hk⟩
  iapply (owns_load c arg10 s.x10 r hl _ E K) $$ H10
  iintro H10
  rw [wp_ret]
  imodintro
  iapply Hk
  iframe

theorem Goes.store7 (c : Dev nD) (s : St F) (r : Rect S8x256x512) (w : r.shape.Idx → Elt F .f32) (hx : (arg7.access r).Stores Finset.univ) (hm : Finset.univ = Finset.univ ∨ ∀ a, r.stride a = 1) :
    Goes arg1 arg2 arg3 arg4 arg5 arg6 arg7 arg8 arg9 arg10 c (Prog.lift (.store arg7 r w Finset.univ hx hm)) s ⟨⟩ { s with x7 := over r w s.x7 } := by
  intro E K
  unfold own
  iintro ⟨⟨H1, H2, H3, H4, H5, H6, H7, H8, H9, H10⟩, Hk⟩
  iapply (owns_store c arg7 s.x7 r w hx hm _ E K) $$ H7
  iintro H7
  rw [wp_ret]
  imodintro
  iapply Hk
  iframe

theorem Goes.store8 (c : Dev nD) (s : St F) (r : Rect S1024x4096) (w : r.shape.Idx → Elt F .f32) (hx : (arg8.access r).Stores Finset.univ) (hm : Finset.univ = Finset.univ ∨ ∀ a, r.stride a = 1) :
    Goes arg1 arg2 arg3 arg4 arg5 arg6 arg7 arg8 arg9 arg10 c (Prog.lift (.store arg8 r w Finset.univ hx hm)) s ⟨⟩ { s with x8 := over r w s.x8 } := by
  intro E K
  unfold own
  iintro ⟨⟨H1, H2, H3, H4, H5, H6, H7, H8, H9, H10⟩, Hk⟩
  iapply (owns_store c arg8 s.x8 r w hx hm _ E K) $$ H8
  iintro H8
  rw [wp_ret]
  imodintro
  iapply Hk
  iframe

theorem Goes.store9 (c : Dev nD) (s : St F) (r : Rect S8x4096) (w : r.shape.Idx → Elt F .f32) (hx : (arg9.access r).Stores Finset.univ) (hm : Finset.univ = Finset.univ ∨ ∀ a, r.stride a = 1) :
    Goes arg1 arg2 arg3 arg4 arg5 arg6 arg7 arg8 arg9 arg10 c (Prog.lift (.store arg9 r w Finset.univ hx hm)) s ⟨⟩ { s with x9 := over r w s.x9 } := by
  intro E K
  unfold own
  iintro ⟨⟨H1, H2, H3, H4, H5, H6, H7, H8, H9, H10⟩, Hk⟩
  iapply (owns_store c arg9 s.x9 r w hx hm _ E K) $$ H9
  iintro H9
  rw [wp_ret]
  imodintro
  iapply Hk
  iframe

theorem Goes.store10 (c : Dev nD) (s : St F) (r : Rect S4x2048x128) (w : r.shape.Idx → Elt F .f32) (hx : (arg10.access r).Stores Finset.univ) (hm : Finset.univ = Finset.univ ∨ ∀ a, r.stride a = 1) :
    Goes arg1 arg2 arg3 arg4 arg5 arg6 arg7 arg8 arg9 arg10 c (Prog.lift (.store arg10 r w Finset.univ hx hm)) s ⟨⟩ { s with x10 := over r w s.x10 } := by
  intro E K
  unfold own
  iintro ⟨⟨H1, H2, H3, H4, H5, H6, H7, H8, H9, H10⟩, Hk⟩
  iapply (owns_store c arg10 s.x10 r w hx hm _ E K) $$ H10
  iintro H10
  rw [wp_ret]
  imodintro
  iapply Hk
  iframe

end Cert.ScanIdeal.Gen

end
-- ==== Proof.ScanSem.lean ====
module

public import proofs.«01_k».proof.Proof.ScanRun

/-! # The body of the scan as a function of its buffers' contents -/

@[expose] public section

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pieces -/

/-- The rows of step `i` of each chunk of tile `j`. -/
def stepRowsV (x : Vec F S4x128x2x8x128 .f32) (j i : Nat) (hj : j < 4) (hi : i < 2) : FVec F S1024x128 .f32 :=
  shapeCast S1024x128 (shapeCast S128x8x128 (fun y => x ((Rect.unit (s := S4x128x2x8x128) ![j, 0, i, 0, 0] S1x128x1x8x128.size (box1 hj hi)).toLoadRect.idx y) : FVec F S1x128x1x8x128 .f32) shapeCasts_S1x128x1x8x128_S128x8x128 : FVec F S128x8x128 .f32) shapeCasts_S128x8x128_S1024x128

/-- The rows of a chunk's two steps, side by side. -/
def chunkRowsV (x : Vec F S4x128x2x8x128 .f32) (j : Nat) (hj : j < 4) : FVec F S1024x256 .bf16 :=
  truncf .bf16 (concatenate S1024x256 1 [⟨S1024x128, stepRowsV x j 0 hj (by omega)⟩, ⟨S1024x128, stepRowsV x j 1 hj (by omega)⟩] concatenates_S1024x128_S1024x128_S1024x256_d1 : FVec F S1024x256 .f32) bitsLt_bf16_f32

/-- A tile's inputs to the recurrence. -/
def fed (x1 : Vec F S4x128x2x8x128 .f32) (x2 : Vec F S4x256x1024 .bf16) (j : Nat) (hj : j < 4) : FVec F S1024x1024 .f32 :=
  shapeCast S1024x1024 (matmul dot_S1024x256_S256x1024_S1024x1024_1_0_0_1_n_n none (chunkRowsV x1 j hj) (shapeCast S256x1024 (fun y => x2 ((Rect.unit (s := S4x256x1024) ![j, 0, 0] S1x256x1024.size (box2 hj)).toLoadRect.idx y) : FVec F S1x256x1024 .bf16) shapeCasts_S1x256x1024_S256x1024 : FVec F S256x1024 .bf16) (constant S1024x1024 .f32 0x00000000#32 : FVec F S1024x1024 .f32) : FVec F S1024x1024 .f32) shapeCasts_S1024x1024_S1024x1024

/-- The first phase of a tile. -/
def feedS (j : Nat) (s : St F) : St F :=
  if hj : j < 4 then { s with x8 := over (Rect.unit (s := S1024x4096) ![0, 1024 * j] S1024x1024.size (box8w hj)) (fed s.x1 s.x2 j hj) s.x8 } else s

/-- One row of multipliers over the eight sequences. -/
def spreadV (x : Vec F S1x2048 .f32) (j : Nat) (hj : j < 4) : FVec F S8x512 .f32 :=
  broadcastTo S8x512 (shapeCast S1x512 (shapeCast S1x512 (fun y => x ((Rect.unit (s := S1x2048) ![0, 512 * j] S1x512.size (box4 hj)).toLoadRect.idx y) : FVec F S1x512 .f32) shapeCasts_S1x512_S1x512 : FVec F S1x512 .f32) shapeCasts_S1x512_S1x512 : FVec F S1x512 .f32) broadcasts_S1x512_S8x512

/-- The block of the second buffer that one step of the recurrence reads and writes: chunk `k`, column block `q`. -/
def blk8 (x : Vec F S1024x4096 .f32) (k q : Nat) (hk : k < 128) (hq : q < 8) : FVec F S8x512 .f32 :=
  fun y => x ((Rect.unit (s := S1024x4096) ![8 * k, 512 * q] S8x512.size (box8 hk hq)).toLoadRect.idx y)

/-- The block replaced. -/
def put8 (x : Vec F S1024x4096 .f32) (k q : Nat) (hk : k < 128) (hq : q < 8) (h : FVec F S8x512 .f32) : Vec F S1024x4096 .f32 :=
  over (Rect.unit (s := S1024x4096) ![8 * k, 512 * q] S8x512.size (box8 hk hq)) (shapeCast S8x512 h shapeCasts_S8x512_S8x512 : FVec F S8x512 .f32) x

/-- One step of a tile's recurrence. -/
def stepS (j : Nat) (hj : j < 4) (ar ai : FVec F S8x512 .f32) (k : Nat) (p : (FVec F S8x512 .f32 × FVec F S8x512 .f32) × St F) :
    (FVec F S8x512 .f32 × FVec F S8x512 .f32) × St F :=
  if hk : k < 128 then
    (((addf (subf (mulf ar p.1.1) (mulf ai p.1.2)) (blk8 p.2.x8 k (2 * j) hk (by omega)) : FVec F S8x512 .f32), (addf (addf (mulf ar p.1.2) (mulf ai p.1.1)) (blk8 p.2.x8 k (2 * j + 1) hk (by omega)) : FVec F S8x512 .f32)),
      { p.2 with x8 := put8 (put8 p.2.x8 k (2 * j) hk (by omega) p.1.1) k (2 * j + 1) hk (by omega) p.1.2 })
  else p

/-- A column block of the carried state, -/
def blk9 (x : Vec F S8x4096 .f32) (q : Nat) (hq : q < 8) : FVec F S8x512 .f32 :=
  fun y => x ((Rect.unit (s := S8x4096) ![0, 512 * q] S8x512.size (box9 hq)).toLoadRect.idx y)

/-- replaced. -/
def put9 (x : Vec F S8x4096 .f32) (q : Nat) (hq : q < 8) (h : FVec F S8x512 .f32) : Vec F S8x4096 .f32 :=
  over (Rect.unit (s := S8x4096) ![0, 512 * q] S8x512.size (box9 hq)) (shapeCast S8x512 h shapeCasts_S8x512_S8x512 : FVec F S8x512 .f32) x

/-- A tile's recurrence, step by step. -/
def ran (n j : Nat) (hj : j < 4) (s : St F) : (FVec F S8x512 .f32 × FVec F S8x512 .f32) × St F :=
  turns (stepS j hj (spreadV s.x4 j hj) (spreadV s.x5 j hj)) n 0 ((blk9 s.x9 (2 * j) (by omega), blk9 s.x9 (2 * j + 1) (by omega)), s)

/-- The second phase of a tile. -/
def recurS (n j : Nat) (s : St F) : St F :=
  if hj : j < 4 then
    { (ran n j hj s).2 with x9 := put9 (put9 (ran n j hj s).2.x9 (2 * j) (by omega) (ran n j hj s).1.1) (2 * j + 1) (by omega) (ran n j hj s).1.2 }
  else s

/-- One row of a step's results put in its place. -/
def placeS (j i : Nat) (hj : j < 4) (hi : i < 2) (y : FVec F S1024x128 .f32) (k : Nat) (s : St F) : St F :=
  if hk : k < 128 then
    { s with x10 := over (Rect.unit (s := S4x2048x128) ![j, 8 * (2 * k + i), 0] S1x8x128.size (box10 hj (by omega))) (shapeCast S1x8x128 (extractStridedSlice S8x128 ![8 * k, 0] y (sl8 hk) : FVec F S8x128 .f32) shapeCasts_S8x128_S1x8x128 : FVec F S1x8x128 .f32) s.x10 }
  else s

/-- The product with the output weights. -/
def prodV (s : St F) (j : Nat) (hj : j < 4) : FVec F S1024x256 .f32 :=
  matmul dot_S1024x1280_S1280x256_S1024x256_1_0_0_1_n_n none (concatenate S1024x1280 1 [⟨S1024x1024, (truncf .bf16 (fun y => s.x8 ((Rect.unit (s := S1024x4096) ![0, 1024 * j] S1024x1024.size (box8w hj)).toLoadRect.idx y) : FVec F S1024x1024 .f32) bitsLt_bf16_f32 : FVec F S1024x1024 .bf16)⟩, ⟨S1024x256, chunkRowsV s.x1 j hj⟩] concatenates_S1024x1024_S1024x256_S1024x1280_d1 : FVec F S1024x1280 .bf16) (shapeCast S1280x256 (fun y => s.x3 ((Rect.unit (s := S4x1280x256) ![j, 0, 0] S1x1280x256.size (box3 hj)).toLoadRect.idx y) : FVec F S1x1280x256 .bf16) shapeCasts_S1x1280x256_S1280x256 : FVec F S1280x256 .bf16) (constant S1024x256 .f32 0x00000000#32 : FVec F S1024x256 .f32)

/-- A tile's skip multipliers over its rows. -/
def skipV (s : St F) (j : Nat) (hj : j < 4) : FVec F S1024x128 .f32 :=
  broadcastTo S1024x128 (shapeCast S1x128 (fun y => s.x6 ((Rect.unit (s := S1x512) ![0, 128 * j] S1x128.size (box6 hj)).toLoadRect.idx y) : FVec F S1x128 .f32) shapeCasts_S1x128_S1x128 : FVec F S1x128 .f32) broadcasts_S1x128_S1024x128

/-- A tile's results of a chunk's first step, -/
def y0V (s : St F) (j : Nat) (hj : j < 4) : FVec F S1024x128 .f32 :=
  addf (extractStridedSlice S1024x128 ![0, 0] (prodV s j hj) slices_S1024x256_o0_0_S1024x128 : FVec F S1024x128 .f32) (mulf (skipV s j hj) (stepRowsV s.x1 j 0 hj (by omega)))

/-- and of its second. -/
def y1V (s : St F) (j : Nat) (hj : j < 4) : FVec F S1024x128 .f32 :=
  addf (extractStridedSlice S1024x128 ![0, 128] (prodV s j hj) slices_S1024x256_o0_128_S1024x128 : FVec F S1024x128 .f32) (mulf (skipV s j hj) (stepRowsV s.x1 j 1 hj (by omega)))

/-- The third phase of a tile. -/
def emitS (n j : Nat) (s : St F) : St F :=
  if hj : j < 4 then turns (placeS j 1 hj (by omega) (y1V s j hj)) n 0 (turns (placeS j 0 hj (by omega) (y0V s j hj)) n 0 s) else s

/-- One sequence's rows of a tile. -/
def seqRowsV (x : Vec F S4x2048x128 .f32) (j b : Nat) (hj : j < 4) (hb : b < 8) : FVec F S256x128 .f32 :=
  shapeCast S256x128 (fun y => x ((⟨![j, b, 0], S1x256x128.size, ![1, 8, 1], box10r hj hb⟩ : LoadRect S4x2048x128).idx y) : FVec F S1x256x128 .f32) shapeCasts_S1x256x128_S256x128

/-- One sequence's rows written out. -/
def outS (b : Nat) (s : St F) : St F :=
  if hb : b < 8 then
    { s with x7 := over (Rect.unit (s := S8x256x512) ![b, 0, 0] S1x256x512.size (box7 hb)) (shapeCast S1x256x512 (concatenate S256x512 1 [⟨S256x128, seqRowsV s.x10 0 b (by omega) hb⟩, ⟨S256x128, seqRowsV s.x10 1 b (by omega) hb⟩, ⟨S256x128, seqRowsV s.x10 2 b (by omega) hb⟩, ⟨S256x128, seqRowsV s.x10 3 b (by omega) hb⟩] concatenates_S256x128_S256x128_S256x128_S256x128_S256x512_d1 : FVec F S256x512 .f32) shapeCasts_S256x512_S1x256x512 : FVec F S1x256x512 .f32) s.x7 }
  else s

/-- The state cleared at the first point of the grid. -/
def clearS (i : grid0.Coords) (s : St F) : St F :=
  if (Scalar.cmpi .ne (Scalar.extui (Scalar.cmpi .eq (BitVec.ofNat 32 (i 0).val) 0#32)) 0#32) = 1#1 then
    { s with x9 := over (Rect.unit (s := S8x4096) ![0, 0] S8x4096.size inb_S8x4096_S8x4096_0_0) (shapeCast S8x4096 (broadcast S8x4096 (Scalar.ofBits .f32 0x00000000#32 : F .f32) : FVec F S8x4096 .f32) shapeCasts_S8x4096_S8x4096 : FVec F S8x4096 .f32) s.x9 }
  else s

/-- The body. -/
def bodyS (i : grid0.Coords) (s : St F) : St F :=
  turns outS 8 0 (turns (emitS 128) 4 0 (turns (recurS 128) 4 0 (turns feedS 4 0 (clearS i s))))

/-! ## The program goes as they do -/

variable (arg1 : Memref sig .tc .vmem S4x128x2x8x128 .f32) (arg2 : Memref sig .tc .vmem S4x256x1024 .bf16) (arg3 : Memref sig .tc .vmem S4x1280x256 .bf16) (arg4 : Memref sig .tc .vmem S1x2048 .f32) (arg5 : Memref sig .tc .vmem S1x2048 .f32) (arg6 : Memref sig .tc .vmem S1x512 .f32) (arg7 : Memref sig .tc .vmem S8x256x512 .f32) (arg8 : Memref sig .tc .vmem S1024x4096 .f32) (arg9 : Memref sig .tc .vmem S8x4096 .f32) (arg10 : Memref sig .tc .vmem S4x2048x128 .f32)
variable (c : Dev nD)

local notation "GO" => Goes arg1 arg2 arg3 arg4 arg5 arg6 arg7 arg8 arg9 arg10 c

/-- A loop that carries nothing goes as its rounds do. -/
theorem goes_roundsU {f : Nat → PUnit.{1} → BP F PUnit.{1}} (g : Nat → St F → St F) (hf : ∀ k s, GO (f k ⟨⟩) s ⟨⟩ (g k s)) (n : Nat) :
    ∀ (k : Nat) (s : St F), GO (rounds f n k ⟨⟩) s ⟨⟩ (turns g n k s) := by
  induction n with
  | zero => intro k s; exact Goes.pure _ _ _ _ _ _ _ _ _ _ c s _
  | succ n ih => intro k s; exact Goes.bind _ _ _ _ _ _ _ _ _ _ (hf k s) (ih (k + 1) _)

theorem goes_stepRows (s : St F) (j i : Nat) (hj : j < 4) (hi : i < 2) : GO (stepRows arg1 j i hj hi) s (stepRowsV s.x1 j i hj hi) s :=
  Goes.bind _ _ _ _ _ _ _ _ _ _ (Goes.load1 _ _ _ _ _ _ _ _ _ _ c s _ _) (Goes.pure _ _ _ _ _ _ _ _ _ _ c s _)

theorem goes_chunkRows (s : St F) (j : Nat) (hj : j < 4) : GO (chunkRows arg1 j hj) s (chunkRowsV s.x1 j hj) s :=
  Goes.bind _ _ _ _ _ _ _ _ _ _ (goes_stepRows _ _ _ _ _ _ _ _ _ _ c s j 0 hj _) <|
  Goes.bind _ _ _ _ _ _ _ _ _ _ (goes_stepRows _ _ _ _ _ _ _ _ _ _ c s j 1 hj _) (Goes.pure _ _ _ _ _ _ _ _ _ _ c s _)

theorem goes_feed (s : St F) (j : Nat) : GO (feed arg1 arg2 arg8 j) s ⟨⟩ (feedS j s) := by
  unfold feed feedS
  by_cases hj : j < 4
  · rw [dif_pos hj, dif_pos hj]
    exact Goes.bind _ _ _ _ _ _ _ _ _ _ (goes_chunkRows _ _ _ _ _ _ _ _ _ _ c s j hj) <|
      Goes.bind _ _ _ _ _ _ _ _ _ _ (Goes.load2 _ _ _ _ _ _ _ _ _ _ c s _ _) <|
      Goes.bind _ _ _ _ _ _ _ _ _ _ (Goes.load8 _ _ _ _ _ _ _ _ _ _ c s _ _) (Goes.store8 _ _ _ _ _ _ _ _ _ _ c s _ _ _ _)
  · rw [dif_neg hj, dif_neg hj]; exact Goes.pure _ _ _ _ _ _ _ _ _ _ c s _

theorem goes_step (j : Nat) (hj : j < 4) (ar ai : FVec F S8x512 .f32) (k : Nat) (h : FVec F S8x512 .f32 × FVec F S8x512 .f32) (s : St F) :
    GO (step arg8 j hj ar ai k h) s (stepS j hj ar ai k (h, s)).1 (stepS j hj ar ai k (h, s)).2 := by
  unfold step stepS
  by_cases hk : k < 128
  · rw [dif_pos hk, dif_pos hk]
    exact Goes.bind _ _ _ _ _ _ _ _ _ _ (Goes.load8 _ _ _ _ _ _ _ _ _ _ c s _ _) <|
      Goes.bind _ _ _ _ _ _ _ _ _ _ (Goes.load8 _ _ _ _ _ _ _ _ _ _ c s _ _) <|
      Goes.bind _ _ _ _ _ _ _ _ _ _ (Goes.load8 _ _ _ _ _ _ _ _ _ _ c s _ _) <|
      Goes.bind _ _ _ _ _ _ _ _ _ _ (Goes.store8 _ _ _ _ _ _ _ _ _ _ c s _ _ _ _) <|
      Goes.bind _ _ _ _ _ _ _ _ _ _ (Goes.load8 _ _ _ _ _ _ _ _ _ _ c _ _ _) <|
      Goes.bind _ _ _ _ _ _ _ _ _ _ (Goes.store8 _ _ _ _ _ _ _ _ _ _ c _ _ _ _ _) (Goes.pure _ _ _ _ _ _ _ _ _ _ c _ _)
  · rw [dif_neg hk, dif_neg hk]; exact Goes.pure _ _ _ _ _ _ _ _ _ _ c s _

theorem goes_spread4 (s : St F) (j : Nat) (hj : j < 4) : GO (spread j hj arg4) s (spreadV s.x4 j hj) s :=
  Goes.bind _ _ _ _ _ _ _ _ _ _ (Goes.load4 _ _ _ _ _ _ _ _ _ _ c s _ _) (Goes.pure _ _ _ _ _ _ _ _ _ _ c s _)

theorem goes_spread5 (s : St F) (j : Nat) (hj : j < 4) : GO (spread j hj arg5) s (spreadV s.x5 j hj) s :=
  Goes.bind _ _ _ _ _ _ _ _ _ _ (Goes.load5 _ _ _ _ _ _ _ _ _ _ c s _ _) (Goes.pure _ _ _ _ _ _ _ _ _ _ c s _)

theorem goes_recur (s : St F) (n j : Nat) : GO (recur arg4 arg5 arg8 arg9 n j) s ⟨⟩ (recurS n j s) := by
  unfold recur recurS
  by_cases hj : j < 4
  · rw [dif_pos hj, dif_pos hj]
    exact Goes.bind _ _ _ _ _ _ _ _ _ _ (goes_spread4 _ _ _ _ _ _ _ _ _ _ c s j hj) <|
      Goes.bind _ _ _ _ _ _ _ _ _ _ (goes_spread5 _ _ _ _ _ _ _ _ _ _ c s j hj) <|
      Goes.bind _ _ _ _ _ _ _ _ _ _ (Goes.load9 _ _ _ _ _ _ _ _ _ _ c s _ _) <|
      Goes.bind _ _ _ _ _ _ _ _ _ _ (Goes.load9 _ _ _ _ _ _ _ _ _ _ c s _ _) <|
      Goes.bind _ _ _ _ _ _ _ _ _ _ (Goes.rounds _ _ _ _ _ _ _ _ _ _ (stepS j hj (spreadV s.x4 j hj) (spreadV s.x5 j hj)) (fun k a s => goes_step _ _ _ _ _ _ _ _ _ _ c j hj _ _ k a s) n 0 _ s) <|
      Goes.bind _ _ _ _ _ _ _ _ _ _ (Goes.load9 _ _ _ _ _ _ _ _ _ _ c _ _ _) <|
      Goes.bind _ _ _ _ _ _ _ _ _ _ (Goes.store9 _ _ _ _ _ _ _ _ _ _ c _ _ _ _ _) <|
      Goes.bind _ _ _ _ _ _ _ _ _ _ (Goes.load9 _ _ _ _ _ _ _ _ _ _ c _ _ _) (Goes.store9 _ _ _ _ _ _ _ _ _ _ c _ _ _ _ _)
  · rw [dif_neg hj, dif_neg hj]; exact Goes.pure _ _ _ _ _ _ _ _ _ _ c s _

theorem goes_place (j i : Nat) (hj : j < 4) (hi : i < 2) (y : FVec F S1024x128 .f32) (k : Nat) (s : St F) :
    GO (place arg10 j i hj hi y k ⟨⟩) s ⟨⟩ (placeS j i hj hi y k s) := by
  unfold place placeS
  by_cases hk : k < 128
  · rw [dif_pos hk, dif_pos hk]
    exact Goes.bind _ _ _ _ _ _ _ _ _ _ (Goes.load10 _ _ _ _ _ _ _ _ _ _ c s _ _) (Goes.store10 _ _ _ _ _ _ _ _ _ _ c s _ _ _ _)
  · rw [dif_neg hk, dif_neg hk]; exact Goes.pure _ _ _ _ _ _ _ _ _ _ c s _

/-- Placing changes the third scratch buffer alone. -/
theorem placeS_x1 (j i : Nat) (hj : j < 4) (hi : i < 2) (y : FVec F S1024x128 .f32) (n : Nat) : ∀ (k : Nat) (s : St F),
    (turns (placeS j i hj hi y) n k s).x1 = s.x1 := by
  induction n with
  | zero => intro k s; rfl
  | succ n ih => intro k s; rw [turns, ih]; unfold placeS; split <;> rfl

theorem goes_emit (s : St F) (n j : Nat) : GO (emit arg1 arg3 arg6 arg8 arg10 n j) s ⟨⟩ (emitS n j s) := by
  unfold emit emitS
  by_cases hj : j < 4
  · rw [dif_pos hj, dif_pos hj]
    refine Goes.bind _ _ _ _ _ _ _ _ _ _ (Goes.load8 _ _ _ _ _ _ _ _ _ _ c s _ _) <|
      Goes.bind _ _ _ _ _ _ _ _ _ _ (goes_chunkRows _ _ _ _ _ _ _ _ _ _ c s j hj) <|
      Goes.bind _ _ _ _ _ _ _ _ _ _ (Goes.load3 _ _ _ _ _ _ _ _ _ _ c s _ _) <|
      Goes.bind _ _ _ _ _ _ _ _ _ _ (Goes.load6 _ _ _ _ _ _ _ _ _ _ c s _ _) <|
      Goes.bind _ _ _ _ _ _ _ _ _ _ (goes_stepRows _ _ _ _ _ _ _ _ _ _ c s j 0 hj (by omega)) <|
      Goes.bind _ _ _ _ _ _ _ _ _ _ (goes_roundsU _ _ _ _ _ _ _ _ _ _ c (placeS j 0 hj (by omega) (y0V s j hj)) (fun k s => goes_place _ _ _ _ _ _ _ _ _ _ c j 0 hj _ _ k s) n 0 s) <|
      Goes.bind _ _ _ _ _ _ _ _ _ _ (goes_stepRows _ _ _ _ _ _ _ _ _ _ c _ j 1 hj (by omega)) ?_
    rw [placeS_x1]
    exact goes_roundsU _ _ _ _ _ _ _ _ _ _ c (placeS j 1 hj (by omega) (y1V s j hj)) (fun k s => goes_place _ _ _ _ _ _ _ _ _ _ c j 1 hj _ _ k s) n 0 _
  · rw [dif_neg hj, dif_neg hj]; exact Goes.pure _ _ _ _ _ _ _ _ _ _ c s _

theorem goes_seqRows (s : St F) (j b : Nat) (hj : j < 4) (hb : b < 8) : GO (seqRows arg10 j b hj hb) s (seqRowsV s.x10 j b hj hb) s :=
  Goes.bind _ _ _ _ _ _ _ _ _ _ (Goes.load10 _ _ _ _ _ _ _ _ _ _ c s _ _) (Goes.pure _ _ _ _ _ _ _ _ _ _ c s _)

theorem goes_out (s : St F) (b : Nat) : GO (out arg7 arg10 b) s ⟨⟩ (outS b s) := by
  unfold out outS
  by_cases hb : b < 8
  · rw [dif_pos hb, dif_pos hb]
    exact Goes.bind _ _ _ _ _ _ _ _ _ _ (goes_seqRows _ _ _ _ _ _ _ _ _ _ c s 0 b _ hb) <|
      Goes.bind _ _ _ _ _ _ _ _ _ _ (goes_seqRows _ _ _ _ _ _ _ _ _ _ c s 1 b _ hb) <|
      Goes.bind _ _ _ _ _ _ _ _ _ _ (goes_seqRows _ _ _ _ _ _ _ _ _ _ c s 2 b _ hb) <|
      Goes.bind _ _ _ _ _ _ _ _ _ _ (goes_seqRows _ _ _ _ _ _ _ _ _ _ c s 3 b _ hb) <|
      Goes.bind _ _ _ _ _ _ _ _ _ _ (Goes.load7 _ _ _ _ _ _ _ _ _ _ c s _ _) (Goes.store7 _ _ _ _ _ _ _ _ _ _ c s _ _ _ _)
  · rw [dif_neg hb, dif_neg hb]; exact Goes.pure _ _ _ _ _ _ _ _ _ _ c s _

theorem goes_clear (i : grid0.Coords) (s : St F) : GO (clear arg9 i) s ⟨⟩ (clearS i s) := by
  unfold clear clearS
  by_cases hc : (Scalar.cmpi .ne (Scalar.extui (Scalar.cmpi .eq (BitVec.ofNat 32 (i 0).val) 0#32)) 0#32) = 1#1
  · rw [if_pos hc, if_pos hc]
    exact Goes.bind _ _ _ _ _ _ _ _ _ _ (Goes.load9 _ _ _ _ _ _ _ _ _ _ c s _ _) (Goes.store9 _ _ _ _ _ _ _ _ _ _ c s _ _ _ _)
  · rw [if_neg hc, if_neg hc]; exact Goes.pure _ _ _ _ _ _ _ _ _ _ c s _

/-- The body goes as `bodyS` says. -/
theorem goes_body (i : grid0.Coords) (s : St F) : GO (bodyLoop arg1 arg2 arg3 arg4 arg5 arg6 arg7 arg8 arg9 arg10 i) s ⟨⟩ (bodyS i s) :=
  Goes.bind _ _ _ _ _ _ _ _ _ _ (goes_clear _ _ _ _ _ _ _ _ _ _ c i s) <|
  Goes.bind _ _ _ _ _ _ _ _ _ _ (goes_roundsU _ _ _ _ _ _ _ _ _ _ c feedS (fun k s => goes_feed _ _ _ _ _ _ _ _ _ _ c s k) 4 0 _) <|
  Goes.bind _ _ _ _ _ _ _ _ _ _ (goes_roundsU _ _ _ _ _ _ _ _ _ _ c (recurS 128) (fun k s => goes_recur _ _ _ _ _ _ _ _ _ _ c s 128 k) 4 0 _) <|
  Goes.bind _ _ _ _ _ _ _ _ _ _ (goes_roundsU _ _ _ _ _ _ _ _ _ _ c (emitS 128) (fun k s => goes_emit _ _ _ _ _ _ _ _ _ _ c s 128 k) 4 0 _) <|
  goes_roundsU _ _ _ _ _ _ _ _ _ _ c outS (fun b s => goes_out _ _ _ _ _ _ _ _ _ _ c s b) 8 0 _

end Cert.ScanIdeal.Gen

end
-- ==== Proof.ScanForm.lean ====
module

public import proofs.«01_k».proof.Proof.ScanSem
public import Idealize.ShloMosaic.Lib.Pipeline.ValueKit
public import Idealize.ShloMosaic.Lib.WordCmp

/-! # What the body of the scan leaves, index by index -/

@[expose] public section

noncomputable section

namespace Cert.ScanIdeal.Gen

open Idealize.ShloMosaic Idealize.ShloMosaic.TcCoe Idealize.SL.Sem

variable {F : FTy → Type} [FloatOps F]

/-- Inside the overwritten box. -/
theorem over_at {s : Shape} {A : Type} (off size : Fin s.rank → Nat) (inb) (w : (Rect.unit (s := s) off size inb).shape.Idx → A) (X : s.Idx → A)
    (x : (Rect.unit (s := s) off size inb).shape.Idx) (y : s.Idx) (h : ∀ a, (y a).val = off a + (x a).val) :
    over (Rect.unit (s := s) off size inb) w X y = w x := by
  have e : (Rect.unit (s := s) off size inb).emb x = y := funext fun a => Fin.ext (by rw [Rect.emb_apply, h a]; simp)
  rw [← e, over_hit]

/-- Outside it, by one coordinate. -/
theorem over_off {s : Shape} {A : Type} (off size : Fin s.rank → Nat) (inb) (w : (Rect.unit (s := s) off size inb).shape.Idx → A) (X : s.Idx → A)
    (y : s.Idx) (a : Fin s.rank) (h : (y a).val < off a ∨ off a + size a ≤ (y a).val) :
    over (Rect.unit (s := s) off size inb) w X y = X y :=
  over_miss _ _ _ _ fun hm => by have := Rect.mem_set_unit.mp hm a; omega

/-- What holds before turns, and from each to the next, holds after them. -/
theorem turns_inv {α : Type} (g : Nat → α → α) (P : Nat → α → Prop) (m : Nat) (hg : ∀ k a, k < m → P k a → P (k + 1) (g k a)) :
    ∀ n k a, k + n ≤ m → P k a → P (k + n) (turns g n k a) := by
  intro n
  induction n with
  | zero => intro k a _ h; exact h
  | succ n ih =>
    intro k a hk h
    have := ih (k + 1) (g k a) (by omega) (hg k a (by omega) h)
    rw [show k + (n + 1) = k + 1 + n by omega]
    exact this

/-! ## The inputs to the recurrence -/

/-- The inputs of all tiles. -/
def fedAll (x1 : Vec F S4x128x2x8x128 .f32) (x2 : Vec F S4x256x1024 .bf16) : Vec F S1024x4096 .f32 := fun y =>
  fed x1 x2 ((y 1).val / 1024) (by have h : (y 1).val < 4096 := (y 1).isLt; omega) (ix2 (y 0) ⟨(y 1).val % 1024, Nat.mod_lt _ (by decide)⟩)

theorem fedAll_at (x1 : Vec F S4x128x2x8x128 .f32) (x2 : Vec F S4x256x1024 .bf16) (y : S1024x4096.Idx) (j : Nat) (hj : j < 4) (b : Fin 1024)
    (h : (y 1).val = 1024 * j + b.val) : fedAll x1 x2 y = fed x1 x2 j hj (ix2 (y 0) b) := by
  have e1 : (y 1).val / 1024 = j := by omega
  have e2 : (⟨(y 1).val % 1024, Nat.mod_lt _ (by decide)⟩ : Fin 1024) = b := Fin.ext (by show (y 1).val % 1024 = b.val; omega)
  unfold fedAll
  rw [e2]
  simp only [e1]

/-- After the first phase the second buffer is at the inputs. -/
theorem feed_all (s : St F) : turns feedS 4 0 s = { s with x8 := fedAll s.x1 s.x2 } := by
  have h := turns_inv (feedS (F := F)) (fun k t => t = { s with x8 := t.x8 } ∧ ∀ y : S1024x4096.Idx, (y 1).val < 1024 * k → t.x8 y = fedAll s.x1 s.x2 y) 4
    (by
      rintro k t hk ⟨ht, h8⟩
      unfold feedS
      rw [dif_pos hk]
      refine ⟨by rw [ht], fun y hy => ?_⟩
      rw [ht]
      show over (Rect.unit (s := S1024x4096) ![0, 1024 * k] S1024x1024.size (box8w hk)) (fed s.x1 s.x2 k hk) t.x8 y = _
      by_cases hlt : (y 1).val < 1024 * k
      · rw [over_off _ _ _ _ _ y 1 (.inl (by exact hlt))]; exact h8 y hlt
      · rw [fedAll_at s.x1 s.x2 y k hk ⟨(y 1).val - 1024 * k, by omega⟩ (by show (y 1).val = 1024 * k + ((y 1).val - 1024 * k); omega)]
        refine over_at (s := S1024x4096) ![0, 1024 * k] S1024x1024.size (box8w hk) (fed s.x1 s.x2 k hk) t.x8 (ix2 (y 0) ⟨(y 1).val - 1024 * k, by omega⟩) y ?_
        intro a
        match a with
        | 0 => show (y 0).val = 0 + (y 0).val; omega
        | 1 => show (y 1).val = 1024 * k + ((y 1).val - 1024 * k); omega)
    4 0 s (by omega) ⟨rfl, fun y hy => by omega⟩
  obtain ⟨h1, h2⟩ := h
  generalize turns feedS 4 0 s = t at h1 h2 ⊢
  rw [h1]
  congr 1
  exact funext fun y => h2 y (y 1).isLt

/-! ## The recurrence -/

/-- The state of tile `j` before chunk `k` of the block, from the state `x9` before the block: its two parts. -/
def hAt (x1 : Vec F S4x128x2x8x128 .f32) (x2 : Vec F S4x256x1024 .bf16) (x4 x5 : Vec F S1x2048 .f32) (x9 : Vec F S8x4096 .f32) (j : Nat) (hj : j < 4) :
    Nat → FVec F S8x512 .f32 × FVec F S8x512 .f32
  | 0 => (blk9 x9 (2 * j) (by omega), blk9 x9 (2 * j + 1) (by omega))
  | k + 1 =>
    if hk : k < 128 then
      ((addf (subf (mulf (spreadV x4 j hj) (hAt x1 x2 x4 x5 x9 j hj k).1) (mulf (spreadV x5 j hj) (hAt x1 x2 x4 x5 x9 j hj k).2)) (blk8 (fedAll x1 x2) k (2 * j) hk (by omega)) : FVec F S8x512 .f32),
        (addf (addf (mulf (spreadV x4 j hj) (hAt x1 x2 x4 x5 x9 j hj k).2) (mulf (spreadV x5 j hj) (hAt x1 x2 x4 x5 x9 j hj k).1)) (blk8 (fedAll x1 x2) k (2 * j + 1) hk (by omega)) : FVec F S8x512 .f32))
    else hAt x1 x2 x4 x5 x9 j hj k

/-- One of two parts. -/
def side {A : Type} (p : A × A) (r : Nat) : A := if r = 0 then p.1 else p.2

/-- The states before each chunk of the block, -/
def kept (x1 : Vec F S4x128x2x8x128 .f32) (x2 : Vec F S4x256x1024 .bf16) (x4 x5 : Vec F S1x2048 .f32) (x9 : Vec F S8x4096 .f32) : Vec F S1024x4096 .f32 := fun y =>
  side (hAt x1 x2 x4 x5 x9 ((y 1).val / 1024) (by have h : (y 1).val < 4096 := (y 1).isLt; omega) ((y 0).val / 8)) ((y 1).val / 512 % 2)
    (ix2 ⟨(y 0).val % 8, Nat.mod_lt _ (by decide)⟩ ⟨(y 1).val % 512, Nat.mod_lt _ (by decide)⟩)

/-- and the state after the last. -/
def passed (x1 : Vec F S4x128x2x8x128 .f32) (x2 : Vec F S4x256x1024 .bf16) (x4 x5 : Vec F S1x2048 .f32) (x9 : Vec F S8x4096 .f32) : Vec F S8x4096 .f32 := fun y =>
  side (hAt x1 x2 x4 x5 x9 ((y 1).val / 1024) (by have h : (y 1).val < 4096 := (y 1).isLt; omega) 128) ((y 1).val / 512 % 2)
    (ix2 (y 0) ⟨(y 1).val % 512, Nat.mod_lt _ (by decide)⟩)

theorem kept_at (x1 : Vec F S4x128x2x8x128 .f32) (x2 : Vec F S4x256x1024 .bf16) (x4 x5 : Vec F S1x2048 .f32) (x9 : Vec F S8x4096 .f32) (y : S1024x4096.Idx)
    (j : Nat) (hj : j < 4) (k r : Nat) (hr : r < 2) (a : Fin 8) (b : Fin 512) (h0 : (y 0).val = 8 * k + a.val) (h1 : (y 1).val = 512 * (2 * j + r) + b.val) :
    kept x1 x2 x4 x5 x9 y = side (hAt x1 x2 x4 x5 x9 j hj k) r (ix2 a b) := by
  have e1 : (y 1).val / 1024 = j := by omega
  have e2 : (y 0).val / 8 = k := by omega
  have e3 : (y 1).val / 512 % 2 = r := by omega
  have e4 : (⟨(y 0).val % 8, Nat.mod_lt _ (by decide)⟩ : Fin 8) = a := Fin.ext (by show (y 0).val % 8 = a.val; omega)
  have e5 : (⟨(y 1).val % 512, Nat.mod_lt _ (by decide)⟩ : Fin 512) = b := Fin.ext (by show (y 1).val % 512 = b.val; omega)
  unfold kept
  rw [e2, e3, e4, e5]
  simp only [e1]

theorem passed_at (x1 : Vec F S4x128x2x8x128 .f32) (x2 : Vec F S4x256x1024 .bf16) (x4 x5 : Vec F S1x2048 .f32) (x9 : Vec F S8x4096 .f32) (y : S8x4096.Idx)
    (j : Nat) (hj : j < 4) (r : Nat) (hr : r < 2) (b : Fin 512) (h1 : (y 1).val = 512 * (2 * j + r) + b.val) :
    passed x1 x2 x4 x5 x9 y = side (hAt x1 x2 x4 x5 x9 j hj 128) r (ix2 (y 0) b) := by
  have e1 : (y 1).val / 1024 = j := by omega
  have e3 : (y 1).val / 512 % 2 = r := by omega
  have e5 : (⟨(y 1).val % 512, Nat.mod_lt _ (by decide)⟩ : Fin 512) = b := Fin.ext (by show (y 1).val % 512 = b.val; omega)
  unfold passed
  rw [e3, e5]
  simp only [e1]

/-- A block of the second buffer replaced, read inside, -/
theorem put8_at (x : Vec F S1024x4096 .f32) (k q : Nat) (hk : k < 128) (hq : q < 8) (h : FVec F S8x512 .f32) (y : S1024x4096.Idx) (a : Fin 8) (b : Fin 512)
    (h0 : (y 0).val = 8 * k + a.val) (h1 : (y 1).val = 512 * q + b.val) : put8 x k q hk hq h y = h (ix2 a b) := by
  unfold put8
  rw [shapeCast_self]
  refine over_at (s := S1024x4096) ![8 * k, 512 * q] S8x512.size (box8 hk hq) h x (ix2 a b) y ?_
  intro c
  match c with
  | 0 => exact h0
  | 1 => exact h1

/-- and outside. -/
theorem put8_off (x : Vec F S1024x4096 .f32) (k q : Nat) (hk : k < 128) (hq : q < 8) (h : FVec F S8x512 .f32) (y : S1024x4096.Idx)
    (hy : ((y 0).val < 8 * k ∨ 8 * k + 8 ≤ (y 0).val) ∨ ((y 1).val < 512 * q ∨ 512 * q + 512 ≤ (y 1).val)) : put8 x k q hk hq h y = x y := by
  unfold put8
  rcases hy with hy | hy
  · exact over_off _ _ _ _ _ y 0 hy
  · exact over_off _ _ _ _ _ y 1 hy

theorem put9_at (x : Vec F S8x4096 .f32) (q : Nat) (hq : q < 8) (h : FVec F S8x512 .f32) (y : S8x4096.Idx) (b : Fin 512)
    (h1 : (y 1).val = 512 * q + b.val) : put9 x q hq h y = h (ix2 (y 0) b) := by
  unfold put9
  rw [shapeCast_self]
  refine over_at (s := S8x4096) ![0, 512 * q] S8x512.size (box9 hq) h x (ix2 (y 0) b) y ?_
  intro c
  match c with
  | 0 => show (y 0).val = 0 + (y 0).val; omega
  | 1 => exact h1

theorem put9_off (x : Vec F S8x4096 .f32) (q : Nat) (hq : q < 8) (h : FVec F S8x512 .f32) (y : S8x4096.Idx)
    (hy : (y 1).val < 512 * q ∨ 512 * q + 512 ≤ (y 1).val) : put9 x q hq h y = x y := by
  unfold put9
  exact over_off _ _ _ _ _ y 1 hy

/-- A tile's steps, from a second buffer at the inputs of the tile. -/
theorem ran_all (s : St F) (j : Nat) (hj : j < 4) (x9 : Vec F S8x4096 .f32)
    (h9 : ∀ y : S8x4096.Idx, 1024 * j ≤ (y 1).val → s.x9 y = x9 y)
    (h8 : ∀ y : S1024x4096.Idx, 1024 * j ≤ (y 1).val → s.x8 y = fedAll s.x1 s.x2 y) :
    (ran 128 j hj s).1 = hAt s.x1 s.x2 s.x4 s.x5 x9 j hj 128 ∧ (ran 128 j hj s).2 = { s with x8 := (ran 128 j hj s).2.x8 }
      ∧ (∀ y : S1024x4096.Idx, (y 1).val / 1024 = j → (ran 128 j hj s).2.x8 y = kept s.x1 s.x2 s.x4 s.x5 x9 y)
      ∧ ∀ y : S1024x4096.Idx, (y 1).val / 1024 ≠ j → (ran 128 j hj s).2.x8 y = s.x8 y := by
  have h := turns_inv (stepS (F := F) j hj (spreadV s.x4 j hj) (spreadV s.x5 j hj))
    (fun k p => p.1 = hAt s.x1 s.x2 s.x4 s.x5 x9 j hj k ∧ p.2 = { s with x8 := p.2.x8 }
      ∧ (∀ y : S1024x4096.Idx, (y 1).val / 1024 = j → (y 0).val < 8 * k → p.2.x8 y = kept s.x1 s.x2 s.x4 s.x5 x9 y)
      ∧ ∀ y : S1024x4096.Idx, ((y 1).val / 1024 ≠ j ∨ 8 * k ≤ (y 0).val) → p.2.x8 y = s.x8 y) 128
    (by
      rintro k ⟨p, t⟩ hk ⟨hp, ht, hin, hout⟩
      dsimp only at hp ht hin hout
      have hb0 : blk8 t.x8 k (2 * j) hk (by omega) = blk8 (fedAll s.x1 s.x2) k (2 * j) hk (by omega) := by
        funext x
        have hx := (x 1).isLt
        exact (hout _ (.inr (Nat.le_add_right _ _))).trans (h8 _ (by show 1024 * j ≤ 512 * (2 * j) + 1 * (x 1).val; omega))
      have hb1 : blk8 t.x8 k (2 * j + 1) hk (by omega) = blk8 (fedAll s.x1 s.x2) k (2 * j + 1) hk (by omega) := by
        funext x
        have hx := (x 1).isLt
        exact (hout _ (.inr (Nat.le_add_right _ _))).trans (h8 _ (by show 1024 * j ≤ 512 * (2 * j + 1) + 1 * (x 1).val; omega))
      unfold stepS
      rw [dif_pos hk]
      dsimp only
      refine ⟨?_, by rw [ht], fun y hj' hy => ?_, fun y hy => ?_⟩
      · rw [hAt, dif_pos hk, hb0, hb1, hp]
      · by_cases hlt : (y 0).val < 8 * k
        · rw [put8_off _ _ _ _ _ _ _ (.inl (.inl hlt)), put8_off _ _ _ _ _ _ _ (.inl (.inl hlt))]
          exact hin y hj' hlt
        · by_cases hs : (y 1).val < 512 * (2 * j + 1)
          · rw [put8_off _ _ _ _ _ _ _ (.inr (.inl hs)),
              put8_at _ _ _ _ _ _ y ⟨(y 0).val - 8 * k, by omega⟩ ⟨(y 1).val - 512 * (2 * j), by omega⟩ (by show _ = 8 * k + ((y 0).val - 8 * k); omega) (by show _ = 512 * (2 * j) + ((y 1).val - 512 * (2 * j)); omega),
              kept_at _ _ _ _ _ y j hj k 0 (by omega) ⟨(y 0).val - 8 * k, by omega⟩ ⟨(y 1).val - 512 * (2 * j), by omega⟩ (by show _ = 8 * k + ((y 0).val - 8 * k); omega) (by show _ = 512 * (2 * j + 0) + ((y 1).val - 512 * (2 * j)); omega), hp]
            rfl
          · rw [put8_at _ _ _ _ _ _ y ⟨(y 0).val - 8 * k, by omega⟩ ⟨(y 1).val - 512 * (2 * j + 1), by omega⟩ (by show _ = 8 * k + ((y 0).val - 8 * k); omega) (by show _ = 512 * (2 * j + 1) + ((y 1).val - 512 * (2 * j + 1)); omega),
              kept_at _ _ _ _ _ y j hj k 1 (by omega) ⟨(y 0).val - 8 * k, by omega⟩ ⟨(y 1).val - 512 * (2 * j + 1), by omega⟩ (by show _ = 8 * k + ((y 0).val - 8 * k); omega) (by show _ = 512 * (2 * j + 1) + ((y 1).val - 512 * (2 * j + 1)); omega), hp]
            rfl
      · rw [put8_off _ _ _ _ _ _ _ (by omega), put8_off _ _ _ _ _ _ _ (by omega)]
        exact hout y (by omega))
    128 0 ((blk9 s.x9 (2 * j) (by omega), blk9 s.x9 (2 * j + 1) (by omega)), s) (by omega)
    ⟨by
      rw [hAt]
      refine Prod.ext (funext fun x => h9 _ ?_) (funext fun x => h9 _ ?_)
      · show 1024 * j ≤ 512 * (2 * j) + 1 * (x 1).val; omega
      · show 1024 * j ≤ 512 * (2 * j + 1) + 1 * (x 1).val; omega,
      rfl, fun y _ hy => absurd hy (by omega), fun y _ => rfl⟩
  refine ⟨h.1, h.2.1, fun y hy => h.2.2.1 y hy ?_, fun y hy => h.2.2.2 y (.inl hy)⟩
  have := (y 0).isLt
  show (y 0).val < 8 * (0 + 128)
  exact this

/-- After the second phase. -/
theorem recur_all (s : St F) (h8 : s.x8 = fedAll s.x1 s.x2) :
    turns (recurS 128) 4 0 s = { s with x8 := kept s.x1 s.x2 s.x4 s.x5 s.x9, x9 := passed s.x1 s.x2 s.x4 s.x5 s.x9 } := by
  have h := turns_inv (recurS (F := F) 128) (fun j t => t = { s with x8 := t.x8, x9 := t.x9 }
      ∧ (∀ y : S1024x4096.Idx, t.x8 y = if (y 1).val < 1024 * j then kept s.x1 s.x2 s.x4 s.x5 s.x9 y else s.x8 y)
      ∧ ∀ y : S8x4096.Idx, t.x9 y = if (y 1).val < 1024 * j then passed s.x1 s.x2 s.x4 s.x5 s.x9 y else s.x9 y) 4
    (by
      rintro j t hj ⟨ht, hx8, hx9⟩
      have e1 : t.x1 = s.x1 := by rw [ht]
      have e2 : t.x2 = s.x2 := by rw [ht]
      have e4 : t.x4 = s.x4 := by rw [ht]
      have e5 : t.x5 = s.x5 := by rw [ht]
      obtain ⟨r1, r2, r3, r4⟩ := ran_all t j hj s.x9 (fun y hy => by rw [hx9, if_neg (by omega)])
        (fun y hy => by rw [hx8, if_neg (by omega), h8, e1, e2])
      rw [e1, e2, e4, e5] at r1 r3
      unfold recurS
      rw [dif_pos hj]
      generalize ran 128 j hj t = p at r1 r2 r3 r4
      refine ⟨?_, fun y => ?_, fun y => ?_⟩
      · rw [r2, ht]
      · show p.2.x8 y = _
        by_cases hy : (y 1).val / 1024 = j
        · rw [r3 y hy, if_pos (by omega)]
        · rw [r4 y hy, hx8]
          by_cases hlt : (y 1).val < 1024 * j
          · rw [if_pos hlt, if_pos (by omega)]
          · rw [if_neg hlt, if_neg (by omega)]
      · show put9 (put9 p.2.x9 (2 * j) (by omega) p.1.1) (2 * j + 1) (by omega) p.1.2 y = _
        have e9 : p.2.x9 = t.x9 := by rw [r2]
        by_cases hlt : (y 1).val < 1024 * j
        · rw [put9_off _ _ _ _ _ (.inl (by omega)), put9_off _ _ _ _ _ (.inl (by omega)), e9, hx9, if_pos hlt, if_pos (by omega)]
        · by_cases hs : (y 1).val < 512 * (2 * j + 1)
          · rw [put9_off _ _ _ _ _ (.inl (by omega)),
              put9_at _ _ _ _ y ⟨(y 1).val - 512 * (2 * j), by omega⟩ (by show _ = 512 * (2 * j) + ((y 1).val - 512 * (2 * j)); omega), if_pos (by omega),
              passed_at _ _ _ _ _ y j hj 0 (by omega) ⟨(y 1).val - 512 * (2 * j), by omega⟩ (by show _ = 512 * (2 * j + 0) + ((y 1).val - 512 * (2 * j)); omega), r1]
            rfl
          · by_cases hg : (y 1).val < 1024 * (j + 1)
            · rw [put9_at _ _ _ _ y ⟨(y 1).val - 512 * (2 * j + 1), by omega⟩ (by show _ = 512 * (2 * j + 1) + ((y 1).val - 512 * (2 * j + 1)); omega), if_pos hg,
                passed_at _ _ _ _ _ y j hj 1 (by omega) ⟨(y 1).val - 512 * (2 * j + 1), by omega⟩ (by show _ = 512 * (2 * j + 1) + ((y 1).val - 512 * (2 * j + 1)); omega), r1]
              rfl
            · rw [put9_off _ _ _ _ _ (.inr (by omega)), put9_off _ _ _ _ _ (.inr (by omega)), e9, hx9, if_neg hlt, if_neg hg])
    4 0 s (by omega) ⟨rfl, fun y => by rw [if_neg (by omega)], fun y => by rw [if_neg (by omega)]⟩
  obtain ⟨h1, h2⟩ := h
  generalize turns (recurS 128) 4 0 s = t at h1 h2 ⊢
  rw [h1]
  congr 1
  · funext y
    have hy : (y 1).val < 4096 := (y 1).isLt
    rw [h2.1 y, if_pos (by omega)]
  · funext y
    have hy : (y 1).val < 4096 := (y 1).isLt
    rw [h2.2 y, if_pos (by omega)]

/-! ## The results -/

/-- A tile's results of one step of the chunks. -/
def yV (s : St F) (j i : Nat) (hj : j < 4) : FVec F S1024x128 .f32 := if i = 0 then y0V s j hj else y1V s j hj

/-- The third scratch buffer at the results. -/
def rowsAll (s : St F) : Vec F S4x2048x128 .f32 := fun y =>
  yV s (y 0).val ((y 1).val / 8 % 2) (y 0).isLt (ix2 ⟨8 * ((y 1).val / 16) + (y 1).val % 8, by have h : (y 1).val < 2048 := (y 1).isLt; omega⟩ (y 2))

/-- One step's rows, each in its place. -/
theorem place_all (s : St F) (j i : Nat) (hj : j < 4) (hi : i < 2) (v : FVec F S1024x128 .f32) :
    turns (placeS j i hj hi v) 128 0 s = { s with x10 := (turns (placeS j i hj hi v) 128 0 s).x10 }
      ∧ (∀ y : S4x2048x128.Idx, (y 0).val = j → (y 1).val / 8 % 2 = i → (turns (placeS j i hj hi v) 128 0 s).x10 y
          = v (ix2 ⟨8 * ((y 1).val / 16) + (y 1).val % 8, by have h : (y 1).val < 2048 := (y 1).isLt; omega⟩ (y 2)))
      ∧ ∀ y : S4x2048x128.Idx, ((y 0).val ≠ j ∨ (y 1).val / 8 % 2 ≠ i) → (turns (placeS j i hj hi v) 128 0 s).x10 y = s.x10 y := by
  have h := turns_inv (placeS (F := F) j i hj hi v) (fun k t => t = { s with x10 := t.x10 }
      ∧ (∀ y : S4x2048x128.Idx, (y 0).val = j → (y 1).val / 8 % 2 = i → (y 1).val / 16 < k → t.x10 y
          = v (ix2 ⟨8 * ((y 1).val / 16) + (y 1).val % 8, by have h : (y 1).val < 2048 := (y 1).isLt; omega⟩ (y 2)))
      ∧ ∀ y : S4x2048x128.Idx, ((y 0).val ≠ j ∨ (y 1).val / 8 % 2 ≠ i) → t.x10 y = s.x10 y) 128
    (by
      rintro k t hk ⟨ht, hin, hout⟩
      unfold placeS
      rw [dif_pos hk]
      refine ⟨by rw [ht], fun y h0 h1 h2 => ?_, fun y hy => ?_⟩
      · dsimp only
        have hlt : (y 1).val < 2048 := (y 1).isLt
        by_cases hk' : (y 1).val / 16 < k
        · rw [over_off _ _ _ _ _ y 1 (.inl (by show (y 1).val < 8 * (2 * k + i); omega))]
          exact hin y h0 h1 hk'
        · refine (over_at _ _ _ _ _ (ix3 (0 : Fin 1) (⟨(y 1).val - 8 * (2 * k + i), by omega⟩ : Fin 8) (y 2)) y fun a => by
            match a with
            | 0 => show (y 0).val = j + 0; omega
            | 1 => show (y 1).val = 8 * (2 * k + i) + ((y 1).val - 8 * (2 * k + i)); omega
            | 2 => show (y 2).val = 0 + (y 2).val; omega).trans ?_
          pointwise
          refine congrArg v (congrArg (fun a => ix2 a (y 2)) (Fin.ext ?_))
          show 8 * k + ((y 1).val - 8 * (2 * k + i)) = 8 * ((y 1).val / 16) + (y 1).val % 8
          omega
      · dsimp only
        have hlt : (y 1).val < 2048 := (y 1).isLt
        rcases hy with hy | hy
        · rw [over_off _ _ _ _ _ y 0 (by show (y 0).val < j ∨ j + 1 ≤ (y 0).val; omega)]; exact hout y (.inl hy)
        · rw [over_off _ _ _ _ _ y 1 (by show (y 1).val < 8 * (2 * k + i) ∨ 8 * (2 * k + i) + 8 ≤ (y 1).val; omega)]; exact hout y (.inr hy))
    128 0 s (by omega) ⟨rfl, fun y _ _ hy => absurd hy (by omega), fun y _ => rfl⟩
  refine ⟨h.1, fun y h0 h1 => h.2.1 y h0 h1 ?_, h.2.2⟩
  have hlt : (y 1).val < 2048 := (y 1).isLt
  omega

/-- After the third phase. -/
theorem emit_all (s : St F) : turns (emitS 128) 4 0 s = { s with x10 := rowsAll s } := by
  have h := turns_inv (emitS (F := F) 128) (fun j t => t = { s with x10 := t.x10 } ∧ ∀ y : S4x2048x128.Idx, (y 0).val < j → t.x10 y = rowsAll s y) 4
    (by
      rintro j t hj ⟨ht, hx⟩
      unfold emitS
      rw [dif_pos hj]
      have e0 : y0V t j hj = y0V s j hj := by rw [ht]; rfl
      have e1 : y1V t j hj = y1V s j hj := by rw [ht]; rfl
      obtain ⟨a1, a2, a3⟩ := place_all t j 0 hj (by omega) (y0V t j hj)
      obtain ⟨b1, b2, b3⟩ := place_all (turns (placeS j 0 hj (by omega) (y0V t j hj)) 128 0 t) j 1 hj (by omega) (y1V t j hj)
      refine ⟨by rw [b1, a1, ht], fun y hy => ?_⟩
      by_cases hlt : (y 0).val < j
      · rw [b3 y (.inl (by omega)), a3 y (.inl (by omega))]; exact hx y hlt
      · have hy0 : (y 0).val = j := by omega
        subst hy0
        by_cases hp : (y 1).val / 8 % 2 = 1
        · rw [b2 y rfl hp, e1]; unfold rowsAll yV; rw [if_neg (by omega)]
        · rw [b3 y (.inr hp), a2 y rfl (by omega), e0]; unfold rowsAll yV; rw [if_pos (by omega)])
    4 0 s (by omega) ⟨rfl, fun y hy => absurd hy (by omega)⟩
  obtain ⟨h1, h2⟩ := h
  generalize turns (emitS 128) 4 0 s = t at h1 h2 ⊢
  rw [h1]
  congr 1
  exact funext fun y => h2 y (y 0).isLt

/-- The results in the order they are written out. -/
def outAll (x : Vec F S4x2048x128 .f32) : Vec F S8x256x512 .f32 := fun y =>
  x (ix3 ⟨(y 2).val / 128, by have h : (y 2).val < 512 := (y 2).isLt; omega⟩
    ⟨8 * (y 1).val + (y 0).val, by have h : (y 1).val < 256 := (y 1).isLt; have h' : (y 0).val < 8 := (y 0).isLt; omega⟩ ⟨(y 2).val % 128, Nat.mod_lt _ (by decide)⟩)

/-- One sequence's rows of a tile, index by index. -/
theorem seqRows_at (x : Vec F S4x2048x128 .f32) (j b : Nat) (hj : j < 4) (hb : b < 8) (r : Fin 256) (l : Fin 128) :
    seqRowsV x j b hj hb (ix2 r l) = x (ix3 ⟨j, hj⟩ ⟨8 * r.val + b, by omega⟩ l) := by
  unfold seqRowsV
  pointwise
  refine congrArg (fun r => x (ix3 ⟨j, hj⟩ r l)) (Fin.ext ?_)
  show b + 8 * r.val = 8 * r.val + b
  omega

/-- After the last phase. -/
theorem out_all (s : St F) : turns outS 8 0 s = { s with x7 := outAll s.x10 } := by
  have h := turns_inv (outS (F := F)) (fun b t => t = { s with x7 := t.x7 } ∧ ∀ y : S8x256x512.Idx, (y 0).val < b → t.x7 y = outAll s.x10 y) 8
    (by
      rintro b t hb ⟨ht, hx⟩
      unfold outS
      rw [dif_pos hb]
      refine ⟨by rw [ht], fun y hy => ?_⟩
      have e10 : t.x10 = s.x10 := by rw [ht]
      dsimp only
      rw [e10]
      by_cases hlt : (y 0).val < b
      · rw [over_off _ _ _ _ _ y 0 (.inl (by exact hlt))]; exact hx y hlt
      · have hyb : (y 0).val = b := by omega
        subst hyb
        refine (over_at _ _ _ _ _ (ix3 (0 : Fin 1) (y 1) (y 2)) y fun a => by
          match a with
          | 0 => show (y 0).val = (y 0).val + 0; omega
          | 1 => show (y 1).val = 0 + (y 1).val; omega
          | 2 => show (y 2).val = 0 + (y 2).val; omega).trans ?_
        have h2 : (y 2).val < 512 := (y 2).isLt
        have ixe : ∀ (a a' : Fin 4) (b b' : Fin 2048) (c c' : Fin 128), a.val = a'.val → b.val = b'.val → c.val = c'.val →
            s.x10 (ix3 a b c) = s.x10 (ix3 a' b' c') := by
          intro a a' b b' c c' h1 h2 h3; rw [Fin.ext h1, Fin.ext h2, Fin.ext h3]
        unfold outAll
        pointwise
        split
        · refine (seqRows_at _ _ _ _ hb (y 1) _).trans ?_; exact ixe _ _ _ _ _ _ (by show 0 = (y 2).val / 128; omega) rfl (by show (y 2).val = (y 2).val % 128; omega)
        split
        · refine (seqRows_at _ _ _ _ hb (y 1) _).trans ?_; exact ixe _ _ _ _ _ _ (by show 1 = (y 2).val / 128; omega) rfl (by show (y 2).val - 128 = (y 2).val % 128; omega)
        split
        · refine (seqRows_at _ _ _ _ hb (y 1) _).trans ?_; exact ixe _ _ _ _ _ _ (by show 2 = (y 2).val / 128; omega) rfl (by show (y 2).val - 128 - 128 = (y 2).val % 128; omega)
        refine (seqRows_at _ _ _ _ hb (y 1) _).trans ?_; exact ixe _ _ _ _ _ _ (by show 3 = (y 2).val / 128; omega) rfl (by show (y 2).val - 128 - 128 - 128 = (y 2).val % 128; omega))
    8 0 s (by omega) ⟨rfl, fun y hy => absurd hy (by omega)⟩
  obtain ⟨h1, h2⟩ := h
  generalize turns outS 8 0 s = t at h1 h2 ⊢
  rw [h1]
  congr 1
  exact funext fun y => h2 y (y 0).isLt

/-! ## The body -/

/-- The state the body starts from: nothing at the first point of the grid. -/
def start (i : grid0.Coords) (x9 : Vec F S8x4096 .f32) : Vec F S8x4096 .f32 :=
  if (Scalar.cmpi .ne (Scalar.extui (Scalar.cmpi .eq (BitVec.ofNat 32 (i 0).val) 0#32)) 0#32) = 1#1 then fun _ => (Scalar.ofBits .f32 0x00000000#32 : F .f32) else x9

theorem clear_all (i : grid0.Coords) (s : St F) : clearS i s = { s with x9 := start i s.x9 } := by
  unfold clearS start
  split
  · congr 1
    funext y
    rw [shapeCast_self]
    refine (over_at (s := S8x4096) ![0, 0] S8x4096.size inb_S8x4096_S8x4096_0_0 _ s.x9 y y ?_).trans rfl
    intro a
    match a with
    | 0 => show (y 0).val = 0 + (y 0).val; omega
    | 1 => show (y 1).val = 0 + (y 1).val; omega
  · rfl

/-- What the body leaves in each buffer. -/
theorem body_all (i : grid0.Coords) (s : St F) : bodyS i s
    = { s with
        x7 := outAll (rowsAll { s with x8 := kept s.x1 s.x2 s.x4 s.x5 (start i s.x9) })
        x8 := kept s.x1 s.x2 s.x4 s.x5 (start i s.x9)
        x9 := passed s.x1 s.x2 s.x4 s.x5 (start i s.x9)
        x10 := rowsAll { s with x8 := kept s.x1 s.x2 s.x4 s.x5 (start i s.x9) } } := by
  unfold bodyS
  rw [clear_all, feed_all, recur_all _ rfl, emit_all, out_all]
  rfl

end Cert.ScanIdeal.Gen

end
-- ==== Proof.ScanFrame.lean ====
module

public import proofs.«01_k».proof.Proof.Gen.ScanIdeal.Frame.Runs
public import proofs.«01_k».proof.Proof.ScanForm
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

/-! # The run of the scan, from its body's -/

@[expose] public section

set_option maxRecDepth 16384

noncomputable section

namespace Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's results at a point, from its blocks and the state it starts from. -/
def outBlk (x1 : Vec F S4x128x2x8x128 .f32) (x2 : Vec F S4x256x1024 .bf16) (x3 : Vec F S4x1280x256 .bf16) (x4 x5 : Vec F S1x2048 .f32)
    (x6 : Vec F S1x512 .f32) (x9 : Vec F S8x4096 .f32) (x7 : Vec F S8x256x512 .f32) (x10 : Vec F S4x2048x128 .f32) : Vec F S8x256x512 .f32 :=
  outAll (rowsAll ⟨x1, x2, x3, x4, x5, x6, x7, kept x1 x2 x4 x5 x9, x9, x10⟩)

/-- They do not depend on what the result's block and the third scratch buffer held. -/
theorem outBlk_any (x1 : Vec F S4x128x2x8x128 .f32) (x2 : Vec F S4x256x1024 .bf16) (x3 : Vec F S4x1280x256 .bf16) (x4 x5 : Vec F S1x2048 .f32)
    (x6 : Vec F S1x512 .f32) (x9 x9' : Vec F S8x4096 .f32) (x7 x7' : Vec F S8x256x512 .f32) (x10 x10' : Vec F S4x2048x128 .f32) :
    outAll (rowsAll ⟨x1, x2, x3, x4, x5, x6, x7, kept x1 x2 x4 x5 x9, x9', x10⟩) = outBlk x1 x2 x3 x4 x5 x6 x9 x7' x10' := rfl

/-- Any contents. -/
def any7 : Vec F S8x256x512 .f32 := (Memref.whole cc0_stg6_0 : Memref sig .tc .vmem S8x256x512 .f32).view.read (Elt F) (Memref.whole cc0_stg6_0 : Memref sig .tc .vmem S8x256x512 .f32).view.junk
def any9 : Vec F S8x4096 .f32 := scM0_1.view.read (Elt F) scM0_1.view.junk
def any10 : Vec F S4x2048x128 .f32 := scM0_2.view.read (Elt F) scM0_2.view.junk

/-- The carried state before position `n`: at anything before the first, then what the point before left. -/
def carried (c : Dev nD) : (n : ℕ) → n ≤ cfg0.N → Vec F S8x4096 .f32
  | 0, _ => any9
  | n + 1, hn => passed (iblk m c 0 ⟨n, hn⟩) (iblk m c 1 ⟨n, hn⟩) (iblk m c 3 ⟨n, hn⟩) (iblk m c 4 ⟨n, hn⟩)
      (start (grid0.coords ⟨n, hn⟩) (carried c n (Nat.le_of_succ_le hn)))

/-- What the body leaves in the result's block. -/
def outY (c : Dev nD) (t : Fin cfg0.N) : Vec F S8x256x512 .f32 :=
  outBlk (iblk m c 0 t) (iblk m c 1 t) (iblk m c 2 t) (iblk m c 3 t) (iblk m c 4 t) (iblk m c 5 t)
    (start (grid0.coords t) (carried m c t.val (Nat.le_of_lt t.isLt))) any7 any10

/-- The state cleared at the first point does not depend on what was there. -/
theorem start_first (t : Fin cfg0.N) (h : t.val = 0) (x x' : Vec F S8x4096 .f32) : start (grid0.coords t) x = start (grid0.coords t) x' := by
  have hc : cond0_0 (grid0.coords t) := (hcond0_0 t).mpr (by rw [h])
  unfold start
  rw [if_pos hc, if_pos hc]

/-- At a later point it is what was there. -/
theorem start_later (t : Fin cfg0.N) (h : t.val ≠ 0) (x : Vec F S8x4096 .f32) : start (grid0.coords t) x = x := by
  have hN : t.val < 32 := lt_of_lt_of_eq t.isLt (show cfg0.N = 32 from N_0)
  have hc : ¬cond0_0 (grid0.coords t) := fun hc => h (by have := (hcond0_0 t).mp hc; omega)
  unfold start
  rw [if_neg hc]

/-! ## The pipeline's proof data -/

/-- The scratch before position `n`. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (carried m c (n + 1) hn) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (carried m c n h) ∗ (∃ d, owns (c : Thread nD τ) scM0_2 fullShare d)) ∗ (∃ r, prngReg c r)) := by
  cases n with
  | zero => exact absurd rfl hz
  | succ n => rfl

/-- Before any point the carried state is owned at contents that start the point as `carried` does. -/
theorem PhiS_start (c : Dev nD) (t : Fin cfg0.N) :
    PhiS m c t.val (Nat.le_of_lt t.isLt)
      ⊢ iprop(iprop((∃ d, owns (c : Thread nD τ) scM0_0 fullShare d) ∗ (∃ d, ⌜start (grid0.coords t) d = start (grid0.coords t) (carried m c t.val (Nat.le_of_lt t.isLt))⌝ ∗ owns (c : Thread nD τ) scM0_1 fullShare d) ∗ (∃ d, owns (c : Thread nD τ) scM0_2 fullShare d)) ∗ (∃ r, prngReg c r)) := by
  by_cases hz : t.val = 0
  · rw [PhiS_zero m c _ _ hz, PhiA0_eq]
    iintro ⟨⟨HS0, ⟨%d, HS1⟩, HS2⟩, Hg⟩
    isplitl [HS0 HS1 HS2]
    · isplitl [HS0]
      · iexact HS0
      isplitl [HS1]
      · iexists d
        isplitr
        · ipureintro; exact start_first t hz _ _
        iexact HS1
      iexact HS2
    iexact Hg
  · rw [PhiS_pos m c _ _ hz]
    iintro ⟨⟨HS0, HS1, HS2⟩, Hg⟩
    isplitl [HS0 HS1 HS2]
    · isplitl [HS0]
      · iexact HS0
      isplitl [HS1]
      · iexists _
        isplitr
        swap
        · iexact HS1
        ipureintro; rfl
      iexact HS2
    iexact Hg

/-- What is known of the pipeline on a core: the arrays as the region finds them; after each point the inputs' buffers at
    their blocks and the result's at what the body leaves there; the carried state between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outY m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outY m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body on a point's buffers, from any contents of the result's block and the scratch. -/
theorem body_goes (c : Dev nD) (t : Fin cfg0.N) (s : St F) :
    Goes (ms0_0 t) (ms0_1 t) (ms0_2 t) (ms0_3 t) (ms0_4 t) (ms0_5 t) (ms0_6 t) scM0_0 scM0_1 scM0_2 c (bodyAt0 (F := F) t) s ⟨⟩ (bodyS (grid0.coords t) s) := by
  have e : bodyAt0 (F := F) t = bodyLoop (ms0_0 t) (ms0_1 t) (ms0_2 t) (ms0_3 t) (ms0_4 t) (ms0_5 t) (ms0_6 t) scM0_0 scM0_1 scM0_2 (grid0.coords t) :=
    body_loop _ _ _ _ _ _ _ _ _ _ (grid0.coords t) (hs0_0 t) (hs0_1 t) (hs0_2 t) (hs0_3 t) (hs0_4 t) (hs0_5 t) (hs0_6 t)
      (Memref.isWhole_whole _) (Memref.isWhole_whole _) (Memref.isWhole_whole _)
  rw [e]
  exact goes_body _ _ _ _ _ _ _ _ _ _ c (grid0.coords t) s

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_pos m c _ _ (Nat.succ_ne_zero _)]
  rw [show carried m c (t.val + 1) t.isLt = passed (iblk m c 0 t) (iblk m c 1 t) (iblk m c 3 t) (iblk m c 4 t)
      (start (grid0.coords t) (carried m c t.val (Nat.le_of_lt t.isLt))) from rfl]
  rw [PhiS_castSucc m c t]
  unfold outY
  iintro ⟨HP, Ho, ⟨%d0, H0⟩, ⟨%d1, H1⟩, ⟨%d2, H2⟩, ⟨%d3, H3⟩, ⟨%d4, H4⟩, ⟨%d5, H5⟩, ⟨%d6, H6⟩⟩
  ihave HP := (PhiS_start m c t) $$ HP
  icases HP with ⟨⟨⟨%x8, HS0⟩, ⟨%x9, %h9, HS1⟩, ⟨%x10, HS2⟩⟩, Hg⟩
  rw [← h9]
  generalize (dats m 0 c).before 6 t d6 = x7
  iapply (body_goes c t ⟨iblk m c 0 t, iblk m c 1 t, iblk m c 2 t, iblk m c 3 t, iblk m c 4 t, iblk m c 5 t, x7, x8, x9, x10⟩ Set.univ _)
  rw [body_all]
  unfold own
  dsimp only
  rw [outBlk_any _ _ _ _ _ _ _ _ _ any7 _ any10]
  isplitl [H0 H1 H2 H3 H4 H5 H6 HS0 HS1 HS2]
  · iframe
  iintro ⟨H0, H1, H2, H3, H4, H5, H6, HS0, HS1, HS2⟩
  isplitl [HS0 HS1 HS2 Hg]
  · isplitl [HS0 HS1 HS2]
    · isplitl [HS0]
      · iexists _; iexact HS0
      isplitl [HS1]
      · iexact HS1
      iexists _; iexact HS2
    iexact Hg
  iframe

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the scratch before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried state is forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by rw [show cfg0.N = 32 from N_0]; decide), PhiA0_eq]
  iintro ⟨⟨HS0, HS1, HS2⟩, Hg⟩
  isplitl [HS0 HS1 HS2]
  · isplitl [HS0]
    · iexact HS0
    isplitl [HS1]
    · iexists _; iexact HS1
    iexact HS2
  iexact Hg

/-! ## The run and the frame -/

set_option backward.isDefEq.respectTransparency.types false in
/-- The run: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ScanIdeal.Gen

end
-- ==== Proof.ScanRows.lean ====
module

public import Idealize.ShloMosaic.Lib.Pipeline.ValueKit

/-! # The S5 recurrence, as a function of the call's operands -/

@[expose] public section

set_option maxRecDepth 16384

noncomputable section

namespace Cert.ScanRows

open Idealize.ShloMosaic

variable (a0 : FVec Ideal ⟨3, ![4, 65536, 128]⟩ .f32) (a1 : FVec Ideal ⟨3, ![4, 256, 1024]⟩ .bf16) (a2 : FVec Ideal ⟨3, ![4, 1280, 256]⟩ .bf16)
  (a3 a4 : FVec Ideal ⟨2, ![32, 64]⟩ .f32) (a5 : FVec Ideal ⟨2, ![32, 16]⟩ .f32)

/-- The inputs of a chunk of two tokens: channel `c % 128` of tile `j` at token `2 * k + c / 128` of sequence `b`. -/
def uIn (k : ℕ) (b : Fin 8) (j : Fin 4) (c : Fin 256) : EReal :=
  a0 (ix3 j ⟨((2 * k + c.val / 128) * 8 + b.val) % 65536, Nat.mod_lt _ (by decide)⟩ ⟨c.val % 128, Nat.mod_lt _ (by decide)⟩)

/-- What a chunk feeds the recurrence. -/
def bu (k : ℕ) (b : Fin 8) (j : Fin 4) (s : Fin 1024) : EReal := ∑ c, uIn a0 k b j c * a1 (ix3 j c s)

/-- The multiplier of one state of a tile. -/
def mult (a : FVec Ideal ⟨2, ![32, 64]⟩ .f32) (j : Fin 4) (s : Fin 512) : EReal :=
  a (ix2 ⟨(512 * j.val + s.val) / 64, by omega⟩ ⟨(512 * j.val + s.val) % 64, Nat.mod_lt _ (by decide)⟩)

/-- One complex state before chunk `k`: its real and imaginary parts. -/
def state (b : Fin 8) (j : Fin 4) (s : Fin 512) : ℕ → EReal × EReal
  | 0 => (0, 0)
  | k + 1 =>
    (mult a3 j s * (state b j s k).1 - mult a4 j s * (state b j s k).2 + bu a0 a1 k b j ⟨s.val, by omega⟩,
      mult a3 j s * (state b j s k).2 + mult a4 j s * (state b j s k).1 + bu a0 a1 k b j ⟨512 + s.val, by omega⟩)

/-- The states of a tile before chunk `k`, the real parts and then the imaginary. -/
def states (k : ℕ) (b : Fin 8) (j : Fin 4) (s : Fin 1024) : EReal :=
  if h : s.val < 512 then (state a0 a1 a3 a4 b j ⟨s.val, h⟩ k).1 else (state a0 a1 a3 a4 b j ⟨s.val - 512, by omega⟩ k).2

/-- They, and then the chunk's inputs. -/
def feats (k : ℕ) (b : Fin 8) (j : Fin 4) (s : Fin 1280) : EReal :=
  if h : s.val < 1024 then states a0 a1 a3 a4 k b j ⟨s.val, h⟩ else uIn a0 k b j ⟨s.val - 1024, by omega⟩

/-- A chunk's outputs without the skip. -/
def yOf (k : ℕ) (b : Fin 8) (j : Fin 4) (c : Fin 256) : EReal := ∑ s, feats a0 a1 a3 a4 k b j s * a2 (ix3 j s c)

/-- The sum over the states, and then over the inputs. -/
theorem yOf_split (k : ℕ) (b : Fin 8) (j : Fin 4) (c : Fin 256) :
    yOf a0 a1 a2 a3 a4 k b j c = (∑ s : Fin 1024, states a0 a1 a3 a4 k b j s * a2 (ix3 j ⟨s.val, by omega⟩ c)) + ∑ s : Fin 256, uIn a0 k b j s * a2 (ix3 j ⟨1024 + s.val, by omega⟩ c) := by
  unfold yOf
  refine (Fin.sum_univ_add (a := 1024) (b := 256) fun s : Fin (1024 + 256) => feats a0 a1 a3 a4 k b j s * a2 (ix3 j s c)).trans ?_
  refine congrArg₂ (· + ·) (Finset.sum_congr rfl fun s _ => ?_) (Finset.sum_congr rfl fun s _ => ?_)
  · refine congrArg₂ (· * ·) ?_ rfl
    unfold feats
    rw [dif_pos (show (Fin.castAdd 256 s).val < 1024 from s.isLt)]
    rfl
  · refine congrArg₂ (· * ·) ?_ rfl
    unfold feats
    rw [dif_neg (show ¬(Fin.natAdd 1024 s).val < 1024 from by show ¬1024 + s.val < 1024; omega)]
    exact congrArg (uIn a0 k b j) (Fin.ext (by show 1024 + s.val - 1024 = s.val; omega))

/-- One output: channel `c % 128` of tile `j` at token `2 * k + c / 128`, the skip `d` included. -/
def outOf (k : ℕ) (b : Fin 8) (j : Fin 4) (c : Fin 256) (d : EReal) : EReal :=
  yOf a0 a1 a2 a3 a4 k b j c + d * uIn a0 k b j c

/-- The call's result. -/
def scanOut : FVec Ideal ⟨3, ![8, 8192, 512]⟩ .f32 := fun y =>
  outOf a0 a1 a2 a3 a4 ((y 1).val / 2) (y 0) ⟨(y 2).val / 128, by have h : (y 2).val < 512 := (y 2).isLt; omega⟩ ⟨128 * ((y 1).val % 2) + (y 2).val % 128, by omega⟩
    (a5 (ix2 ⟨(y 2).val / 16, by have h : (y 2).val < 512 := (y 2).isLt; omega⟩ ⟨(y 2).val % 16, Nat.mod_lt _ (by decide)⟩))

end Cert.ScanRows
-- ==== Proof.ScanValue.lean ====
module

public import proofs.«01_k».proof.Proof.ScanFrame
public import proofs.«01_k».proof.Proof.ScanRows
public import Idealize.ShloMosaic.Lib.Pipeline.ValueKit

/-! # What the scan's result array holds -/

@[expose] public section

set_option maxRecDepth 16384

noncomputable section

namespace Cert.ScanIdeal.Value

open Cert.ScanIdeal Cert.ScanIdeal.Gen Cert.ScanRows
open Idealize.ShloMosaic Idealize.ShloMosaic.TcCoe Idealize.SL.Sem
open Idealize.ShloMosaic.Pipeline (Dat)

/-! ## The pieces at an index -/

/-- The rows of one step of the chunks. -/
theorem stepRows_at (x : FVec Ideal S4x128x2x8x128 .f32) (j i : Nat) (hj : j < 4) (hi : i < 2) (r : Fin 1024) (l : Fin 128) :
    stepRowsV (F := Ideal) x j i hj hi (ix2 r l) = x (ix5 ⟨j, hj⟩ ⟨r.val / 8, by omega⟩ ⟨i, hi⟩ ⟨r.val % 8, by omega⟩ l) := by
  pointwise [stepRowsV]

/-- The rows of the chunks' two steps. -/
theorem chunkRows_at (x : FVec Ideal S4x128x2x8x128 .f32) (j : Nat) (hj : j < 4) (r : Fin 1024) (c : Fin 256) :
    chunkRowsV (F := Ideal) x j hj (ix2 r c) = x (ix5 ⟨j, hj⟩ ⟨r.val / 8, by omega⟩ ⟨c.val / 128, by omega⟩ ⟨r.val % 8, by omega⟩ ⟨c.val % 128, by omega⟩) := by
  pointwise [chunkRowsV]
  split
  · rw [stepRows_at]
    exact congrArg₂ (fun p q => x (ix5 _ _ p _ q)) (Fin.ext (by show 0 = c.val / 128; omega)) (Fin.ext (by show c.val = c.val % 128; omega))
  · rw [stepRows_at]
    exact congrArg₂ (fun p q => x (ix5 _ _ p _ q)) (Fin.ext (by show 1 = c.val / 128; omega)) (Fin.ext (by show c.val - 128 = c.val % 128; omega))

/-- What the tile's chunks feed the recurrence. -/
theorem fed_at (x1 : FVec Ideal S4x128x2x8x128 .f32) (x2 : FVec Ideal S4x256x1024 .bf16) (j : Nat) (hj : j < 4) (r : Fin 1024) (s : Fin 1024) :
    fed (F := Ideal) x1 x2 j hj (ix2 r s) = ∑ c, chunkRowsV (F := Ideal) x1 j hj (ix2 r c) * x2 (ix3 ⟨j, hj⟩ c s) := by
  pointwise [fed]

/-- A row of multipliers. -/
theorem spread_at (x : FVec Ideal S1x2048 .f32) (j : Nat) (hj : j < 4) (b : Fin 8) (s : Fin 512) :
    spreadV (F := Ideal) x j hj (ix2 b s) = x (ix2 0 ⟨512 * j + s.val, by omega⟩) := by
  pointwise [spreadV]

/-- The product with the output weights. -/
theorem prod_at (s : St Ideal) (j : Nat) (hj : j < 4) (r : Fin 1024) (c : Fin 256) :
    prodV s j hj (ix2 r c) = ∑ k : Fin 1280, (if h : k.val < 1024 then (s.x8 (ix2 r ⟨1024 * j + k.val, by omega⟩) : EReal) else chunkRowsV s.x1 j hj (ix2 r ⟨k.val - 1024, by omega⟩)) * (s.x3 (ix3 ⟨j, hj⟩ k c) : EReal) := by
  pointwise [prodV]

/-- A tile's skip multipliers. -/
theorem skip_at (s : St Ideal) (j : Nat) (hj : j < 4) (r : Fin 1024) (l : Fin 128) :
    skipV s j hj (ix2 r l) = s.x6 (ix2 0 ⟨128 * j + l.val, by omega⟩) := by
  pointwise [skipV]

/-- The results of the chunks' two steps. -/
theorem y_at (s : St Ideal) (j i : Nat) (hj : j < 4) (hi : i < 2) (r : Fin 1024) (l : Fin 128) :
    yV s j i hj (ix2 r l) = (prodV s j hj (ix2 r ⟨128 * i + l.val, by omega⟩) : EReal) + (skipV s j hj (ix2 r l) : EReal) * stepRowsV s.x1 j i hj hi (ix2 r l) := by
  unfold yV
  rcases (by omega : i = 0 ∨ i = 1) with rfl | rfl
  · rw [if_pos rfl]
    pointwise [y0V]
  · rw [if_neg (by decide)]
    pointwise [y1V]

/-! ## A block of chunks -/

/-- A multiplier of the block. -/
theorem mult_at (a : FVec Ideal S32x64 .f32) (x : FVec Ideal S1x2048 .f32) (h : ∀ q : Fin 2048, x (ix2 0 q) = a (ix2 ⟨q.val / 64, by omega⟩ ⟨q.val % 64, by omega⟩))
    (j : Fin 4) (b : Fin 8) (s : Fin 512) : spreadV (F := Ideal) x j.val j.isLt (ix2 b s) = mult a j s :=
  (spread_at x j.val j.isLt b s).trans (h ⟨512 * j.val + s.val, by omega⟩)

section
variable (a0 : FVec Ideal S4x65536x128 .f32) (a1 : FVec Ideal S4x256x1024 .bf16) (a2 : FVec Ideal S4x1280x256 .bf16)
  (a3 a4 : FVec Ideal S32x64 .f32) (a5 : FVec Ideal S32x16 .f32) (t : ℕ) (ht : t < 32)
  (x1 : FVec Ideal S4x128x2x8x128 .f32) (x2 : FVec Ideal S4x256x1024 .bf16) (x3 : FVec Ideal S4x1280x256 .bf16) (x4 x5 : FVec Ideal S1x2048 .f32)
  (x6 : FVec Ideal S1x512 .f32) (x9 : FVec Ideal S8x4096 .f32)
  (h1 : ∀ (j : Fin 4) (k : Fin 128) (i : Fin 2) (b : Fin 8) (l : Fin 128), x1 (ix5 j k i b l) = a0 (ix3 j ⟨((t * 128 + k.val) * 2 + i.val) * 8 + b.val, by omega⟩ l))
  (h2 : ∀ (j : Fin 4) (p : Fin 256) (q : Fin 1024), x2 (ix3 j p q) = a1 (ix3 j p q))
  (h3 : ∀ (j : Fin 4) (p : Fin 1280) (q : Fin 256), x3 (ix3 j p q) = a2 (ix3 j p q))
  (h4 : ∀ q : Fin 2048, x4 (ix2 0 q) = a3 (ix2 ⟨q.val / 64, by omega⟩ ⟨q.val % 64, by omega⟩))
  (h5 : ∀ q : Fin 2048, x5 (ix2 0 q) = a4 (ix2 ⟨q.val / 64, by omega⟩ ⟨q.val % 64, by omega⟩))
  (h6 : ∀ q : Fin 512, x6 (ix2 0 q) = a5 (ix2 ⟨q.val / 16, by omega⟩ ⟨q.val % 16, by omega⟩))
  (h9 : ∀ (b : Fin 8) (j : Fin 4) (s : Fin 1024), x9 (ix2 b ⟨1024 * j.val + s.val, by omega⟩) = states a0 a1 a3 a4 (128 * t) b j s)

include h1 in
/-- The inputs of a chunk of the block. -/
theorem in_at (j : Fin 4) (r : Fin 1024) (c : Fin 256) :
    chunkRowsV (F := Ideal) x1 j.val j.isLt (ix2 r c) = uIn a0 (128 * t + r.val / 8) ⟨r.val % 8, by omega⟩ j c := by
  rw [chunkRows_at]
  refine (h1 j ⟨r.val / 8, by omega⟩ ⟨c.val / 128, by omega⟩ ⟨r.val % 8, by omega⟩ ⟨c.val % 128, by omega⟩).trans ?_
  unfold uIn
  exact congrArg (fun n => a0 (ix3 j n _)) (Fin.ext (by
    show ((t * 128 + r.val / 8) * 2 + c.val / 128) * 8 + r.val % 8 = ((2 * (128 * t + r.val / 8) + c.val / 128) * 8 + r.val % 8) % 65536
    omega))

include h1 h2 in
/-- What a chunk of the block feeds the recurrence. -/
theorem bu_at (j : Fin 4) (r : Fin 1024) (s : Fin 1024) :
    fed (F := Ideal) x1 x2 j.val j.isLt (ix2 r s) = bu a0 a1 (128 * t + r.val / 8) ⟨r.val % 8, by omega⟩ j s := by
  rw [fed_at]
  unfold bu
  exact Finset.sum_congr rfl fun c _ => congrArg₂ (· * ·) (in_at a0 t ht x1 h1 j r c) (h2 j c s)

include h1 h2 in
/-- A step's input, of column block `q` of the second buffer. -/
theorem blk_at (j : Fin 4) (k i : ℕ) (hk : k < 128) (hi : i < 2) (b : Fin 8) (s : Fin 512) :
    blk8 (F := Ideal) (fedAll (F := Ideal) x1 x2) k (2 * j.val + i) hk (by omega) (ix2 b s) = bu a0 a1 (128 * t + k) b j ⟨512 * i + s.val, by omega⟩ := by
  have e : blk8 (F := Ideal) (fedAll (F := Ideal) x1 x2) k (2 * j.val + i) hk (by omega) (ix2 b s) = fedAll (F := Ideal) x1 x2 (ix2 ⟨8 * k + b.val, by omega⟩ ⟨512 * (2 * j.val + i) + s.val, by omega⟩) := by
    unfold blk8
    refine congrArg (fedAll (F := Ideal) x1 x2) (funext fun a => ?_)
    match a with
    | 0 => exact Fin.ext (by show 8 * k + 1 * b.val = 8 * k + b.val; omega)
    | 1 => exact Fin.ext (by show 512 * (2 * j.val + i) + 1 * s.val = 512 * (2 * j.val + i) + s.val; omega)
  rw [e, fedAll_at (F := Ideal) x1 x2 _ j.val j.isLt ⟨512 * i + s.val, by omega⟩ (by show 512 * (2 * j.val + i) + s.val = 1024 * j.val + (512 * i + s.val); omega)]
  refine (bu_at a0 a1 t ht x1 x2 h1 h2 j ⟨8 * k + b.val, by omega⟩ ⟨512 * i + s.val, by omega⟩).trans ?_
  have e1 : (8 * k + b.val) / 8 = k := by omega
  have e2 : (⟨(8 * k + b.val) % 8, by omega⟩ : Fin 8) = b := Fin.ext (by show (8 * k + b.val) % 8 = b.val; omega)
  show bu a0 a1 (128 * t + (8 * k + b.val) / 8) ⟨(8 * k + b.val) % 8, _⟩ j _ = _
  rw [e1, e2]

include h9 in
/-- The carried state before the block, of column block `q`. -/
theorem blk9_at (j : Fin 4) (i : ℕ) (hi : i < 2) (b : Fin 8) (s : Fin 512) :
    blk9 (F := Ideal) x9 (2 * j.val + i) (by omega) (ix2 b s) = states a0 a1 a3 a4 (128 * t) b j ⟨512 * i + s.val, by omega⟩ := by
  rw [← h9]
  unfold blk9
  refine congrArg x9 (funext fun a => ?_)
  match a with
  | 0 => exact Fin.ext (by show 0 + 1 * b.val = b.val; omega)
  | 1 => exact Fin.ext (by show 512 * (2 * j.val + i) + 1 * s.val = 1024 * j.val + (512 * i + s.val); omega)

theorem states_re (k : ℕ) (b : Fin 8) (j : Fin 4) (s : Fin 512) (q : Fin 1024) (hq : q.val = s.val) : states a0 a1 a3 a4 k b j q = (state a0 a1 a3 a4 b j s k).1 := by
  unfold states
  rw [dif_pos (by omega), show (⟨q.val, by omega⟩ : Fin 512) = s from Fin.ext hq]

theorem states_im (k : ℕ) (b : Fin 8) (j : Fin 4) (s : Fin 512) (q : Fin 1024) (hq : q.val = 512 + s.val) : states a0 a1 a3 a4 k b j q = (state a0 a1 a3 a4 b j s k).2 := by
  unfold states
  rw [dif_neg (by omega), show (⟨q.val - 512, by omega⟩ : Fin 512) = s from Fin.ext (by show q.val - 512 = s.val; omega)]

include h1 h2 h4 h5 h9 in
/-- The block's states are the recurrence's. -/
theorem hAt_at (j : Fin 4) (b : Fin 8) (s : Fin 512) (k : ℕ) (hk : k ≤ 128) :
    (hAt (F := Ideal) x1 x2 x4 x5 x9 j.val j.isLt k).1 (ix2 b s) = (state a0 a1 a3 a4 b j s (128 * t + k)).1
      ∧ (hAt (F := Ideal) x1 x2 x4 x5 x9 j.val j.isLt k).2 (ix2 b s) = (state a0 a1 a3 a4 b j s (128 * t + k)).2 := by
  induction k with
  | zero =>
    exact ⟨(blk9_at a0 a1 a3 a4 t x9 h9 j 0 (by omega) b s).trans (states_re a0 a1 a3 a4 _ b j s _ (by show 512 * 0 + s.val = s.val; omega)),
      (blk9_at a0 a1 a3 a4 t x9 h9 j 1 (by omega) b s).trans (states_im a0 a1 a3 a4 _ b j s _ (by show 512 * 1 + s.val = 512 + s.val; omega))⟩
  | succ k ih =>
    obtain ⟨e1, e2⟩ := ih (by omega)
    have hk' : k < 128 := by omega
    have er := mult_at a3 x4 h4 j b s
    have ei := mult_at a4 x5 h5 j b s
    have b0 := blk_at a0 a1 t ht x1 x2 h1 h2 j k 0 hk' (by omega) b s
    have b1 := blk_at a0 a1 t ht x1 x2 h1 h2 j k 1 hk' (by omega) b s
    have f0 : (⟨512 * 0 + s.val, by omega⟩ : Fin 1024) = ⟨s.val, by omega⟩ := Fin.ext (by show 512 * 0 + s.val = s.val; omega)
    have f1 : (⟨512 * 1 + s.val, by omega⟩ : Fin 1024) = ⟨512 + s.val, by omega⟩ := Fin.ext (by show 512 * 1 + s.val = 512 + s.val; omega)
    rw [f0] at b0
    rw [f1] at b1
    rw [hAt, dif_pos hk', show 128 * t + (k + 1) = 128 * t + k + 1 by omega, state]
    refine ⟨?_, ?_⟩
    · show (spreadV (F := Ideal) x4 j.val j.isLt (ix2 b s) : EReal) * (hAt (F := Ideal) x1 x2 x4 x5 x9 j.val j.isLt k).1 (ix2 b s) - (spreadV (F := Ideal) x5 j.val j.isLt (ix2 b s) : EReal) * (hAt (F := Ideal) x1 x2 x4 x5 x9 j.val j.isLt k).2 (ix2 b s) + blk8 (F := Ideal) (fedAll (F := Ideal) x1 x2) k (2 * j.val) hk' _ (ix2 b s) = _
      rw [er, ei, e1, e2]
      exact congrArg _ b0
    · show (spreadV (F := Ideal) x4 j.val j.isLt (ix2 b s) : EReal) * (hAt (F := Ideal) x1 x2 x4 x5 x9 j.val j.isLt k).2 (ix2 b s) + (spreadV (F := Ideal) x5 j.val j.isLt (ix2 b s) : EReal) * (hAt (F := Ideal) x1 x2 x4 x5 x9 j.val j.isLt k).1 (ix2 b s) + blk8 (F := Ideal) (fedAll (F := Ideal) x1 x2) k (2 * j.val + 1) hk' _ (ix2 b s) = _
      rw [er, ei, e1, e2]
      exact congrArg _ b1

include h1 h2 h4 h5 h9 in
/-- A part of the block's states. -/
theorem side_at (j : Fin 4) (b : Fin 8) (s : Fin 1024) (k : ℕ) (hk : k ≤ 128) :
    side (hAt (F := Ideal) x1 x2 x4 x5 x9 j.val j.isLt k) (s.val / 512) (ix2 b ⟨s.val % 512, Nat.mod_lt _ (by decide)⟩) = states a0 a1 a3 a4 (128 * t + k) b j s := by
  obtain ⟨e1, e2⟩ := hAt_at a0 a1 a3 a4 t ht x1 x2 x4 x5 x9 h1 h2 h4 h5 h9 j b ⟨s.val % 512, Nat.mod_lt _ (by decide)⟩ k hk
  unfold side
  by_cases hs : s.val < 512
  · rw [if_pos (by omega), e1]
    exact (states_re a0 a1 a3 a4 _ b j _ s (by show s.val = s.val % 512; omega)).symm
  · rw [if_neg (by omega), e2]
    exact (states_im a0 a1 a3 a4 _ b j _ s (by show s.val = 512 + s.val % 512; omega)).symm

include h1 h2 h4 h5 h9 in
/-- The states the block leaves are those before the next. -/
theorem pass_at (b : Fin 8) (j : Fin 4) (s : Fin 1024) :
    passed (F := Ideal) x1 x2 x4 x5 x9 (ix2 b ⟨1024 * j.val + s.val, by omega⟩) = states a0 a1 a3 a4 (128 * (t + 1)) b j s := by
  rw [passed_at (F := Ideal) x1 x2 x4 x5 x9 _ j.val j.isLt (s.val / 512) (by omega) ⟨s.val % 512, Nat.mod_lt _ (by decide)⟩
    (by show 1024 * j.val + s.val = 512 * (2 * j.val + s.val / 512) + s.val % 512; omega)]
  exact side_at a0 a1 a3 a4 t ht x1 x2 x4 x5 x9 h1 h2 h4 h5 h9 j b s 128 (by omega)

include h1 h2 h4 h5 h9 in
/-- The states kept for the chunks. -/
theorem keep_at (r : Fin 1024) (j : Fin 4) (s : Fin 1024) :
    kept (F := Ideal) x1 x2 x4 x5 x9 (ix2 r ⟨1024 * j.val + s.val, by omega⟩) = states a0 a1 a3 a4 (128 * t + r.val / 8) ⟨r.val % 8, by omega⟩ j s := by
  rw [kept_at (F := Ideal) x1 x2 x4 x5 x9 _ j.val j.isLt (r.val / 8) (s.val / 512) (by omega) ⟨r.val % 8, by omega⟩ ⟨s.val % 512, Nat.mod_lt _ (by decide)⟩
    (by show r.val = 8 * (r.val / 8) + r.val % 8; omega)
    (by show 1024 * j.val + s.val = 512 * (2 * j.val + s.val / 512) + s.val % 512; omega)]
  exact side_at a0 a1 a3 a4 t ht x1 x2 x4 x5 x9 h1 h2 h4 h5 h9 j ⟨r.val % 8, by omega⟩ s (r.val / 8) (by omega)

include h1 h2 h3 h4 h5 h6 h9 in
/-- The block's results. -/
theorem out_at (x7 : FVec Ideal S8x256x512 .f32) (x10 : FVec Ideal S4x2048x128 .f32) (b : Fin 8) (n : Fin 256) (q : Fin 512) :
    outBlk (F := Ideal) x1 x2 x3 x4 x5 x6 x9 x7 x10 (ix3 b n q) = scanOut a0 a1 a2 a3 a4 a5 (ix3 b ⟨t * 256 + n.val, by omega⟩ q) := by
  have hP : ∀ (j : Fin 4) (r : Fin 1024) (c : Fin 256), prodV (F := Ideal) ⟨x1, x2, x3, x4, x5, x6, x7, kept x1 x2 x4 x5 x9, x9, x10⟩ j.val j.isLt (ix2 r c)
      = yOf a0 a1 a2 a3 a4 (128 * t + r.val / 8) ⟨r.val % 8, by omega⟩ j c := by
    intro j r c
    rw [prod_at]
    unfold yOf
    refine Finset.sum_congr rfl fun k _ => congrArg₂ (· * ·) ?_ (h3 j k c)
    unfold feats
    by_cases hk : k.val < 1024
    · rw [dif_pos hk, dif_pos hk]
      exact keep_at a0 a1 a3 a4 t ht x1 x2 x4 x5 x9 h1 h2 h4 h5 h9 r j ⟨k.val, hk⟩
    · rw [dif_neg hk, dif_neg hk]
      exact in_at a0 t ht x1 h1 j r ⟨k.val - 1024, by omega⟩
  have hj : q.val / 128 < 4 := by omega
  have hY : outBlk (F := Ideal) x1 x2 x3 x4 x5 x6 x9 x7 x10 (ix3 b n q)
      = yV (F := Ideal) ⟨x1, x2, x3, x4, x5, x6, x7, kept x1 x2 x4 x5 x9, x9, x10⟩ (q.val / 128) ((8 * n.val + b.val) / 8 % 2) hj
          (ix2 ⟨8 * ((8 * n.val + b.val) / 16) + (8 * n.val + b.val) % 8, by omega⟩ ⟨q.val % 128, by omega⟩) := rfl
  have e1 : (8 * n.val + b.val) / 8 % 2 = n.val % 2 := by omega
  have e2 : (⟨8 * ((8 * n.val + b.val) / 16) + (8 * n.val + b.val) % 8, by omega⟩ : Fin 1024) = ⟨8 * (n.val / 2) + b.val, by omega⟩ :=
    Fin.ext (by show 8 * ((8 * n.val + b.val) / 16) + (8 * n.val + b.val) % 8 = 8 * (n.val / 2) + b.val; omega)
  rw [hY, e1, e2, y_at _ _ _ hj (by omega), skip_at, stepRows_at]
  have hR : scanOut a0 a1 a2 a3 a4 a5 (ix3 b ⟨t * 256 + n.val, by omega⟩ q)
      = outOf a0 a1 a2 a3 a4 ((t * 256 + n.val) / 2) b ⟨q.val / 128, hj⟩ ⟨128 * ((t * 256 + n.val) % 2) + q.val % 128, by omega⟩ (a5 (ix2 ⟨q.val / 16, by omega⟩ ⟨q.val % 16, by omega⟩)) := rfl
  have e3 : (t * 256 + n.val) / 2 = 128 * t + (8 * (n.val / 2) + b.val) / 8 := by omega
  have e4 : (⟨128 * ((t * 256 + n.val) % 2) + q.val % 128, by omega⟩ : Fin 256) = ⟨128 * (n.val % 2) + q.val % 128, by omega⟩ :=
    Fin.ext (by show 128 * ((t * 256 + n.val) % 2) + q.val % 128 = 128 * (n.val % 2) + q.val % 128; omega)
  have e5 : b = ⟨(8 * (n.val / 2) + b.val) % 8, by omega⟩ := Fin.ext (by show b.val = (8 * (n.val / 2) + b.val) % 8; omega)
  rw [hR, e3, e4, outOf]
  refine congrArg₂ (· + ·) ?_ (congrArg₂ (· * ·) ?_ ?_)
  · refine (hP ⟨q.val / 128, hj⟩ ⟨8 * (n.val / 2) + b.val, by omega⟩ ⟨128 * (n.val % 2) + q.val % 128, by omega⟩).trans ?_
    exact congrArg (fun b' => yOf a0 a1 a2 a3 a4 _ b' _ _) e5.symm
  · refine (h6 ⟨128 * (q.val / 128) + q.val % 128, by omega⟩).trans ?_
    exact congrArg₂ (fun p q => a5 (ix2 p q)) (Fin.ext (by show (128 * (q.val / 128) + q.val % 128) / 16 = q.val / 16; omega))
      (Fin.ext (by show (128 * (q.val / 128) + q.val % 128) % 16 = q.val % 16; omega))
  · refine (h1 ⟨q.val / 128, hj⟩ ⟨(8 * (n.val / 2) + b.val) / 8, by omega⟩ ⟨n.val % 2, by omega⟩ ⟨(8 * (n.val / 2) + b.val) % 8, by omega⟩ ⟨q.val % 128, by omega⟩).trans ?_
    unfold uIn
    exact congrArg₂ (fun p r => a0 (ix3 _ p r))
      (Fin.ext (by
        show ((t * 128 + (8 * (n.val / 2) + b.val) / 8) * 2 + n.val % 2) * 8 + (8 * (n.val / 2) + b.val) % 8
          = ((2 * (128 * t + (8 * (n.val / 2) + b.val) / 8) + (128 * (n.val % 2) + q.val % 128) / 128) * 8 + b.val) % 65536
        omega))
      (Fin.ext (by show q.val % 128 = (128 * (n.val % 2) + q.val % 128) % 128; omega))

end

/-! ## The windows -/

variable (m : (ℓ : Loc nD τ sig) → Buf (Elt Ideal) ℓ)

/-- The index maps of the call's windows: the inputs and the results move with the grid, the weights stay. -/
theorem idx : ∀ t : Fin cfg0.N, win0_0.index t = ![0, t.val, 0, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, t.val, 0] :=
  (by decide +kernel : ∀ t : Fin grid0.N, _)

theorem lt32 (t : Fin cfg0.N) : t.val < 32 := lt_of_lt_of_eq t.isLt N_0

/-- The inputs' block at a grid point. -/
theorem iblk0_at (c : Dev nD) (t : Fin cfg0.N) (j : Fin 4) (k : Fin 128) (i : Fin 2) (b : Fin 8) (l : Fin 128) :
    (show EReal from iblk m c 0 t (ix5 j k i b l))
      = m ((c : Thread nD τ).loc main_arg0) (ix3 j ⟨((t.val * 128 + k.val) * 2 + i.val) * 8 + b.val, by have := lt32 t; omega⟩ l) := by
  blk_point [iblk, V, idx t]

/-- The input weights' block. -/
theorem iblk1_at (c : Dev nD) (t : Fin cfg0.N) (j : Fin 4) (p : Fin 256) (q : Fin 1024) :
    (show EReal from iblk m c 1 t (ix3 j p q)) = m ((c : Thread nD τ).loc main_arg1) (ix3 j p q) := by
  blk_point [iblk, V, idx t]

/-- The output weights' block. -/
theorem iblk2_at (c : Dev nD) (t : Fin cfg0.N) (j : Fin 4) (p : Fin 1280) (q : Fin 256) :
    (show EReal from iblk m c 2 t (ix3 j p q)) = m ((c : Thread nD τ).loc main_arg2) (ix3 j p q) := by
  blk_point [iblk, V, idx t]

/-- The multipliers' real parts. -/
theorem iblk3_at (c : Dev nD) (t : Fin cfg0.N) (q : Fin 2048) :
    (show EReal from iblk m c 3 t (ix2 0 q)) = m ((c : Thread nD τ).loc main_arg3) (ix2 ⟨q.val / 64, by omega⟩ ⟨q.val % 64, by omega⟩) := by
  blk_point [iblk, V, idx t]

/-- The multipliers' imaginary parts. -/
theorem iblk4_at (c : Dev nD) (t : Fin cfg0.N) (q : Fin 2048) :
    (show EReal from iblk m c 4 t (ix2 0 q)) = m ((c : Thread nD τ).loc main_arg4) (ix2 ⟨q.val / 64, by omega⟩ ⟨q.val % 64, by omega⟩) := by
  blk_point [iblk, V, idx t]

/-- The skip's multipliers. -/
theorem iblk5_at (c : Dev nD) (t : Fin cfg0.N) (q : Fin 512) :
    (show EReal from iblk m c 5 t (ix2 0 q)) = m ((c : Thread nD τ).loc main_arg5) (ix2 ⟨q.val / 16, by omega⟩ ⟨q.val % 16, by omega⟩) := by
  blk_point [iblk, V, idx t]

/-- Where an index of a grid point's block lies in the result array. -/
theorem emb6_eq (t : Fin cfg0.N) (y : S8x256x512.Idx) :
    ((cfg0.win 6).blk t).view.emb y = (ix3 (y 0) ⟨t.val * 256 + (y 1).val, by
      have h : t.val < 32 := lt32 t
      have h' : (y 1).val < 256 := (y 1).isLt
      omega⟩ (y 2) : S8x8192x512.Idx) := by
  blk_ext [idx t]

/-! ## The result array -/

/-- The cleared state. -/
theorem start_zero (t : Fin cfg0.N) (h : t.val = 0) (x : FVec Ideal S8x4096 .f32) (y : S8x4096.Idx) : start (F := Ideal) (grid0.coords t) x y = (0 : EReal) := by
  have hc : cond0_0 (grid0.coords t) := (hcond0_0 t).mpr (by rw [h])
  unfold start
  rw [if_pos hc]
  idx_vars y
  pointwise

/-- The state each point starts from is the recurrence's before the point's chunks. -/
theorem carried_at (c : Dev nD) (n : ℕ) : ∀ (hn : n < cfg0.N) (b : Fin 8) (j : Fin 4) (s : Fin 1024),
    start (F := Ideal) (grid0.coords ⟨n, hn⟩) (carried m c n (Nat.le_of_lt hn)) (ix2 b ⟨1024 * j.val + s.val, by omega⟩)
      = states (m ((c : Thread nD τ).loc main_arg0)) (m ((c : Thread nD τ).loc main_arg1)) (m ((c : Thread nD τ).loc main_arg3)) (m ((c : Thread nD τ).loc main_arg4)) (128 * n) b j s := by
  induction n with
  | zero =>
    intro hn b j s
    rw [start_zero ⟨0, hn⟩ rfl]
    unfold states
    split
    · rfl
    · rfl
  | succ n ih =>
    intro hn b j s
    rw [start_later ⟨n + 1, hn⟩ (Nat.succ_ne_zero n)]
    have hN : n < 32 := lt32 ⟨n, Nat.lt_of_succ_lt hn⟩
    exact pass_at _ _ _ _ n hN _ _ _ _ _ (iblk0_at m c _) (iblk1_at m c _) (iblk3_at m c _) (iblk4_at m c _) (ih (Nat.lt_of_succ_lt hn)) b j s

/-- The result array after the run. -/
theorem final6 (c : Dev nD) : (dats m 0 c).arrAt 6 (cfgs 0).N
    = scanOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, emb6_eq]
  have hy : y = ix3 (y 0) (y 1) (y 2) := by
    funext a
    match a with
    | 0 => rfl
    | 1 => rfl
    | 2 => rfl
  rw [hy]
  exact out_at _ _ _ _ _ _ t.val (lt32 t) _ _ _ _ _ _ _ (iblk0_at m c t) (iblk1_at m c t) (iblk2_at m c t) (iblk3_at m c t) (iblk4_at m c t) (iblk5_at m c t)
    (carried_at m c t.val t.isLt) _ _ (y 0) (y 1) (y 2)

/-- The run: the result array at the recurrence's function of the arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v4) = scanOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c), h.2.1 c⟩)
    (θ_run_and (run_main m ρ) (frame m ρ))

end Cert.ScanIdeal.Value
-- ==== Proof.ScanRefRow.lean ====
module

public import proofs.«01_k».proof.Proof.Gen.ScanRefIdeal.Run
public import proofs.«01_k».proof.Proof.ScanRows
public import Idealize.ShloMosaic.Lib.Pipeline.ValueKit
public import Idealize.ShloMosaic.Lib.WordCmp
public import Idealize.ShloMosaic.Lib.DynamicIndex

/-! # What the scan's reference computes -/

@[expose] public section

set_option maxRecDepth 16384

noncomputable section

namespace Cert.ScanRefIdeal.Value

open Cert.ScanRefIdeal Cert.ScanRefIdeal.Gen Cert.ScanRows
open Idealize.ShloMosaic Idealize.ShloMosaic.TcCoe Idealize.ShloMosaic.StableHlo Idealize.SL.Sem

section
variable (a0 : FVec Ideal S4x65536x128 .f32) (a1 : FVec Ideal S4x256x1024 .bf16) (a2 : FVec Ideal S4x1280x256 .bf16)
  (a3 a4 : FVec Ideal S32x64 .f32) (a5 : FVec Ideal S32x16 .f32)

/-- The inputs by chunk, sequence, tile, step and channel. -/
def vA : FVec Ideal S4096x8x4x2x128 .f32 :=
  transpose S4096x8x4x2x128 [1, 3, 0, 2, 4] (shapeCast _ a0 shapeCasts_S4x65536x128_S4x4096x2x8x128) transposes_S4x4096x2x8x128_S4096x8x4x2x128_1_3_0_2_4

/-- The inputs of a chunk side by side. -/
def vvA : FVec Ideal S4096x8x4x256 .f32 := shapeCast _ (vA a0) shapeCasts_S4096x8x4x2x128_S4096x8x4x256

theorem vA_at (k : Fin 4096) (b : Fin 8) (j : Fin 4) (i : Fin 2) (l : Fin 128) :
    vA a0 (ix5 k b j i l) = uIn a0 k.val b j ⟨128 * i.val + l.val, by omega⟩ := by
  have e : a0 (ix3 j ⟨(2 * k.val + i.val) * 8 + b.val, by omega⟩ l) = uIn a0 k.val b j ⟨128 * i.val + l.val, by omega⟩ := by
    unfold uIn
    have h1 : ((2 * k.val + (128 * i.val + l.val) / 128) * 8 + b.val) % 65536 = (2 * k.val + i.val) * 8 + b.val := by omega
    have h2 : (128 * i.val + l.val) % 128 = l.val := by omega
    simp only [h1, h2]
  rw [← e]
  pointwise [vA]
  exact congrArg (fun n => a0 (ix3 j n l)) (Fin.ext (by show k.val * 16 + i.val * 8 + b.val = (2 * k.val + i.val) * 8 + b.val; omega))

theorem vvA_at (k : Fin 4096) (b : Fin 8) (j : Fin 4) (c : Fin 256) : vvA a0 (ix4 k b j c) = uIn a0 k.val b j c := by
  have e := vA_at a0 k b j ⟨c.val / 128, by omega⟩ ⟨c.val % 128, by omega⟩
  rw [show (⟨128 * (c.val / 128) + c.val % 128, by omega⟩ : Fin 256) = c from Fin.ext (by show 128 * (c.val / 128) + c.val % 128 = c.val; omega)] at e
  rw [← e]
  pointwise [vvA]

/-- What the chunks feed the recurrence. -/
def buA : FVec Ideal S4096x8x4x1024 .f32 :=
  transpose S4096x8x4x1024 [2, 3, 0, 1] (Host.dotGeneral dot_S4x256x1024_S4096x8x4x256_S4x1024x4096x8_1_3_2_01_0_2 none (extf .f32 a1 bitsLt_bf16_f32) (vvA a0)) transposes_S4x1024x4096x8_S4096x8x4x1024_2_3_0_1

theorem buA_at (k : Fin 4096) (b : Fin 8) (j : Fin 4) (s : Fin 1024) : buA a0 a1 (ix4 k b j s) = bu a0 a1 k.val b j s := by
  unfold bu
  simp only [← vvA_at a0 k b j]
  pointwise [buA]
  exact Finset.sum_congr rfl fun c _ => mul_comm _ _

/-- The multipliers by tile. -/
def mA (a : FVec Ideal S32x64 .f32) : FVec Ideal S4x512 .f32 := shapeCast _ a shapeCasts_S32x64_S4x512

theorem mA_at (a : FVec Ideal S32x64 .f32) (j : Fin 4) (s : Fin 512) : mA a (ix2 j s) = mult a j s := by
  unfold mult
  pointwise [mA]
  exact congrArg₂ (fun p q => a (ix2 p q)) (Fin.ext (by show j.val * 8 + s.val / 64 = (512 * j.val + s.val) / 64; omega)) (Fin.ext (by show s.val % 64 = (512 * j.val + s.val) % 64; omega))

/-- The reference's result from its states' stack. -/
def outA (x : FVec Ideal S4096x8x4x1024 .f32) : FVec Ideal S8x8192x512 .f32 :=
  shapeCast _ (transpose S8x4096x2x4x128 [1, 0, 3, 2, 4] (addf
    (shapeCast _ (transpose S4096x8x4x256 [2, 3, 0, 1] (Host.dotGeneral dot_S4x1280x256_S4096x8x4x1280_S4x256x4096x8_1_3_2_01_0_2 none (extf .f32 a2 bitsLt_bf16_f32)
      (concatenate S4096x8x4x1280 3 [⟨S4096x8x4x1024, x⟩, ⟨S4096x8x4x256, vvA a0⟩] concatenates_S4096x8x4x1024_S4096x8x4x256_S4096x8x4x1280_d3 : FVec Ideal S4096x8x4x1280 .f32)) transposes_S4x256x4096x8_S4096x8x4x256_2_3_0_1) shapeCasts_S4096x8x4x256_S4096x8x4x2x128)
    (mulf (broadcastInDim S4096x8x4x2x128 ![0, 1, 2, 3, 4] bcast_S1x1x4x1x128_S4096x8x4x2x128_0_1_2_3_4 (broadcastInDim S1x1x4x1x128 ![2, 3, 4] bcast_S4x1x128_S1x1x4x1x128_2_3_4 (shapeCast _ a5 shapeCasts_S32x16_S4x1x128))) (vA a0))) transposes_S4096x8x4x2x128_S8x4096x2x4x128_1_0_3_2_4) shapeCasts_S8x4096x2x4x128_S8x8192x512

theorem outA_at (x : FVec Ideal S4096x8x4x1024 .f32) (hx : ∀ (k : Fin 4096) (b : Fin 8) (j : Fin 4) (s : Fin 1024), x (ix4 k b j s) = states a0 a1 a3 a4 k.val b j s)
    (b : Fin 8) (n : Fin 8192) (q : Fin 512) : outA a0 a2 a5 x (ix3 b n q) = scanOut a0 a1 a2 a3 a4 a5 (ix3 b n q) := by
  have eC : (⟨n.val % 2 * 128 + q.val % 128, by omega⟩ : Fin 256) = ⟨128 * (n.val % 2) + q.val % 128, by omega⟩ := Fin.ext (by show n.val % 2 * 128 + q.val % 128 = 128 * (n.val % 2) + q.val % 128; omega)
  have eR : scanOut a0 a1 a2 a3 a4 a5 (ix3 b n q) = outOf a0 a1 a2 a3 a4 (n.val / 2) b ⟨q.val / 128, by omega⟩ ⟨128 * (n.val % 2) + q.val % 128, by omega⟩ (a5 (ix2 ⟨q.val / 16, by omega⟩ ⟨q.val % 16, by omega⟩)) := rfl
  rw [eR, outOf, yOf_split]
  pointwise [outA]
  refine congrArg₂ (· + ·) (congrArg₂ (· + ·) (Finset.sum_congr rfl fun s _ => ?_) (Finset.sum_congr rfl fun s _ => ?_)) (congrArg₂ (· * ·) ?_ ?_)
  · exact (mul_comm _ _).trans (congrArg₂ (fun u v : EReal => u * v) (hx _ _ _ _) (congrArg (fun e => a2 (ix3 _ _ e)) eC))
  · exact (mul_comm _ _).trans (congrArg₂ (fun u v : EReal => u * v) (vvA_at a0 _ _ _ _) (congrArg (fun e => a2 (ix3 _ _ e)) eC))
  · exact congrArg₂ (fun p q => a5 (ix2 p q)) (Fin.ext (by show q.val / 128 * 8 + q.val % 128 / 16 = q.val / 16; omega)) (Fin.ext (by show q.val % 128 % 16 = q.val % 16; omega))
  · rw [vA_at]

end

/-! ## The loop -/

/-- The loop's counter as an offset. -/
theorem iv_toInt (k : ℕ) (hk : k < 4096) : (Scf.iv 0#32 1#32 k).toInt = (k : Int) := by
  have e : Scf.iv 0#32 1#32 k = BitVec.ofNat 32 k := by simp [Scf.iv]
  rw [e]
  exact toInt_ofNat_of_lt (by omega)

/-- A trip's real parts, of its operands. -/
theorem stepRe (R : FVec Ideal S8x4x1024 .f32) (hr hi : FVec Ideal S8x4x512 .f32) (ar ai : FVec Ideal S4x512 .f32) (b : Fin 8) (j : Fin 4) (s : Fin 512) :
    (addf (subf (mulf (broadcastInDim S8x4x512 ![0, 1, 2] bcast_S1x4x512_S8x4x512_0_1_2 (broadcastInDim S1x4x512 ![1, 2] bcast_S4x512_S1x4x512_1_2 ar)) hr)
      (mulf (broadcastInDim S8x4x512 ![0, 1, 2] bcast_S1x4x512_S8x4x512_0_1_2 (broadcastInDim S1x4x512 ![1, 2] bcast_S4x512_S1x4x512_1_2 ai)) hi))
      (extractStridedSlice S8x4x512 ![0, 0, 0] R slices_S8x4x1024_S8x4x512_0_0_0) : FVec Ideal S8x4x512 .f32) (ix3 b j s)
      = ar (ix2 j s) * hr (ix3 b j s) - ai (ix2 j s) * hi (ix3 b j s) + R (ix3 b j ⟨s.val, by omega⟩) := by
  pointwise

/-- A trip's imaginary parts, of its operands. -/
theorem stepIm (R : FVec Ideal S8x4x1024 .f32) (hr hi : FVec Ideal S8x4x512 .f32) (ar ai : FVec Ideal S4x512 .f32) (b : Fin 8) (j : Fin 4) (s : Fin 512) :
    (addf (addf (mulf (broadcastInDim S8x4x512 ![0, 1, 2] bcast_S1x4x512_S8x4x512_0_1_2 (broadcastInDim S1x4x512 ![1, 2] bcast_S4x512_S1x4x512_1_2 ar)) hi)
      (mulf (broadcastInDim S8x4x512 ![0, 1, 2] bcast_S1x4x512_S8x4x512_0_1_2 (broadcastInDim S1x4x512 ![1, 2] bcast_S4x512_S1x4x512_1_2 ai)) hr))
      (extractStridedSlice S8x4x512 ![0, 0, 512] R slices_S8x4x1024_S8x4x512_0_0_512) : FVec Ideal S8x4x512 .f32) (ix3 b j s)
      = ar (ix2 j s) * hi (ix3 b j s) + ai (ix2 j s) * hr (ix3 b j s) + R (ix3 b j ⟨512 + s.val, by omega⟩) := by
  pointwise

/-- The two parts of the states side by side. -/
theorem both_at (hr hi : FVec Ideal S8x4x512 .f32) (z : Fin 1) (b : Fin 8) (j : Fin 4) (s : Fin 1024) :
    (broadcastInDim S1x8x4x1024 ![1, 2, 3] bcast_S8x4x1024_S1x8x4x1024_1_2_3 (concatenate S8x4x1024 2 [⟨S8x4x512, hr⟩, ⟨S8x4x512, hi⟩] concatenates_S8x4x512_S8x4x512_S8x4x1024_d2 : FVec Ideal S8x4x1024 .f32) : FVec Ideal S1x8x4x1024 .f32) (ix4 z b j s)
      = if h : s.val < 512 then hr (ix3 b j ⟨s.val, h⟩) else hi (ix3 b j ⟨s.val - 512, by omega⟩) := by
  pointwise

/-- One slab without its leading axis. -/
theorem cast1_at (U : FVec Ideal S1x8x4x1024 .f32) (b : Fin 8) (j : Fin 4) (s : Fin 1024) (h : S1x8x4x1024.ShapeCasts S8x4x1024) : (shapeCast S8x4x1024 U h) (ix3 b j s) = U (ix4 0 b j s) := by
  pointwise

/-- The slab of one chunk. -/
theorem slab_at (x : FVec Ideal S4096x8x4x1024 .f32) (k : ℕ) (hk : k < 4096) (h : S4096x8x4x1024.Slices ![k, 0, 0, 0] S1x8x4x1024) (z : Fin 1) (b : Fin 8) (j : Fin 4) (s : Fin 1024) :
    extractStridedSlice S1x8x4x1024 ![k, 0, 0, 0] x h (ix4 z b j s) = x (ix4 ⟨k, hk⟩ b j s) := by
  unfold extractStridedSlice
  refine congrArg x (funext fun a => ?_)
  match a with
  | 0 => exact Fin.ext (by show k + z.val = k; omega)
  | 1 => exact Fin.ext (by show 0 + b.val = b.val; omega)
  | 2 => exact Fin.ext (by show 0 + j.val = j.val; omega)
  | 3 => exact Fin.ext (by show 0 + s.val = s.val; omega)

/-- A slab put at its chunk. -/
theorem put_at (x : FVec Ideal S4096x8x4x1024 .f32) (u : FVec Ideal S1x8x4x1024 .f32) (k : ℕ) (hk : k < 4096) (h : S4096x8x4x1024.Slices ![k, 0, 0, 0] S1x8x4x1024) (k' : Fin 4096) (b : Fin 8) (j : Fin 4) (s : Fin 1024) :
    updateSlice x u ![k, 0, 0, 0] h (ix4 k' b j s) = if k'.val = k then u (ix4 0 b j s) else x (ix4 k' b j s) := by
  unfold updateSlice
  by_cases e : k'.val = k
  · rw [if_pos e, dif_pos (by
      intro a
      match a with
      | 0 => exact ⟨by show k ≤ k'.val; omega, by show k'.val < k + 1; omega⟩
      | 1 => exact ⟨by show 0 ≤ b.val; omega, by show b.val < 0 + 8; omega⟩
      | 2 => exact ⟨by show 0 ≤ j.val; omega, by show j.val < 0 + 4; omega⟩
      | 3 => exact ⟨by show 0 ≤ s.val; omega, by show s.val < 0 + 1024; omega⟩)]
    refine congrArg u (funext fun a => ?_)
    match a with
    | 0 => exact Fin.ext (by show k'.val - k = 0; omega)
    | 1 => rfl
    | 2 => rfl
    | 3 => rfl
  · rw [if_neg e, dif_neg (by
      intro H
      have h0 := H 0
      have h1 : k ≤ k'.val := h0.1
      have h2 : k'.val < k + 1 := h0.2
      omega)]

section
variable (W : Valuation τ sig (Elt Ideal)) (k : ℕ) (hk : k < 4096)
  (hc : W (Proc.devRef .tc main_v10_3) = fun _ => Scf.iv 0#32 1#32 k)

include hk in
theorem slabFits : S4096x8x4x1024.Slices ![k, 0, 0, 0] S1x8x4x1024 := by
  refine ⟨rfl, ?_⟩; intro a; match a with | 0 => (show k + 1 ≤ 4096; omega) | 1 => (show 0 + 8 ≤ 8; decide) | 2 => (show 0 + 4 ≤ 4; decide) | 3 => (show 0 + 1024 ≤ 1024; decide)

include hk hc in
theorem startAt : ∀ a : Fin 4, (((![W (Proc.devRef .tc main_v10_3), constantI S_ 32 0#32, constantI S_ 32 0#32, constantI S_ 32 0#32] : Fin 4 → (⟨S_, .i32⟩ : BufTy).Contents (Elt Ideal))) a (Shape.Idx.first h_S_)).toInt = ((![k, 0, 0, 0] : Fin 4 → ℕ) a : Int) := by
  intro a; match a with
  | 0 => (show (W (Proc.devRef .tc main_v10_3) (Shape.Idx.first h_S_)).toInt = (k : Int); rw [hc]; exact iv_toInt k hk)
  | 1 => rfl
  | 2 => rfl
  | 3 => rfl

include hk hc in
/-- The chunk a trip reads. -/
theorem read_at (b : Fin 8) (j : Fin 4) (s : Fin 1024) :
    (res_main_while0b_v23 W : FVec Ideal S8x4x1024 .f32) (ix3 b j s) = (W (Proc.devRef .tc main_v10_0) : FVec Ideal S4096x8x4x1024 .f32) (ix4 ⟨k, hk⟩ b j s) := by
  have e := startAt W k hk hc
  unfold res_main_while0b_v23
  rw [WordCmp.dynamicSlice_eq_extract S1x8x4x1024 _ _ _ ![k, 0, 0, 0] (slabFits k hk) e]
  rw [← slab_at (W (Proc.devRef .tc main_v10_0)) k hk (slabFits k hk) 0 b j s]
  generalize (extractStridedSlice S1x8x4x1024 ![k, 0, 0, 0] (W (Proc.devRef .tc main_v10_0)) (slabFits k hk)) = U
  exact cast1_at U b j s _

variable (hr hi : FVec Ideal S8x4x512 .f32) (ar ai : FVec Ideal S4x512 .f32) (A0 x : FVec Ideal S4096x8x4x1024 .f32)
  (h0 : W (Proc.devRef .tc main_v10_0) = A0) (h1 : W (Proc.devRef .tc main_v10_1) = ar) (h2 : W (Proc.devRef .tc main_v10_2) = ai)
  (h4 : W (Proc.devRef .tc main_v10_4) = hr) (h5 : W (Proc.devRef .tc main_v10_5) = hi) (h6 : W (Proc.devRef .tc main_v10_6) = x)

include hk hc h0 h1 h2 h4 h5 in
/-- A trip's real parts. -/
theorem step4_at (b : Fin 8) (j : Fin 4) (s : Fin 512) :
    (step_main_v10_4 W : FVec Ideal S8x4x512 .f32) (ix3 b j s)
      = ar (ix2 j s) * hr (ix3 b j s) - ai (ix2 j s) * hi (ix3 b j s) + A0 (ix4 ⟨k, hk⟩ b j ⟨s.val, by omega⟩) := by
  have e := read_at W k hk hc b j ⟨s.val, by omega⟩
  rw [h0] at e
  rw [← e]
  unfold step_main_v10_4
  rw [h1, h2, h4, h5]
  exact stepRe (res_main_while0b_v23 W) hr hi ar ai b j s

include hk hc h0 h1 h2 h4 h5 in
/-- A trip's imaginary parts. -/
theorem step5_at (b : Fin 8) (j : Fin 4) (s : Fin 512) :
    (step_main_v10_5 W : FVec Ideal S8x4x512 .f32) (ix3 b j s)
      = ar (ix2 j s) * hi (ix3 b j s) + ai (ix2 j s) * hr (ix3 b j s) + A0 (ix4 ⟨k, hk⟩ b j ⟨512 + s.val, by omega⟩) := by
  have e := read_at W k hk hc b j ⟨512 + s.val, by omega⟩
  rw [h0] at e
  rw [← e]
  unfold step_main_v10_5
  rw [h1, h2, h4, h5]
  exact stepIm (res_main_while0b_v23 W) hr hi ar ai b j s

include hk hc h4 h5 h6 in
/-- A trip's stack: the states before it put at its chunk. -/
theorem step6_at (k' : Fin 4096) (b : Fin 8) (j : Fin 4) (s : Fin 1024) :
    (step_main_v10_6 W : FVec Ideal S4096x8x4x1024 .f32) (ix4 k' b j s)
      = if k'.val = k then (if h : s.val < 512 then hr (ix3 b j ⟨s.val, h⟩) else hi (ix3 b j ⟨s.val - 512, by omega⟩)) else x (ix4 k' b j s) := by
  have e := startAt W k hk hc
  rw [← both_at hr hi 0 b j s]
  unfold step_main_v10_6
  rw [h4, h5, h6]
  rw [WordCmp.dynamicUpdateSlice_eq_update _ _ _ _ ![k, 0, 0, 0] (slabFits k hk) e]
  exact put_at x _ k hk (slabFits k hk) k' b j s

end

section
variable (a0 : FVec Ideal S4x65536x128 .f32) (a1 : FVec Ideal S4x256x1024 .bf16) (a3 a4 : FVec Ideal S32x64 .f32) (V : Valuation τ sig (Elt Ideal))
  (h0 : V (Proc.devRef .tc main_v10_0) = buA a0 a1) (h1 : V (Proc.devRef .tc main_v10_1) = mA a3) (h2 : V (Proc.devRef .tc main_v10_2) = mA a4)
  (h3 : V (Proc.devRef .tc main_v10_3) = fun _ => (0#32 : BitVec 32))
  (h4 : ∀ (b : Fin 8) (j : Fin 4) (s : Fin 512), (V (Proc.devRef .tc main_v10_4) : FVec Ideal S8x4x512 .f32) (ix3 b j s) = (0 : EReal))
  (h5 : ∀ (b : Fin 8) (j : Fin 4) (s : Fin 512), (V (Proc.devRef .tc main_v10_5) : FVec Ideal S8x4x512 .f32) (ix3 b j s) = (0 : EReal))

include h0 h1 h2 h3 h4 h5 in
/-- The carried buffers before trip `k`: the counter, the recurrence's states and the stack of the states so far. -/
theorem loop_at (k : ℕ) : k ≤ 4096 →
    (STEP^[k] V) (Proc.devRef .tc main_v10_0) = buA a0 a1 ∧ (STEP^[k] V) (Proc.devRef .tc main_v10_1) = mA a3 ∧ (STEP^[k] V) (Proc.devRef .tc main_v10_2) = mA a4
      ∧ (STEP^[k] V) (Proc.devRef .tc main_v10_3) = (fun _ => Scf.iv 0#32 1#32 k)
      ∧ (∀ (b : Fin 8) (j : Fin 4) (s : Fin 512), ((STEP^[k] V) (Proc.devRef .tc main_v10_4) : FVec Ideal S8x4x512 .f32) (ix3 b j s) = (state a0 a1 a3 a4 b j s k).1)
      ∧ (∀ (b : Fin 8) (j : Fin 4) (s : Fin 512), ((STEP^[k] V) (Proc.devRef .tc main_v10_5) : FVec Ideal S8x4x512 .f32) (ix3 b j s) = (state a0 a1 a3 a4 b j s k).2)
      ∧ ∀ (k' : Fin 4096), k'.val < k → ∀ (b : Fin 8) (j : Fin 4) (s : Fin 1024), ((STEP^[k] V) (Proc.devRef .tc main_v10_6) : FVec Ideal S4096x8x4x1024 .f32) (ix4 k' b j s) = states a0 a1 a3 a4 k'.val b j s := by
  induction k with
  | zero =>
    intro _
    exact ⟨h0, h1, h2, h3.trans (by rw [Scf.iv_zero]), h4, h5, fun k' hk' => absurd hk' (Nat.not_lt_zero _)⟩
  | succ k ih =>
    intro hk
    obtain ⟨i0, i1, i2, i3, i4, i5, i6⟩ := ih (by omega)
    have hk' : k < 4096 := by omega
    rw [Function.iterate_succ_apply']
    generalize (STEP^[k] V) = W at i0 i1 i2 i3 i4 i5 i6 ⊢
    rw [STEP_main_v10_0, STEP_main_v10_1, STEP_main_v10_2, STEP_main_v10_3, STEP_main_v10_4, STEP_main_v10_5, STEP_main_v10_6]
    refine ⟨i0, i1, i2, ?_, fun b j s => ?_, fun b j s => ?_, fun k' hlt b j s => ?_⟩
    · unfold step_main_v10_3
      rw [i3, Scf.iv_succ]
      rfl
    · refine (step4_at W k hk' i3 _ _ _ _ _ i0 i1 i2 rfl rfl b j s).trans ?_
      rw [i4, i5, mA_at, mA_at, buA_at, state]
    · refine (step5_at W k hk' i3 _ _ _ _ _ i0 i1 i2 rfl rfl b j s).trans ?_
      rw [i4, i5, mA_at, mA_at, buA_at, state]
    · refine (step6_at W k hk' i3 _ _ _ rfl rfl rfl k' b j s).trans ?_
      by_cases e : k'.val = k
      · rw [if_pos e, e]
        unfold states
        by_cases hs : s.val < 512
        · rw [dif_pos hs, dif_pos hs, i4]
        · rw [dif_neg hs, dif_neg hs, i5]
      · rw [if_neg e]
        exact i6 k' (by omega) b j s

end

/-! ## The whole run -/

variable (m : (ℓ : Loc nD τ sig) → Buf (Elt Ideal) ℓ) (c : Dev nD)

/-- A buffer the loop does not write keeps its entry contents. -/
theorem atK_keep (r : Ref sig .tc) (hc : r ∉ condOps_W) (w0 : r ∉ while0Ops0_W) (w1 : r ∉ while0Ops0_1_W) (w2 : r ∉ while0Ops0_2_W) (w3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes w3, after_of_writes_sub while0Ops0_2 _ while0Ops0_2_writes w2,
      after_of_writes_sub while0Ops0_1 _ while0Ops0_1_writes w1, after_of_writes_sub while0Ops0 _ while0Ops0_writes w0,
      after_of_writes_sub condOps _ condOps_writes hc]
    exact atK_keep r hc w0 w1 w2 w3 k

/-- The same past the condition that ends the loop. -/
theorem end_keep (r : Ref sig .tc) (hc : r ∉ condOps_W) (w0 : r ∉ while0Ops0_W) (w1 : r ∉ while0Ops0_1_W) (w2 : r ∉ while0Ops0_2_W) (w3 : r ∉ while0Ops0_3_W) :
    after condOps (atTrip condOps bodyI (entryContents preI m) 4096 c) (Proc.devRef .tc r) = entryContents preI m c (Proc.devRef .tc r) :=
  (after_of_writes_sub condOps _ condOps_writes hc).trans (atK_keep m c r hc w0 w1 w2 w3 4096)

theorem entry0 : entryContents preI m c (Proc.devRef .tc main_v10_0) = buA (m ((c : Thread nD τ).loc main_arg0)) (m ((c : Thread nD τ).loc main_arg1)) := by
  simp only [entryContents, afterL_cons, afterL_nil]
  after_reads_simp
  rfl

theorem entry1 : entryContents preI m c (Proc.devRef .tc main_v10_1) = mA (m ((c : Thread nD τ).loc main_arg3)) := by
  simp only [entryContents, afterL_cons, afterL_nil]
  after_reads_simp
  rfl

theorem entry2 : entryContents preI m c (Proc.devRef .tc main_v10_2) = mA (m ((c : Thread nD τ).loc main_arg4)) := by
  simp only [entryContents, afterL_cons, afterL_nil]
  after_reads_simp
  rfl

/-- The cleared states. -/
theorem zeros_at (b : Fin 8) (j : Fin 4) (s : Fin 512) : (broadcastInDim S8x4x512 ![] bcast_S_S8x4x512 (constant S_ .f32 0x00000000#32 : FVec Ideal S_ .f32) : FVec Ideal S8x4x512 .f32) (ix3 b j s) = (0 : EReal) := by
  pointwise

theorem entry4 : entryContents preI m c (Proc.devRef .tc main_v10_4) = (broadcastInDim S8x4x512 ![] bcast_S_S8x4x512 (constant S_ .f32 0x00000000#32 : FVec Ideal S_ .f32) : FVec Ideal S8x4x512 .f32) := by
  simp only [entryContents, afterL_cons, afterL_nil]
  after_reads_simp
  rfl

theorem entry5 : entryContents preI m c (Proc.devRef .tc main_v10_5) = (broadcastInDim S8x4x512 ![] bcast_S_S8x4x512 (constant S_ .f32 0x00000000#32 : FVec Ideal S_ .f32) : FVec Ideal S8x4x512 .f32) := by
  simp only [entryContents, afterL_cons, afterL_nil]
  after_reads_simp
  rfl

theorem entryV : entryContents preI m c (Proc.devRef .tc main_v1) = vA (m ((c : Thread nD τ).loc main_arg0)) := by
  simp only [entryContents, afterL_cons, afterL_nil]
  after_reads_simp
  rfl

theorem entryVV : entryContents preI m c (Proc.devRef .tc main_v2) = vvA (m ((c : Thread nD τ).loc main_arg0)) := by
  simp only [entryContents, afterL_cons, afterL_nil]
  after_reads_simp
  rfl

/-- An argument is as it was at the loop's entry. -/
theorem entryArg (r : Ref sig .tc) (h : r ∉ hostOps0_W) : entryContents preI m c (Proc.devRef .tc r) = m ((c : Thread nD τ).loc r) := by
  simp only [entryContents, afterL_cons, afterL_nil]
  exact after_of_writes_sub hostOps0 _ hostOps0_writes h

/-- The stack of the states after the loop. -/
theorem stack_at (k : Fin 4096) (b : Fin 8) (j : Fin 4) (s : Fin 1024) :
    (after condOps (atTrip condOps bodyI (entryContents preI m) 4096 c) (Proc.devRef .tc main_v10_6) : FVec Ideal S4096x8x4x1024 .f32) (ix4 k b j s)
      = states (m ((c : Thread nD τ).loc main_arg0)) (m ((c : Thread nD τ).loc main_arg1)) (m ((c : Thread nD τ).loc main_arg3)) (m ((c : Thread nD τ).loc main_arg4)) k.val b j s := by
  have e := (after_of_writes_sub condOps (atTrip condOps bodyI (entryContents preI m) 4096 c) condOps_writes (r := main_v10_6) (by decide)).trans (atK_agree m c 4096 main_v10_6 (by decide))
  refine (congrFun e (ix4 k b j s)).trans ?_
  exact (loop_at _ _ _ _ (entryContents preI m c) (entry0 m c) (entry1 m c) (entry2 m c) (ctr_entry m c)
    (fun b j s => (congrFun (entry4 m c) (ix3 b j s)).trans (zeros_at b j s)) (fun b j s => (congrFun (entry5 m c) (ix3 b j s)).trans (zeros_at b j s)) 4096 (le_refl _)).2.2.2.2.2.2 k k.isLt b j s

/-- The result of the operations after the loop. -/
theorem post_at (X : Valuation τ sig (Elt Ideal)) (a0 : FVec Ideal S4x65536x128 .f32) (hv : X (Proc.devRef .tc main_v1) = vA a0) (hvv : X (Proc.devRef .tc main_v2) = vvA a0) :
    afterL postI X (Proc.devRef .tc main_v22) = outA a0 (X (Proc.devRef .tc main_arg2)) (X (Proc.devRef .tc main_arg5)) (X (Proc.devRef .tc main_v10_6)) := by
  simp only [afterL_cons, afterL_nil]
  after_reads_simp
  unfold outA
  rw [← hv, ← hvv]
  rfl

/-- The result buffer at the fold. -/
theorem fold_out : finalContents condOps preI bodyI postI 4096 m c (Proc.devRef .tc main_v22)
    = scanOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hs := stack_at m c
  have e1 := (end_keep m c main_v1 (by decide) (by decide) (by decide) (by decide) (by decide)).trans (entryV m c)
  have e2 := (end_keep m c main_v2 (by decide) (by decide) (by decide) (by decide) (by decide)).trans (entryVV m c)
  have e3 := (end_keep m c main_arg2 (by decide) (by decide) (by decide) (by decide) (by decide)).trans (entryArg m c main_arg2 (by decide))
  have e4 := (end_keep m c main_arg5 (by decide) (by decide) (by decide) (by decide) (by decide)).trans (entryArg m c main_arg5 (by decide))
  show afterL postI (after condOps (atTrip condOps bodyI (entryContents preI m) 4096 c)) (Proc.devRef .tc main_v22) = _
  generalize after condOps (atTrip condOps bodyI (entryContents preI m) 4096 c) = X at hs e1 e2 e3 e4 ⊢
  rw [post_at X _ e1 e2, e3, e4]
  funext y
  have hy : y = ix3 (y 0) (y 1) (y 2) := by
    funext a
    match a with
    | 0 => rfl
    | 1 => rfl
    | 2 => rfl
  rw [hy]
  exact outA_at _ _ _ _ _ _ _ hs (y 0) (y 1) (y 2)

/-- The buffers the operations after the loop write. -/
abbrev postW : List (Ref sig .tc) := [main_v11, main_v12, main_v13, main_v14, main_v15, main_v16, main_v17, main_v18, main_v19, main_v20, main_v21, main_v22]

theorem post_writes : (hostOps0_1 : List (HloOp τ sig (Elt Ideal))).Forall fun op => op.writes ⊆ (postW.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))

/-- An argument at the fold. -/
theorem fold_arg (r : Ref sig .tc) (hc : r ∉ condOps_W) (w0 : r ∉ while0Ops0_W) (w1 : r ∉ while0Ops0_1_W) (w2 : r ∉ while0Ops0_2_W) (w3 : r ∉ while0Ops0_3_W)
    (h : r ∉ hostOps0_W) (h' : r ∉ postW) : finalContents condOps preI bodyI postI 4096 m c (Proc.devRef .tc r) = m ((c : Thread nD τ).loc r) := by
  show afterL postI (after condOps (atTrip condOps bodyI (entryContents preI m) 4096 c)) (Proc.devRef .tc r) = _
  simp only [afterL_cons, afterL_nil]
  rw [after_of_writes_sub hostOps0_1 _ post_writes h']
  exact (end_keep m c r hc w0 w1 w2 w3).trans (entryArg m c r h)

/-- The run: the result at the recurrence's function of the arguments, the arguments unchanged. -/
theorem run_at (ρ : Dev nD → PrngReg) : θ_run (defs (F := Ideal)) (onTc (τ := τ) (main (F := Ideal))) ⟨m, fun _ => 0, ρ⟩ fun r => ∀ c : Dev nD,
      r.2.mem ((c.tc : Thread nD τ).loc main_v22) = scanOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c =>
    ⟨(h c main_v22 rfl).trans (fold_out m c),
      (h c main_arg0 rfl).trans (fold_arg m c main_arg0 (by decide) (by decide) (by decide) (by decide) (by decide) (by decide) (by decide)),
      (h c main_arg1 rfl).trans (fold_arg m c main_arg1 (by decide) (by decide) (by decide) (by decide) (by decide) (by decide) (by decide)),
      (h c main_arg2 rfl).trans (fold_arg m c main_arg2 (by decide) (by decide) (by decide) (by decide) (by decide) (by decide) (by decide)),
      (h c main_arg3 rfl).trans (fold_arg m c main_arg3 (by decide) (by decide) (by decide) (by decide) (by decide) (by decide) (by decide)),
      (h c main_arg4 rfl).trans (fold_arg m c main_arg4 (by decide) (by decide) (by decide) (by decide) (by decide) (by decide) (by decide)),
      (h c main_arg5 rfl).trans (fold_arg m c main_arg5 (by decide) (by decide) (by decide) (by decide) (by decide) (by decide) (by decide))⟩)
    (run_fold m ρ)

end Cert.ScanRefIdeal.Value
-- ==== Proof.ScanClaims.lean ====
module

public import proofs.«01_k».proof.Defs
public import proofs.«01_k».proof.Proof.Gen.Scan
public import proofs.«01_k».proof.Proof.ScanFrame
public import proofs.«01_k».proof.Proof.ScanValue
public import proofs.«01_k».proof.Proof.ScanRefRow
public import Idealize.ShloMosaic.Lib.Quiescent

/-! # The claims about the layer's recurrence -/

@[expose] public section

noncomputable section

namespace Cert.Proof.ScanClaims

open Idealize.ShloMosaic Idealize.SL.Sem

section
open Cert.ScanIdeal

/-- The frame claim of the idealized kernel's text at any reading of the floats. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The kernel as printed and the idealized kernel have the same text, so their frame claims are one at the two readings. -/
theorem frame_text : Cert.quiescent_Scan (hScan := Cert.Scan.Gen.facts) = FrameAt Bits := by sl_kernel_rfl

end

/-- The kernel as printed runs, keeps its arguments and leaves every counter at zero. -/
theorem frame_p : Cert.quiescent_Scan (hScan := Cert.Scan.Gen.facts) := by
  rw [frame_text]
  exact fun m ρ _ => Cert.ScanIdeal.Gen.frame m ρ

/-- The idealized kernel does too. -/
theorem frame_pi : Cert.quiescent_ScanIdeal := fun m ρ _ => Cert.ScanIdeal.Gen.frame m ρ

/-- The reference runs and keeps its arguments. -/
theorem frame_ri : Cert.quiescent_ScanRefIdeal := fun m ρ _ =>
  (θ_run Cert.ScanRefIdeal.defs _ _).mono (fun r h => ⟨fun c => (h c).2,
      Idealize.ShloMosaic.sem_eq_zero_of_no_sems (by decide) r.2⟩)
    (Cert.ScanRefIdeal.Value.run_at m ρ)

/-- No constant is named, so there is nothing to preserve. -/
theorem preserves : Cert.preserves_Scan_ScanIdeal := trivial

/-- Over the extended reals the kernel's result is the reference's. -/
theorem algebraic : Cert.algebraic_ScanIdeal_ScanRefIdeal := by
  intro m ρ m' ρ' _ hagree
  refine ⟨_, Cert.ScanIdeal.Value.run m ρ, ?_⟩
  refine (θ_run Cert.ScanRefIdeal.defs _ _).mono (fun _ h c => ?_) (Cert.ScanRefIdeal.Value.run_at m' ρ')
  obtain ⟨e0, e1, e2, e3, e4, e5⟩ := hagree c
  refine ⟨(h c).1.trans ?_, (h c).2⟩
  rw [e0, e1, e2, e3, e4, e5]

end Cert.Proof.ScanClaims
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Pre_y_ssm_above_neg_inf
public import proofs.«01_k».proof.Proof.Gen.MlpIdeal.Value
public import proofs.«01_k».proof.Proof.Gen.MlpRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.Scan
public import proofs.«01_k».proof.Proof.Gen.ScanIdeal
public import proofs.«01_k».proof.Proof.Gen.ScanRefIdeal
public import proofs.«01_k».proof.Proof.MlpClaims
public import proofs.«01_k».proof.Proof.InprojClaims
public import proofs.«01_k».proof.Proof.ScanClaims
public import Idealize.ShloMosaic.Adequacy
public import Idealize.ShloMosaic.Init

@[expose] public section

noncomputable section

namespace Cert.Proof

open Idealize.ShloMosaic Idealize.SL.Sem Cert.Mlp

/-- Every claim made of the three calls. -/
theorem claim : Cert.Claim := ⟨Cert.Mlp.Gen.facts, Cert.MlpIdeal.Gen.facts, Cert.MlpRefIdeal.Gen.facts,
  Cert.Inproj.Gen.facts, Cert.InprojIdeal.Gen.facts, Cert.InprojRefIdeal.Gen.facts,
  Cert.Scan.Gen.facts, Cert.ScanIdeal.Gen.facts, Cert.ScanRefIdeal.Gen.facts, Cert.Pre_y_ssm_above_neg_inf.Gen.facts,
  MlpClaims.frame_p, MlpClaims.frame_pi, MlpClaims.frame_pi_pre, MlpClaims.frame_ri, MlpClaims.frame_ri_pre,
  InprojClaims.frame_p, InprojClaims.frame_pi, InprojClaims.frame_ri,
  ScanClaims.frame_p, ScanClaims.frame_pi, ScanClaims.frame_ri,
  MlpClaims.preserves, MlpClaims.algebraic, InprojClaims.preserves, InprojClaims.algebraic,
  ScanClaims.preserves, ScanClaims.algebraic⟩

end Cert.Proof

end
